-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  IdealRules.named_const.Statement Cert.KernelIdeal.κ "below" .f32 0xFF61B1E6#32 ⊥
  ∧ IdealRules.named_const.Statement Cert.KernelIdeal.κ "above" .f32 0x7F61B1E6#32 ⊤

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v13)) (v1 : (c : Dev Cert.KernelIdeal.nD) → Buf (Elt Ideal) ((c.tc : Thread Cert.KernelIdeal.nD Cert.KernelIdeal.τ).loc Cert.KernelIdeal.main_v11)) (v2 : (c : Dev Cert.KernelIdeal.nD) → Buf (Elt Ideal) ((c.tc : Thread Cert.KernelIdeal.nD Cert.KernelIdeal.τ).loc Cert.KernelIdeal.main_v15)) (v3 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_v11) = v1 c
          ∧ r.2.mem ((c.tc : Thread Cert.KernelIdeal.nD Cert.KernelIdeal.τ).loc Cert.KernelIdeal.main_v15) = v2 c
          ∧ r.2.mem ((c.tc : Thread Cert.KernelIdeal.nD Cert.KernelIdeal.τ).loc Cert.KernelIdeal.main_v17) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v142) = v0 c
          ∧ r.2.mem ((c.tc : Thread Cert.ReferenceIdeal.nD Cert.ReferenceIdeal.τ).loc Cert.ReferenceIdeal.main_v26) = v1 c
          ∧ r.2.mem ((c.tc : Thread Cert.ReferenceIdeal.nD Cert.ReferenceIdeal.τ).loc Cert.ReferenceIdeal.main_v27) = v2 c
          ∧ r.2.mem ((c.tc : Thread Cert.ReferenceIdeal.nD Cert.ReferenceIdeal.τ).loc Cert.ReferenceIdeal.main_v28) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S1x100000x3 : Shape := ⟨3, ![1, 100000, 3]⟩
abbrev S1x100000x10 : Shape := ⟨3, ![1, 100000, 10]⟩
abbrev S3x128 : Shape := ⟨2, ![3, 128]⟩
abbrev S128 : Shape := ⟨1, ![128]⟩
abbrev S128x128 : Shape := ⟨2, ![128, 128]⟩
abbrev S128x4 : Shape := ⟨2, ![128, 4]⟩
abbrev S4 : Shape := ⟨1, ![4]⟩
abbrev S_ : Shape := ⟨0, ![]⟩

class Facts : Prop where
  bcast_S_S1x100000x10 : S_.BroadcastsInDim S1x100000x10 (![] : Fin 0 → Fin S1x100000x10.rank)
  reducesTo_S1x100000x10_S_d0_1_2 : S1x100000x10.ReducesTo [0, 1, 2] S_
  h_S_ : 0 < S_.numel

variable [Facts]

def fn {F : FTy → Type} [FloatOps F] (main_arg0 : FVec F S1x100000x3 .f32) (main_arg1 : FVec F S1x100000x10 .f32) (main_arg2 : FVec F S3x128 .f32) (main_arg3 : FVec F S128 .f32) (main_arg4 : FVec F S128x128 .f32) (main_arg5 : FVec F S128 .f32) (main_arg6 : FVec F S128x4 .f32) (main_arg7 : FVec F S4 .f32) : IVec S_ 1 :=
  let main_v0 : FVec F S1x100000x10 .f32 := Host.absf main_arg1
  let main_cst : FVec F S_ .f32 := constant S_ .f32 0x7F800000#32
  let main_v1 : FVec F S1x100000x10 .f32 := broadcastInDim S1x100000x10 ![] bcast_S_S1x100000x10 main_cst
  let main_v2 : IVec S1x100000x10 1 := cmpf .olt main_v0 main_v1
  let main_c : IVec S_ 1 := constantI S_ 1 1#1
  let main_v3 : IVec S_ 1 := (fun x v => Host.reduce IntOp.andi x v reducesTo_S1x100000x10_S_d0_1_2 h_S_) main_v2 main_c
  main_v3
-- ==== Kernel.lean ====
abbrev S1x100000x3 : Shape := ⟨3, ![1, 100000, 3]⟩
abbrev S1x100000x10 : Shape := ⟨3, ![1, 100000, 10]⟩
abbrev S3x128 : Shape := ⟨2, ![3, 128]⟩
abbrev S128 : Shape := ⟨1, ![128]⟩
abbrev S128x128 : Shape := ⟨2, ![128, 128]⟩
abbrev S128x4 : Shape := ⟨2, ![128, 4]⟩
abbrev S4 : Shape := ⟨1, ![4]⟩
abbrev S25x4000x3 : Shape := ⟨3, ![25, 4000, 3]⟩
abbrev S25x3x4000 : Shape := ⟨3, ![25, 3, 4000]⟩
abbrev S25x4000x10 : Shape := ⟨3, ![25, 4000, 10]⟩
abbrev S25x10x4000 : Shape := ⟨3, ![25, 10, 4000]⟩
abbrev S128x3 : Shape := ⟨2, ![128, 3]⟩
abbrev S4x128 : Shape := ⟨2, ![4, 128]⟩
abbrev S25x8x4000 : Shape := ⟨3, ![25, 8, 4000]⟩
abbrev S1x3x4000 : Shape := ⟨3, ![1, 3, 4000]⟩
abbrev S1x10x4000 : Shape := ⟨3, ![1, 10, 4000]⟩
abbrev S1x8x4000 : Shape := ⟨3, ![1, 8, 4000]⟩
abbrev S3x4000 : Shape := ⟨2, ![3, 4000]⟩
abbrev S10x4000 : Shape := ⟨2, ![10, 4000]⟩
abbrev S128x4000 : Shape := ⟨2, ![128, 4000]⟩
abbrev S128x1 : Shape := ⟨2, ![128, 1]⟩
abbrev S4x4000 : Shape := ⟨2, ![4, 4000]⟩
abbrev S4x1 : Shape := ⟨2, ![4, 1]⟩
abbrev S4000 : Shape := ⟨1, ![4000]⟩
abbrev S1x4000 : Shape := ⟨2, ![1, 4000]⟩
abbrev S8x4000 : Shape := ⟨2, ![8, 4000]⟩
abbrev S32x10x3x16 : Shape := ⟨4, ![32, 10, 3, 16]⟩
abbrev S10x3x16 : Shape := ⟨3, ![10, 3, 16]⟩
abbrev S16 : Shape := ⟨1, ![16]⟩
abbrev S1x1x16 : Shape := ⟨3, ![1, 1, 16]⟩
abbrev S_ : Shape := ⟨0, ![]⟩
abbrev S1x16 : Shape := ⟨2, ![1, 16]⟩
abbrev S1x10x3x16 : Shape := ⟨4, ![1, 10, 3, 16]⟩
abbrev S25x1x4000 : Shape := ⟨3, ![25, 1, 4000]⟩
abbrev S1x1x4000 : Shape := ⟨3, ![1, 1, 4000]⟩
abbrev S10x3 : Shape := ⟨2, ![10, 3]⟩
abbrev S1x1 : Shape := ⟨2, ![1, 1]⟩
abbrev S25x4000x1 : Shape := ⟨3, ![25, 4000, 1]⟩
abbrev S1x100000x1 : Shape := ⟨3, ![1, 100000, 1]⟩

abbrev nBuf : Table → Nat
  | .hbm => 30
  | .local .tc .vmem => 26
  | .local .scVector .vmem => 3
  | _ => 0

abbrev bufTy : (tb : Table) → Fin (nBuf tb) → BufTy
  | .hbm, ⟨0, _⟩ => ⟨S1x100000x3, .f32⟩
  | .hbm, ⟨1, _⟩ => ⟨S1x100000x10, .f32⟩
  | .hbm, ⟨2, _⟩ => ⟨S3x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x4, .f32⟩
  | .hbm, ⟨7, _⟩ => ⟨S4, .f32⟩
  | .hbm, ⟨8, _⟩ => ⟨S25x4000x3, .f32⟩
  | .hbm, ⟨9, _⟩ => ⟨S25x3x4000, .f32⟩
  | .hbm, ⟨10, _⟩ => ⟨S25x4000x10, .f32⟩
  | .hbm, ⟨11, _⟩ => ⟨S25x10x4000, .f32⟩
  | .hbm, ⟨12, _⟩ => ⟨S128x3, .f32⟩
  | .hbm, ⟨13, _⟩ => ⟨S128x128, .f32⟩
  | .hbm, ⟨14, _⟩ => ⟨S4x128, .f32⟩
  | .hbm, ⟨15, _⟩ => ⟨S25x10x4000, .f32⟩
  | .hbm, ⟨16, _⟩ => ⟨S25x8x4000, .f32⟩
  | .hbm, ⟨17, _⟩ => ⟨S32x10x3x16, .f32⟩
  | .hbm, ⟨18, _⟩ => ⟨S32x10x3x16, .f32⟩
  | .hbm, ⟨19, _⟩ => ⟨S25x3x4000, .f32⟩
  | .hbm, ⟨20, _⟩ => ⟨S25x3x4000, .f32⟩
  | .hbm, ⟨21, _⟩ => ⟨S25x1x4000, .f32⟩
  | .hbm, ⟨22, _⟩ => ⟨S25x4000x10, .f32⟩
  | .hbm, ⟨23, _⟩ => ⟨S1x100000x10, .f32⟩
  | .hbm, ⟨24, _⟩ => ⟨S25x4000x3, .f32⟩
  | .hbm, ⟨25, _⟩ => ⟨S1x100000x3, .f32⟩
  | .hbm, ⟨26, _⟩ => ⟨S25x4000x3, .f32⟩
  | .hbm, ⟨27, _⟩ => ⟨S1x100000x3, .f32⟩
  | .hbm, ⟨28, _⟩ => ⟨S25x4000x1, .f32⟩
  | .hbm, ⟨29, _⟩ => ⟨S1x100000x1, .f32⟩
  | .local .tc .vmem, ⟨0, _⟩ => ⟨S1x3x4000, .f32⟩
  | .local .tc .vmem, ⟨1, _⟩ => ⟨S1x3x4000, .f32⟩
  | .local .tc .vmem, ⟨2, _⟩ => ⟨S1x10x4000, .f32⟩
  | .local .tc .vmem, ⟨3, _⟩ => ⟨S1x10x4000, .f32⟩
  | .local .tc .vmem, ⟨4, _⟩ => ⟨S128x3, .f32⟩
  | .local .tc .vmem, ⟨5, _⟩ => ⟨S128, .f32⟩
  | .local .tc .vmem, ⟨6, _⟩ => ⟨S128x128, .f32⟩
  | .local .tc .vmem, ⟨7, _⟩ => ⟨S128, .f32⟩
  | .local .tc .vmem, ⟨8, _⟩ => ⟨S4x128, .f32⟩
  | .local .tc .vmem, ⟨9, _⟩ => ⟨S4, .f32⟩
  | .local .tc .vmem, ⟨10, _⟩ => ⟨S1x10x4000, .f32⟩
  | .local .tc .vmem, ⟨11, _⟩ => ⟨S1x10x4000, .f32⟩
  | .local .tc .vmem, ⟨12, _⟩ => ⟨S1x8x4000, .f32⟩
  | .local .tc .vmem, ⟨13, _⟩ => ⟨S1x8x4000, .f32⟩
  | .local .tc .vmem, ⟨14, _⟩ => ⟨S1x8x4000, .f32⟩
  | .local .tc .vmem, ⟨15, _⟩ => ⟨S1x8x4000, .f32⟩
  | .local .tc .vmem, ⟨16, _⟩ => ⟨S32x10x3x16, .f32⟩
  | .local .tc .vmem, ⟨17, _⟩ => ⟨S32x10x3x16, .f32⟩
  | .local .tc .vmem, ⟨18, _⟩ => ⟨S1x3x4000, .f32⟩
  | .local .tc .vmem, ⟨19, _⟩ => ⟨S1x3x4000, .f32⟩
  | .local .tc .vmem, ⟨20, _⟩ => ⟨S1x3x4000, .f32⟩
  | .local .tc .vmem, ⟨21, _⟩ => ⟨S1x3x4000, .f32⟩
  | .local .tc .vmem, ⟨22, _⟩ => ⟨S1x1x4000, .f32⟩
  | .local .tc .vmem, ⟨23, _⟩ => ⟨S1x1x4000, .f32⟩
  | .local .tc .vmem, ⟨24, _⟩ => ⟨S10x3, .f32⟩
  | .local .tc .vmem, ⟨25, _⟩ => ⟨S10x3, .f32⟩
  | .local .scVector .vmem, ⟨0, _⟩ => ⟨S8x4000, .f32⟩
  | .local .scVector .vmem, ⟨1, _⟩ => ⟨S10x3x16, .f32⟩
  | .local .scVector .vmem, ⟨2, _⟩ => ⟨S10x3x16, .f32⟩
  | _, _ => ⟨S1x100000x3, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => false
  | ⟨15, _⟩ => false
  | ⟨16, _⟩ => false
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTables nBuf rfl bufTy 4 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7_0 : Ref sig .tc := ⟨.hbm, 15, rfl⟩
abbrev main_v7_1 : Ref sig .tc := ⟨.hbm, 16, rfl⟩
abbrev main_v8_0 : Ref sig .tc := ⟨.hbm, 17, rfl⟩
abbrev main_v8_1 : Ref sig .tc := ⟨.hbm, 18, rfl⟩
abbrev main_v9_0 : Ref sig .tc := ⟨.hbm, 19, rfl⟩
abbrev main_v9_1 : Ref sig .tc := ⟨.hbm, 20, rfl⟩
abbrev main_v9_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v7_1_scv : Ref sig .scVector := ⟨.hbm, 16, rfl⟩
abbrev main_v8_0_scv : Ref sig .scVector := ⟨.hbm, 17, rfl⟩
abbrev main_v8_1_scv : Ref sig .scVector := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg3_1 : Ref sig .tc := ⟨.vmem, 19, rfl⟩
abbrev cc2_stg4_0 : Ref sig .tc := ⟨.vmem, 20, rfl⟩
abbrev cc2_stg4_1 : Ref sig .tc := ⟨.vmem, 21, rfl⟩
abbrev cc2_stg5_0 : Ref sig .tc := ⟨.vmem, 22, rfl⟩
abbrev cc2_stg5_1 : Ref sig .tc := ⟨.vmem, 23, rfl⟩
abbrev cc2_scratch0 : Ref sig .tc := ⟨.vmem, 24, rfl⟩
abbrev cc2_scratch1 : Ref sig .tc := ⟨.vmem, 25, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc2_sem0_0 : DmaSem sig := 17
abbrev cc2_sem0_1 : DmaSem sig := 18
abbrev cc2_sem1_0 : DmaSem sig := 19
abbrev cc2_sem2_0 : DmaSem sig := 20
abbrev cc2_sem3_0 : DmaSem sig := 21
abbrev cc2_sem3_1 : DmaSem sig := 22
abbrev cc2_sem4_0 : DmaSem sig := 23
abbrev cc2_sem4_1 : DmaSem sig := 24
abbrev cc2_sem5_0 : DmaSem sig := 25
abbrev cc2_sem5_1 : DmaSem sig := 26
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![25], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x3x4000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x10x4000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x3 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x10x4000 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x8x4000 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨2, ![2, 16], ![false, false]⟩

def k1_cond1 (i : grid1.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25_i32 : BitVec 32 := 25#32
  let v362 : BitVec 1 := Scalar.cmpi .slt v1 c25_i32
  let v363 : BitVec 32 := Scalar.extui v362
  let c0_i32_229 : BitVec 32 := 0#32
  let v364 : BitVec 1 := Scalar.cmpi .ne v363 c0_i32_229
  v364

def k1_off1 (i : grid1.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_439_r0 : BitVec 32 := 0#32
  let c0_i32_440_r0 : BitVec 32 := 0#32
  ![v1.toNat, 0, 0]
@[reducible] def k1_t1_loop : Scf.Loop 32 :=
  let c0_i32_232 : BitVec 32 := 0#32
  let c250_i32 : BitVec 32 := 250#32
  let v367 : BitVec 32 := Scalar.addi c0_i32_232 c250_i32
  let c1_i32_233 : BitVec 32 := 1#32
  ⟨c0_i32_232, v367, c1_i32_233⟩
def k1_off2 (k1_t1 : Fin k1_t1_loop.trips) : Fin 2 → Nat :=
  let c4_i32_439 : BitVec 32 := 4#32
  let v686 : Index := Scalar.indexCast c4_i32_439
  let c0_i32_232 : BitVec 32 := 0#32
  let c1_i32_233 : BitVec 32 := 1#32
  let arg8 : BitVec 32 := Scf.iv c0_i32_232 c1_i32_233 k1_t1
  let c16_i32 : BitVec 32 := 16#32
  let v685 : BitVec 32 := Scalar.muli arg8 c16_i32
  let v687 : Index := Scalar.indexCast v685
  ![4, v687.toNat]
def k1_off3 (k1_t1 : Fin k1_t1_loop.trips) : Fin 2 → Nat :=
  let c5_i32_440 : BitVec 32 := 5#32
  let v690 : Index := Scalar.indexCast c5_i32_440
  let c0_i32_232 : BitVec 32 := 0#32
  let c1_i32_233 : BitVec 32 := 1#32
  let arg8 : BitVec 32 := Scf.iv c0_i32_232 c1_i32_233 k1_t1
  let c16_i32 : BitVec 32 := 16#32
  let v685 : BitVec 32 := Scalar.muli arg8 c16_i32
  let v691 : Index := Scalar.indexCast v685
  ![5, v691.toNat]
def k1_off4 (k1_t1 : Fin k1_t1_loop.trips) : Fin 2 → Nat :=
  let c6_i32_441 : BitVec 32 := 6#32
  let v694 : Index := Scalar.indexCast c6_i32_441
  let c0_i32_232 : BitVec 32 := 0#32
  let c1_i32_233 : BitVec 32 := 1#32
  let arg8 : BitVec 32 := Scf.iv c0_i32_232 c1_i32_233 k1_t1
  let c16_i32 : BitVec 32 := 16#32
  let v685 : BitVec 32 := Scalar.muli arg8 c16_i32
  let v695 : Index := Scalar.indexCast v685
  ![6, v695.toNat]
def k1_off5 (k1_t1 : Fin k1_t1_loop.trips) : Fin 2 → Nat :=
  let c7_i32_442 : BitVec 32 := 7#32
  let v698 : Index := Scalar.indexCast c7_i32_442
  let c0_i32_232 : BitVec 32 := 0#32
  let c1_i32_233 : BitVec 32 := 1#32
  let arg8 : BitVec 32 := Scf.iv c0_i32_232 c1_i32_233 k1_t1
  let c16_i32 : BitVec 32 := 16#32
  let v685 : BitVec 32 := Scalar.muli arg8 c16_i32
  let v699 : Index := Scalar.indexCast v685
  ![7, v699.toNat]
@[reducible] def k1_t2_loop : Scf.Loop 32 :=
  let c0_i32_273 : BitVec 32 := 0#32
  let c250_i32_274 : BitVec 32 := 250#32
  let v431 : BitVec 32 := Scalar.addi c0_i32_273 c250_i32_274
  let c1_i32_275 : BitVec 32 := 1#32
  ⟨c0_i32_273, v431, c1_i32_275⟩
def k1_off6 (k1_t2 : Fin k1_t2_loop.trips) : Fin 2 → Nat :=
  let c4_i32_439 : BitVec 32 := 4#32
  let v686 : Index := Scalar.indexCast c4_i32_439
  let c0_i32_273 : BitVec 32 := 0#32
  let c1_i32_275 : BitVec 32 := 1#32
  let arg8 : BitVec 32 := Scf.iv c0_i32_273 c1_i32_275 k1_t2
  let c16_i32 : BitVec 32 := 16#32
  let v685 : BitVec 32 := Scalar.muli arg8 c16_i32
  let v687 : Index := Scalar.indexCast v685
  ![4, v687.toNat]
def k1_off7 (k1_t2 : Fin k1_t2_loop.trips) : Fin 2 → Nat :=
  let c5_i32_440 : BitVec 32 := 5#32
  let v690 : Index := Scalar.indexCast c5_i32_440
  let c0_i32_273 : BitVec 32 := 0#32
  let c1_i32_275 : BitVec 32 := 1#32
  let arg8 : BitVec 32 := Scf.iv c0_i32_273 c1_i32_275 k1_t2
  let c16_i32 : BitVec 32 := 16#32
  let v685 : BitVec 32 := Scalar.muli arg8 c16_i32
  let v691 : Index := Scalar.indexCast v685
  ![5, v691.toNat]
def k1_off8 (k1_t2 : Fin k1_t2_loop.trips) : Fin 2 → Nat :=
  let c6_i32_441 : BitVec 32 := 6#32
  let v694 : Index := Scalar.indexCast c6_i32_441
  let c0_i32_273 : BitVec 32 := 0#32
  let c1_i32_275 : BitVec 32 := 1#32
  let arg8 : BitVec 32 := Scf.iv c0_i32_273 c1_i32_275 k1_t2
  let c16_i32 : BitVec 32 := 16#32
  let v685 : BitVec 32 := Scalar.muli arg8 c16_i32
  let v695 : Index := Scalar.indexCast v685
  ![6, v695.toNat]
def k1_off9 (k1_t2 : Fin k1_t2_loop.trips) : Fin 2 → Nat :=
  let c7_i32_442 : BitVec 32 := 7#32
  let v698 : Index := Scalar.indexCast c7_i32_442
  let c0_i32_273 : BitVec 32 := 0#32
  let c1_i32_275 : BitVec 32 := 1#32
  let arg8 : BitVec 32 := Scf.iv c0_i32_273 c1_i32_275 k1_t2
  let c16_i32 : BitVec 32 := 16#32
  let v685 : BitVec 32 := Scalar.muli arg8 c16_i32
  let v699 : Index := Scalar.indexCast v685
  ![7, v699.toNat]
@[reducible] def k1_t3_loop : Scf.Loop 32 :=
  let c0_i32_315 : BitVec 32 := 0#32
  let c250_i32_316 : BitVec 32 := 250#32
  let v495 : BitVec 32 := Scalar.addi c0_i32_315 c250_i32_316
  let c1_i32_317 : BitVec 32 := 1#32
  ⟨c0_i32_315, v495, c1_i32_317⟩
def k1_off10 (k1_t3 : Fin k1_t3_loop.trips) : Fin 2 → Nat :=
  let c4_i32_439 : BitVec 32 := 4#32
  let v686 : Index := Scalar.indexCast c4_i32_439
  let c0_i32_315 : BitVec 32 := 0#32
  let c1_i32_317 : BitVec 32 := 1#32
  let arg8 : BitVec 32 := Scf.iv c0_i32_315 c1_i32_317 k1_t3
  let c16_i32 : BitVec 32 := 16#32
  let v685 : BitVec 32 := Scalar.muli arg8 c16_i32
  let v687 : Index := Scalar.indexCast v685
  ![4, v687.toNat]
def k1_off11 (k1_t3 : Fin k1_t3_loop.trips) : Fin 2 → Nat :=
  let c5_i32_440 : BitVec 32 := 5#32
  let v690 : Index := Scalar.indexCast c5_i32_440
  let c0_i32_315 : BitVec 32 := 0#32
  let c1_i32_317 : BitVec 32 := 1#32
  let arg8 : BitVec 32 := Scf.iv c0_i32_315 c1_i32_317 k1_t3
  let c16_i32 : BitVec 32 := 16#32
  let v685 : BitVec 32 := Scalar.muli arg8 c16_i32
  let v691 : Index := Scalar.indexCast v685
  ![5, v691.toNat]
def k1_off12 (k1_t3 : Fin k1_t3_loop.trips) : Fin 2 → Nat :=
  let c6_i32_441 : BitVec 32 := 6#32
  let v694 : Index := Scalar.indexCast c6_i32_441
  let c0_i32_315 : BitVec 32 := 0#32
  let c1_i32_317 : BitVec 32 := 1#32
  let arg8 : BitVec 32 := Scf.iv c0_i32_315 c1_i32_317 k1_t3
  let c16_i32 : BitVec 32 := 16#32
  let v685 : BitVec 32 := Scalar.muli arg8 c16_i32
  let v695 : Index := Scalar.indexCast v685
  ![6, v695.toNat]
def k1_off13 (k1_t3 : Fin k1_t3_loop.trips) : Fin 2 → Nat :=
  let c7_i32_442 : BitVec 32 := 7#32
  let v698 : Index := Scalar.indexCast c7_i32_442
  let c0_i32_315 : BitVec 32 := 0#32
  let c1_i32_317 : BitVec 32 := 1#32
  let arg8 : BitVec 32 := Scf.iv c0_i32_315 c1_i32_317 k1_t3
  let c16_i32 : BitVec 32 := 16#32
  let v685 : BitVec 32 := Scalar.muli arg8 c16_i32
  let v699 : Index := Scalar.indexCast v685
  ![7, v699.toNat]
@[reducible] def k1_t4_loop : Scf.Loop 32 :=
  let c0_i32_357 : BitVec 32 := 0#32
  let c250_i32_358 : BitVec 32 := 250#32
  let v559 : BitVec 32 := Scalar.addi c0_i32_357 c250_i32_358
  let c1_i32_359 : BitVec 32 := 1#32
  ⟨c0_i32_357, v559, c1_i32_359⟩
def k1_off14 (k1_t4 : Fin k1_t4_loop.trips) : Fin 2 → Nat :=
  let c4_i32_439 : BitVec 32 := 4#32
  let v686 : Index := Scalar.indexCast c4_i32_439
  let c0_i32_357 : BitVec 32 := 0#32
  let c1_i32_359 : BitVec 32 := 1#32
  let arg8 : BitVec 32 := Scf.iv c0_i32_357 c1_i32_359 k1_t4
  let c16_i32 : BitVec 32 := 16#32
  let v685 : BitVec 32 := Scalar.muli arg8 c16_i32
  let v687 : Index := Scalar.indexCast v685
  ![4, v687.toNat]
def k1_off15 (k1_t4 : Fin k1_t4_loop.trips) : Fin 2 → Nat :=
  let c5_i32_440 : BitVec 32 := 5#32
  let v690 : Index := Scalar.indexCast c5_i32_440
  let c0_i32_357 : BitVec 32 := 0#32
  let c1_i32_359 : BitVec 32 := 1#32
  let arg8 : BitVec 32 := Scf.iv c0_i32_357 c1_i32_359 k1_t4
  let c16_i32 : BitVec 32 := 16#32
  let v685 : BitVec 32 := Scalar.muli arg8 c16_i32
  let v691 : Index := Scalar.indexCast v685
  ![5, v691.toNat]
def k1_off16 (k1_t4 : Fin k1_t4_loop.trips) : Fin 2 → Nat :=
  let c6_i32_441 : BitVec 32 := 6#32
  let v694 : Index := Scalar.indexCast c6_i32_441
  let c0_i32_357 : BitVec 32 := 0#32
  let c1_i32_359 : BitVec 32 := 1#32
  let arg8 : BitVec 32 := Scf.iv c0_i32_357 c1_i32_359 k1_t4
  let c16_i32 : BitVec 32 := 16#32
  let v685 : BitVec 32 := Scalar.muli arg8 c16_i32
  let v695 : Index := Scalar.indexCast v685
  ![6, v695.toNat]
def k1_off17 (k1_t4 : Fin k1_t4_loop.trips) : Fin 2 → Nat :=
  let c7_i32_442 : BitVec 32 := 7#32
  let v698 : Index := Scalar.indexCast c7_i32_442
  let c0_i32_357 : BitVec 32 := 0#32
  let c1_i32_359 : BitVec 32 := 1#32
  let arg8 : BitVec 32 := Scf.iv c0_i32_357 c1_i32_359 k1_t4
  let c16_i32 : BitVec 32 := 16#32
  let v685 : BitVec 32 := Scalar.muli arg8 c16_i32
  let v699 : Index := Scalar.indexCast v685
  ![7, v699.toNat]
@[reducible] def k1_t5_loop : Scf.Loop 32 :=
  let c0_i32_399 : BitVec 32 := 0#32
  let c250_i32_400 : BitVec 32 := 250#32
  let v623 : BitVec 32 := Scalar.addi c0_i32_399 c250_i32_400
  let c1_i32_401 : BitVec 32 := 1#32
  ⟨c0_i32_399, v623, c1_i32_401⟩
def k1_off18 (k1_t5 : Fin k1_t5_loop.trips) : Fin 2 → Nat :=
  let c4_i32_439 : BitVec 32 := 4#32
  let v686 : Index := Scalar.indexCast c4_i32_439
  let c0_i32_399 : BitVec 32 := 0#32
  let c1_i32_401 : BitVec 32 := 1#32
  let arg8 : BitVec 32 := Scf.iv c0_i32_399 c1_i32_401 k1_t5
  let c16_i32 : BitVec 32 := 16#32
  let v685 : BitVec 32 := Scalar.muli arg8 c16_i32
  let v687 : Index := Scalar.indexCast v685
  ![4, v687.toNat]
def k1_off19 (k1_t5 : Fin k1_t5_loop.trips) : Fin 2 → Nat :=
  let c5_i32_440 : BitVec 32 := 5#32
  let v690 : Index := Scalar.indexCast c5_i32_440
  let c0_i32_399 : BitVec 32 := 0#32
  let c1_i32_401 : BitVec 32 := 1#32
  let arg8 : BitVec 32 := Scf.iv c0_i32_399 c1_i32_401 k1_t5
  let c16_i32 : BitVec 32 := 16#32
  let v685 : BitVec 32 := Scalar.muli arg8 c16_i32
  let v691 : Index := Scalar.indexCast v685
  ![5, v691.toNat]
def k1_off20 (k1_t5 : Fin k1_t5_loop.trips) : Fin 2 → Nat :=
  let c6_i32_441 : BitVec 32 := 6#32
  let v694 : Index := Scalar.indexCast c6_i32_441
  let c0_i32_399 : BitVec 32 := 0#32
  let c1_i32_401 : BitVec 32 := 1#32
  let arg8 : BitVec 32 := Scf.iv c0_i32_399 c1_i32_401 k1_t5
  let c16_i32 : BitVec 32 := 16#32
  let v685 : BitVec 32 := Scalar.muli arg8 c16_i32
  let v695 : Index := Scalar.indexCast v685
  ![6, v695.toNat]
def k1_off21 (k1_t5 : Fin k1_t5_loop.trips) : Fin 2 → Nat :=
  let c7_i32_442 : BitVec 32 := 7#32
  let v698 : Index := Scalar.indexCast c7_i32_442
  let c0_i32_399 : BitVec 32 := 0#32
  let c1_i32_401 : BitVec 32 := 1#32
  let arg8 : BitVec 32 := Scf.iv c0_i32_399 c1_i32_401 k1_t5
  let c16_i32 : BitVec 32 := 16#32
  let v685 : BitVec 32 := Scalar.muli arg8 c16_i32
  let v699 : Index := Scalar.indexCast v685
  ![7, v699.toNat]
def k1_off22 (i : grid1.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_230_r1 : BitVec 32 := 0#32
  let c0_i32_231_r1 : BitVec 32 := 0#32
  let c0_i32_232_r1 : BitVec 32 := 0#32
  ![v1.toNat, 0, 0, 0]
abbrev grid2 : Pipeline.Grid := ⟨1, ![25], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc2_transform_2 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_4 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_5 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x8x4000 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S32x10x3x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S32x10x3x16 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S1x3x4000 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S1x3x4000 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S1x1x4000 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== KernelIdeal.lean ====
variable {F : FTy → Type} [FloatOps F] [Named F]
def κ : String → Option EReal := fun
  | "above" => some ⊤
  | "below" => some ⊥
  | _ => none
-- ==== ReferenceIdeal.lean ====
abbrev S1x100000x3 : Shape := ⟨3, ![1, 100000, 3]⟩
abbrev S1x100000x10 : Shape := ⟨3, ![1, 100000, 10]⟩
abbrev S3x128 : Shape := ⟨2, ![3, 128]⟩
abbrev S128 : Shape := ⟨1, ![128]⟩
abbrev S128x128 : Shape := ⟨2, ![128, 128]⟩
abbrev S128x4 : Shape := ⟨2, ![128, 4]⟩
abbrev S4 : Shape := ⟨1, ![4]⟩
abbrev S1x100000x128 : Shape := ⟨3, ![1, 100000, 128]⟩
abbrev S1x1x128 : Shape := ⟨3, ![1, 1, 128]⟩
abbrev S_ : Shape := ⟨0, ![]⟩
abbrev S1x100000x4 : Shape := ⟨3, ![1, 100000, 4]⟩
abbrev S1x1x4 : Shape := ⟨3, ![1, 1, 4]⟩
abbrev S1x100000 : Shape := ⟨2, ![1, 100000]⟩
abbrev S1x100000x1 : Shape := ⟨3, ![1, 100000, 1]⟩
abbrev S1x100000x2 : Shape := ⟨3, ![1, 100000, 2]⟩
abbrev S100000x3 : Shape := ⟨2, ![100000, 3]⟩
abbrev S100000 : Shape := ⟨1, ![100000]⟩
abbrev S100000x1 : Shape := ⟨2, ![100000, 1]⟩
abbrev S100000x1x3 : Shape := ⟨3, ![100000, 1, 3]⟩
abbrev S100000x3x3 : Shape := ⟨3, ![100000, 3, 3]⟩
abbrev S3x3 : Shape := ⟨2, ![3, 3]⟩
abbrev S100000x1x1 : Shape := ⟨3, ![100000, 1, 1]⟩
abbrev S1x3x3 : Shape := ⟨3, ![1, 3, 3]⟩
abbrev S10 : Shape := ⟨1, ![10]⟩
abbrev S1x10 : Shape := ⟨2, ![1, 10]⟩
abbrev S100000x10 : Shape := ⟨2, ![100000, 10]⟩
abbrev S100000x10x1 : Shape := ⟨3, ![100000, 10, 1]⟩
abbrev S100000x10x3 : Shape := ⟨3, ![100000, 10, 3]⟩
abbrev S10x3 : Shape := ⟨2, ![10, 3]⟩

abbrev nBuf : Space → Nat
  | .hbm => 189
  | .vmem => 0
  | .smem => 0
  | _ => 0

abbrev hbmTy0_0 (i : Nat) : BufTy := match i % 128 with
  | 0 => ⟨S1x100000x3, .f32⟩
  | 1 => ⟨S1x100000x10, .f32⟩
  | 2 => ⟨S3x128, .f32⟩
  | 3 => ⟨S128, .f32⟩
  | 4 => ⟨S128x128, .f32⟩
  | 5 => ⟨S128, .f32⟩
  | 6 => ⟨S128x4, .f32⟩
  | 7 => ⟨S4, .f32⟩
  | 8 => ⟨S1x100000x128, .f32⟩
  | 9 => ⟨S1x1x128, .f32⟩
  | 10 => ⟨S1x100000x128, .f32⟩
  | 11 => ⟨S1x100000x128, .f32⟩
  | 12 => ⟨S_, .f32⟩
  | 13 => ⟨S1x100000x128, .f32⟩
  | 14 => ⟨S1x100000x128, .f32⟩
  | 15 => ⟨S1x100000x128, .f32⟩
  | 16 => ⟨S1x1x128, .f32⟩
  | 17 => ⟨S1x100000x128, .f32⟩
  | 18 => ⟨S1x100000x128, .f32⟩
  | 19 => ⟨S_, .f32⟩
  | 20 => ⟨S1x100000x128, .f32⟩
  | 21 => ⟨S1x100000x128, .f32⟩
  | 22 => ⟨S1x100000x4, .f32⟩
  | 23 => ⟨S1x1x4, .f32⟩
  | 24 => ⟨S1x100000x4, .f32⟩
  | 25 => ⟨S1x100000x4, .f32⟩
  | 26 => ⟨S_, .f32⟩
  | 27 => ⟨S1x100000, .f32⟩
  | 28 => ⟨S_, .f32⟩
  | 29 => ⟨S1x100000, .f32⟩
  | 30 => ⟨S1x100000, .f32⟩
  | 31 => ⟨S1x100000x1, .f32⟩
  | 32 => ⟨S1x100000x10, .f32⟩
  | 33 => ⟨S1x100000x10, .f32⟩
  | 34 => ⟨S1x100000x10, .f32⟩
  | 35 => ⟨S_, .f32⟩
  | 36 => ⟨S1x100000, .f32⟩
  | 37 => ⟨S1x100000x1, .f32⟩
  | 38 => ⟨S1x100000x10, .f32⟩
  | 39 => ⟨S1x100000x10, .f32⟩
  | 40 => ⟨S1x100000x3, .f32⟩
  | 41 => ⟨S1x100000x1, .f32⟩
  | 42 => ⟨S_, .f32⟩
  | 43 => ⟨S1x100000x2, .f32⟩
  | 44 => ⟨S1x100000x3, .f32⟩
  | 45 => ⟨S100000x3, .f32⟩
  | 46 => ⟨S100000x3, .f32⟩
  | 47 => ⟨S_, .f32⟩
  | 48 => ⟨S100000, .f32⟩
  | 49 => ⟨S_, .f32⟩
  | 50 => ⟨S100000, .f32⟩
  | 51 => ⟨S100000, .f32⟩
  | 52 => ⟨S100000, .f32⟩
  | 53 => ⟨S_, .f32⟩
  | 54 => ⟨S100000, .f32⟩
  | 55 => ⟨S100000, .i1⟩
  | 56 => ⟨S_, .f32⟩
  | 57 => ⟨S_, .f32⟩
  | 58 => ⟨S100000, .f32⟩
  | 59 => ⟨S100000, .f32⟩
  | 60 => ⟨S_, .f32⟩
  | 61 => ⟨S100000, .f32⟩
  | 62 => ⟨S100000, .f32⟩
  | 63 => ⟨S_, .f32⟩
  | 64 => ⟨S100000, .f32⟩
  | 65 => ⟨S100000, .f32⟩
  | 66 => ⟨S100000, .f32⟩
  | 67 => ⟨S100000, .f32⟩
  | 68 => ⟨S100000, .f32⟩
  | 69 => ⟨S_, .f32⟩
  | 70 => ⟨S100000, .f32⟩
  | 71 => ⟨S100000, .f32⟩
  | 72 => ⟨S_, .f32⟩
  | 73 => ⟨S100000, .f32⟩
  | 74 => ⟨S100000, .f32⟩
  | 75 => ⟨S100000, .f32⟩
  | 76 => ⟨S_, .f32⟩
  | 77 => ⟨S100000, .f32⟩
  | 78 => ⟨S100000, .f32⟩
  | 79 => ⟨S100000, .f32⟩
  | 80 => ⟨S100000, .f32⟩
  | 81 => ⟨S100000, .f32⟩
  | 82 => ⟨S100000x1, .f32⟩
  | 83 => ⟨S100000, .f32⟩
  | 84 => ⟨S100000x1, .f32⟩
  | 85 => ⟨S100000, .f32⟩
  | 86 => ⟨S100000x1, .f32⟩
  | 87 => ⟨S100000, .f32⟩
  | 88 => ⟨S_, .f32⟩
  | 89 => ⟨S100000, .f32⟩
  | 90 => ⟨S100000, .f32⟩
  | 91 => ⟨S100000x1, .f32⟩
  | 92 => ⟨S100000x1, .f32⟩
  | 93 => ⟨S100000x1, .f32⟩
  | 94 => ⟨S100000x3, .f32⟩
  | 95 => ⟨S100000, .f32⟩
  | 96 => ⟨S100000x1, .f32⟩
  | 97 => ⟨S100000x1, .f32⟩
  | 98 => ⟨S100000x1, .f32⟩
  | 99 => ⟨S100000x3, .f32⟩
  | 100 => ⟨S100000, .f32⟩
  | 101 => ⟨S100000x1, .f32⟩
  | 102 => ⟨S100000x1, .f32⟩
  | 103 => ⟨S100000x1, .f32⟩
  | 104 => ⟨S100000x3, .f32⟩
  | 105 => ⟨S100000x1x3, .f32⟩
  | 106 => ⟨S100000x1x3, .f32⟩
  | 107 => ⟨S100000x1x3, .f32⟩
  | 108 => ⟨S100000x3x3, .f32⟩
  | 109 => ⟨S3x3, .i32⟩
  | 110 => ⟨S3x3, .i32⟩
  | 111 => ⟨S_, .i32⟩
  | 112 => ⟨S3x3, .i32⟩
  | 113 => ⟨S3x3, .i32⟩
  | 114 => ⟨S3x3, .i1⟩
  | 115 => ⟨S3x3, .f32⟩
  | 116 => ⟨S100000x1x1, .f32⟩
  | 117 => ⟨S100000x3x3, .f32⟩
  | 118 => ⟨S100000x3x3, .f32⟩
  | 119 => ⟨S1x3x3, .f32⟩
  | 120 => ⟨S100000x3x3, .f32⟩
  | 121 => ⟨S100000x3x3, .f32⟩
  | 122 => ⟨S100000x1x1, .f32⟩
  | 123 => ⟨S100000x3x3, .f32⟩
  | 124 => ⟨S100000x3x3, .f32⟩
  | 125 => ⟨S100000x3x3, .f32⟩
  | 126 => ⟨S100000x3x3, .f32⟩
  | 127 => ⟨S1x100000x10, .i32⟩
  | _ => ⟨S1x100000x3, .f32⟩

abbrev hbmTy0_1 (i : Nat) : BufTy := match i % 128 with
  | 0 => ⟨S_, .f32⟩
  | 1 => ⟨S_, .i32⟩
  | 2 => ⟨S1x100000, .f32⟩
  | 3 => ⟨S1x100000, .i32⟩
  | 4 => ⟨S100000, .i32⟩
  | 5 => ⟨S100000x3, .f32⟩
  | 6 => ⟨S100000x1, .i32⟩
  | 7 => ⟨S10, .i32⟩
  | 8 => ⟨S1x10, .i32⟩
  | 9 => ⟨S100000x10, .i32⟩
  | 10 => ⟨S100000x10, .i32⟩
  | 11 => ⟨S100000x10, .i1⟩
  | 12 => ⟨S100000x10x1, .i1⟩
  | 13 => ⟨S100000x1x3, .f32⟩
  | 14 => ⟨S_, .f32⟩
  | 15 => ⟨S_, .f32⟩
  | 16 => ⟨S100000x10x3, .i1⟩
  | 17 => ⟨S100000x10x3, .f32⟩
  | 18 => ⟨S100000x10x3, .f32⟩
  | 19 => ⟨S100000x10x3, .f32⟩
  | 20 => ⟨S_, .f32⟩
  | 21 => ⟨S10x3, .f32⟩
  | 22 => ⟨S100000x3, .f32⟩
  | 23 => ⟨S100000x1, .i32⟩
  | 24 => ⟨S10, .i32⟩
  | 25 => ⟨S1x10, .i32⟩
  | 26 => ⟨S100000x10, .i32⟩
  | 27 => ⟨S100000x10, .i32⟩
  | 28 => ⟨S100000x10, .i1⟩
  | 29 => ⟨S100000x10x1, .i1⟩
  | 30 => ⟨S100000x1x3, .f32⟩
  | 31 => ⟨S_, .f32⟩
  | 32 => ⟨S_, .f32⟩
  | 33 => ⟨S100000x10x3, .i1⟩
  | 34 => ⟨S100000x10x3, .f32⟩
  | 35 => ⟨S100000x10x3, .f32⟩
  | 36 => ⟨S100000x10x3, .f32⟩
  | 37 => ⟨S_, .f32⟩
  | 38 => ⟨S10x3, .f32⟩
  | 39 => ⟨S10x3, .f32⟩
  | 40 => ⟨S_, .f32⟩
  | 41 => ⟨S10x3, .f32⟩
  | 42 => ⟨S10x3, .f32⟩
  | 43 => ⟨S_, .i32⟩
  | 44 => ⟨S100000, .i32⟩
  | 45 => ⟨S100000, .i1⟩
  | 46 => ⟨S_, .i32⟩
  | 47 => ⟨S100000, .i32⟩
  | 48 => ⟨S100000, .i32⟩
  | 49 => ⟨S100000, .i32⟩
  | 50 => ⟨S100000x1, .i32⟩
  | 51 => ⟨S100000x3, .f32⟩
  | 52 => ⟨S1x100000x3, .f32⟩
  | 53 => ⟨S1x100000x3, .f32⟩
  | 54 => ⟨S100000x3, .f32⟩
  | 55 => ⟨S100000x3, .f32⟩
  | 56 => ⟨S1x100000x3, .f32⟩
  | 57 => ⟨S1x100000x3, .f32⟩
  | 58 => ⟨S1x100000x3, .f32⟩
  | 59 => ⟨S1x100000x3, .f32⟩
  | 60 => ⟨S1x100000x3, .f32⟩
  | _ => ⟨S1x100000x3, .f32⟩

abbrev hbmTy (i : Nat) : BufTy := match i / 128 with
  | 0 => hbmTy0_0 i
  | 1 => hbmTy0_1 i
  | _ => ⟨S1x100000x3, .f32⟩

abbrev bufTy : (tb : Table) → Fin (tcTables nBuf tb) → BufTy
  | .hbm, ⟨i, _⟩ => hbmTy i
  | _, _ => ⟨S1x100000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_1 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_3 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_4 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_5 : Ref sig .tc := ⟨.hbm, 47, rfl⟩
abbrev main_v33 : Ref sig .tc := ⟨.hbm, 48, rfl⟩
abbrev main_cst_6 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_7 : Ref sig .tc := ⟨.hbm, 53, rfl⟩
abbrev main_v37 : Ref sig .tc := ⟨.hbm, 54, rfl⟩
abbrev main_v38 : Ref sig .tc := ⟨.hbm, 55, rfl⟩
abbrev main_cst_8 : Ref sig .tc := ⟨.hbm, 56, rfl⟩
abbrev main_call0_v0 : Ref sig .tc := ⟨.hbm, 57, rfl⟩
abbrev main_call0_v1 : Ref sig .tc := ⟨.hbm, 58, rfl⟩
abbrev main_v39 : Ref sig .tc := ⟨.hbm, 59, rfl⟩
abbrev main_cst_9 : Ref sig .tc := ⟨.hbm, 60, rfl⟩
abbrev main_v40 : Ref sig .tc := ⟨.hbm, 61, rfl⟩
abbrev main_v41 : Ref sig .tc := ⟨.hbm, 62, rfl⟩
abbrev main_cst_10 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_cst_11 : Ref sig .tc := ⟨.hbm, 69, rfl⟩
abbrev main_v47 : Ref sig .tc := ⟨.hbm, 70, rfl⟩
abbrev main_v48 : Ref sig .tc := ⟨.hbm, 71, rfl⟩
abbrev main_cst_12 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_cst_13 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_cst_14 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_c : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_call3_v0 : Ref sig .tc := ⟨.hbm, 127, rfl⟩
abbrev main_call3_cst : Ref sig .tc := ⟨.hbm, 128, rfl⟩
abbrev main_call3_c : Ref sig .tc := ⟨.hbm, 129, rfl⟩
abbrev main_call3_v1_0 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_cst_15 : Ref sig .tc := ⟨.hbm, 142, rfl⟩
abbrev main_call4_v0 : Ref sig .tc := ⟨.hbm, 143, rfl⟩
abbrev main_call4_v1 : Ref sig .tc := ⟨.hbm, 144, rfl⟩
abbrev main_call4_v2 : Ref sig .tc := ⟨.hbm, 145, rfl⟩
abbrev main_call4_v3 : Ref sig .tc := ⟨.hbm, 146, rfl⟩
abbrev main_v111 : Ref sig .tc := ⟨.hbm, 147, rfl⟩
abbrev main_cst_16 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_cst_17 : Ref sig .tc := ⟨.hbm, 159, rfl⟩
abbrev main_call5_v0 : Ref sig .tc := ⟨.hbm, 160, rfl⟩
abbrev main_call5_v1 : Ref sig .tc := ⟨.hbm, 161, rfl⟩
abbrev main_call5_v2 : Ref sig .tc := ⟨.hbm, 162, rfl⟩
abbrev main_call5_v3 : Ref sig .tc := ⟨.hbm, 163, rfl⟩
abbrev main_v122 : Ref sig .tc := ⟨.hbm, 164, rfl⟩
abbrev main_cst_18 : Ref sig .tc := ⟨.hbm, 165, rfl⟩
abbrev main_v123 : Ref sig .tc := ⟨.hbm, 166, rfl⟩
abbrev main_v124 : Ref sig .tc := ⟨.hbm, 167, rfl⟩
abbrev main_cst_19 : Ref sig .tc := ⟨.hbm, 168, rfl⟩
abbrev main_v125 : Ref sig .tc := ⟨.hbm, 169, rfl⟩
abbrev main_v126 : Ref sig .tc := ⟨.hbm, 170, rfl⟩
abbrev main_c_20 : Ref sig .tc := ⟨.hbm, 171, rfl⟩
abbrev main_v127 : Ref sig .tc := ⟨.hbm, 172, rfl⟩
abbrev main_v128 : Ref sig .tc := ⟨.hbm, 173, rfl⟩
abbrev main_c_21 : Ref sig .tc := ⟨.hbm, 174, rfl⟩
abbrev main_v129 : Ref sig .tc := ⟨.hbm, 175, rfl⟩
abbrev main_v130 : Ref sig .tc := ⟨.hbm, 176, rfl⟩
abbrev main_v131 : Ref sig .tc := ⟨.hbm, 177, rfl⟩
abbrev main_v132 : Ref sig .tc := ⟨.hbm, 178, rfl⟩
abbrev main_v133 : Ref sig .tc := ⟨.hbm, 179, rfl⟩
abbrev main_v134 : Ref sig .tc := ⟨.hbm, 180, rfl⟩
abbrev main_v135 : Ref sig .tc := ⟨.hbm, 181, rfl⟩
abbrev main_v136 : Ref sig .tc := ⟨.hbm, 182, rfl⟩
abbrev main_v137 : Ref sig .tc := ⟨.hbm, 183, rfl⟩
abbrev main_v138 : Ref sig .tc := ⟨.hbm, 184, rfl⟩
abbrev main_v139 : Ref sig .tc := ⟨.hbm, 185, rfl⟩
abbrev main_v140 : Ref sig .tc := ⟨.hbm, 186, rfl⟩
abbrev main_v141 : Ref sig .tc := ⟨.hbm, 187, rfl⟩
abbrev main_v142 : Ref sig .tc := ⟨.hbm, 188, rfl⟩

abbrev nD : Nat := 1
abbrev τ : Topo := Topo.v7x

variable {F : FTy → Type} [FloatOps F]
-- ==== Proof.Tile.lean ====
/-
  The segment kernel's task on one vector subcore. Task `w` (of 32) fills its two accumulators with the neutral constants,
  fetches block `w` of the per-point table when `w < 25`, takes in five loops of 250 trips the lane-wise maximum and minimum of
  each class's points, and writes the two accumulators to row `w` of the two results.
-/
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.Pipeline.Regions
public import Idealize.ShloMosaic.Lib.Tactic
public import Idealize.ShloMosaic.Lib.Writes
public import Idealize.ShloMosaic.Lib.Pipeline.Value
public import proofs.«01_k».proof.Proof.Gen.KernelIdeal
public import proofs.«01_k».proof.Proof.Gen.KernelIdeal.Skeleton
public import proofs.«01_k».proof.Proof.Gen.KernelIdeal.Launch

@[expose] public section

noncomputable section

namespace Cert.KernelIdeal.Prf

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP [FloatOps F] [Named F] : Labels := Pipeline.Sig Λ₀ (Fin 2) fun p => (pcfgs (F := F) p).Adm
abbrev K [FloatOps F] [Named F] : SparseCore.Cfg τ sig (ΛP (F := F)) 1 := sc (F := F)
abbrev D [FloatOps F] [Named F] : Defs nD τ sig (Elt F) (ΛP (F := F)) := Pipeline.defs pcfgs defs₀
abbrev 𝒱₀ : Variants := Variants.none
abbrev 𝒱 : Variants := 𝒱₀.lift
abbrev v₀ : 𝒱.V := Sum.inl none

variable [FloatOps F] [Named F]

theorem nSub_zero : (K (F := F)).nSub 0 = 16 := rfl
theorem nCore_zero : (K (F := F)).nCore 0 = 2 := rfl

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the two pipelines' rounds, the transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

omit [FloatOps F] [Named F] in
abbrev EH : Emb UH (MT nD τ sig (HIx 1) (Elt F) ℕ UU ℕ) := embL

/-! ## What the task computes -/

/-- The constant standing below every value, and the one above every value. -/
abbrev lo : F .f32 := Named.named κ "below" 0xFF61B1E6#32
abbrev hi : F .f32 := Named.named κ "above" 0x7F61B1E6#32

/-- The float words of the class labels 0 to 9. -/
def labBits : Fin 10 → BitVec 32 :=
  ![0x00000000#32, 0x3F800000#32, 0x40000000#32, 0x40400000#32, 0x40800000#32, 0x40A00000#32, 0x40C00000#32, 0x40E00000#32, 0x41000000#32, 0x41100000#32]

/-- The sixteen lanes of row `r` of a block at trip `n`. -/
def lanes (X : S8x4000.Idx → F .f32) (r : Fin 8) (n : ℕ) : FVec F S16 .f32 :=
  fun x => X (fun | 0 => r | 1 => ⟨(16 * n + (x 0).val) % 4000, Nat.mod_lt _ (by decide)⟩)

/-- Where the label row holds class `i`, the row's value; elsewhere the constant below (above) every value. -/
def pickMax (X : S8x4000.Idx → F .f32) (i : Fin 10) (r : Fin 8) (n : ℕ) : FVec F S16 .f32 :=
  select (cmpf .oeq (lanes X 7 n) (broadcast S16 (Scalar.ofBits .f32 (labBits i)))) (lanes X r n) (broadcast S16 lo)
def pickMin (X : S8x4000.Idx → F .f32) (i : Fin 10) (r : Fin 8) (n : ℕ) : FVec F S16 .f32 :=
  select (cmpf .oeq (lanes X 7 n) (broadcast S16 (Scalar.ofBits .f32 (labBits i)))) (lanes X r n) (broadcast S16 hi)

/-- The running lane-wise maximum (minimum) over the first `n` trips. -/
def accMax (X : S8x4000.Idx → F .f32) (i : Fin 10) (r : Fin 8) : ℕ → FVec F S16 .f32
  | 0 => broadcast S16 lo
  | n + 1 => maximumf (accMax X i r n) (pickMax X i r n)
def accMin (X : S8x4000.Idx → F .f32) (i : Fin 10) (r : Fin 8) : ℕ → FVec F S16 .f32
  | 0 => broadcast S16 hi
  | n + 1 => minimumf (accMin X i r n) (pickMin X i r n)

/-- The rows of the block that hold the shifted coordinates. -/
def crow : Fin 3 → Fin 8 := ![4, 5, 6]

/-- Block `w` of the per-point table. -/
def blk (A : S25x8x4000.Idx → F .f32) (w : Fin 25) : S8x4000.Idx → F .f32 :=
  fun x => A (fun | 0 => w | 1 => x 0 | 2 => x 1)

/-- What task `w` leaves in its two accumulators. -/
def tileMax (A : S25x8x4000.Idx → F .f32) (w : ℕ) : S10x3x16.Idx → F .f32 :=
  fun x => if h : w < 25 then accMax (blk A ⟨w, h⟩) (x 0) (crow (x 1)) 250 (fun | 0 => x 2) else lo
def tileMin (A : S25x8x4000.Idx → F .f32) (w : ℕ) : S10x3x16.Idx → F .f32 :=
  fun x => if h : w < 25 then accMin (blk A ⟨w, h⟩) (x 0) (crow (x 1)) 250 (fun | 0 => x 2) else hi

/-- What the call leaves in its two results. -/
def segMax (A : S25x8x4000.Idx → F .f32) : S32x10x3x16.Idx → F .f32 :=
  fun x => tileMax A (x 0).val (fun | 0 => x 1 | 1 => x 2 | 2 => x 3)
def segMin (A : S25x8x4000.Idx → F .f32) : S32x10x3x16.Idx → F .f32 :=
  fun x => tileMin A (x 0).val (fun | 0 => x 1 | 1 => x 2 | 2 => x 3)

/-! ## The buffers -/

abbrev aLoc (d : Dev nD) : Loc nD τ sig := (SparseCore.T d).loc main_v7_1
abbrev oLoc (d : Dev nD) : Loc nD τ sig := (SparseCore.T d).loc main_v8_0
abbrev qLoc (d : Dev nD) : Loc nD τ sig := (SparseCore.T d).loc main_v8_1

local notation "aV" => (Memref.whole Cert.KernelIdeal.main_v7_1_scv : Memref Cert.KernelIdeal.sig Kind.scVector Space.hbm Cert.KernelIdeal.S25x8x4000 EltTy.f32)
local notation "oV" => (Memref.whole Cert.KernelIdeal.main_v8_0_scv : Memref Cert.KernelIdeal.sig Kind.scVector Space.hbm Cert.KernelIdeal.S32x10x3x16 EltTy.f32)
local notation "qV" => (Memref.whole Cert.KernelIdeal.main_v8_1_scv : Memref Cert.KernelIdeal.sig Kind.scVector Space.hbm Cert.KernelIdeal.S32x10x3x16 EltTy.f32)
local notation "sB" => (Memref.whole Cert.KernelIdeal.cc1_scratch0 : Memref Cert.KernelIdeal.sig Kind.scVector Space.vmem Cert.KernelIdeal.S8x4000 EltTy.f32)
local notation "sM" => (Memref.whole Cert.KernelIdeal.cc1_scratch1 : Memref Cert.KernelIdeal.sig Kind.scVector Space.vmem Cert.KernelIdeal.S10x3x16 EltTy.f32)
local notation "sN" => (Memref.whole Cert.KernelIdeal.cc1_scratch2 : Memref Cert.KernelIdeal.sig Kind.scVector Space.vmem Cert.KernelIdeal.S10x3x16 EltTy.f32)

theorem hdiv : 32 ∣ S32x10x3x16.size 0 := ⟨1, rfl⟩
/-- Row `w` of the two results: one task's. -/
abbrev row (w : Fin 32) : Rect S32x10x3x16 := Rect.part (s := S32x10x3x16) (a₀ := 0) hdiv w
abbrev rowSet (w : Fin 32) : Finset S32x10x3x16.Idx := ((oV).view.slice (row w)).set

/-- The number of the task on vector subcore `s` of SparseCore `c`. -/
def wid (c : Fin 2) (s : Fin 16) : Fin 32 := ⟨2 * s.val + c.val, by omega⟩

section Tile

variable (d : Dev nD) (L : grid1.Coords)

abbrev cV (L : grid1.Coords) : Fin τ.nSC := (L 0).castLE hcore1
abbrev jV (L : grid1.Coords) : Fin τ.nSub := (L 1).castLE hsub1
abbrev VT (d : Dev nD) (L : grid1.Coords) : Thread nD τ := V d (cV L) (jV L)
/-- The task's number. -/
abbrev wL (L : grid1.Coords) : Fin 32 := wid ⟨(L 0).val, (L 0).isLt⟩ ⟨(L 1).val, (L 1).isLt⟩

omit [FloatOps F] [Named F] in
theorem cond_iff (L : grid1.Coords) : k1_cond1 L = 1#1 ↔ (wL L).val < 25 := by decide +revert
omit [FloatOps F] [Named F] in
theorem off22_eq (L : grid1.Coords) : k1_off22 L = ![(wL L).val, 0, 0, 0] := by decide +revert
omit [FloatOps F] [Named F] in
theorem off1_eq (L : grid1.Coords) : k1_off1 L = ![(wL L).val, 0, 0] := by decide +revert

abbrev rowK (L : grid1.Coords) : Rect S32x10x3x16 := Rect.unit (s := S32x10x3x16) (k1_off22 L) S1x10x3x16.size (k1_off22_inb L)
abbrev oRowK (L : grid1.Coords) : Memref sig .scVector .hbm S10x3x16 .f32 := ((oV).slice (rowK L) (fun _ => rfl)).squeeze S10x3x16 squeezes_S1x10x3x16_S10x3x16
abbrev qRowK (L : grid1.Coords) : Memref sig .scVector .hbm S10x3x16 .f32 := ((qV).slice (rowK L) (fun _ => rfl)).squeeze S10x3x16 squeezes_S1x10x3x16_S10x3x16

omit [FloatOps F] [Named F] in
theorem rowK_eq : rowK L = row (wL L) := by
  unfold rowK row Rect.part Rect.block
  congr 1 <;> funext a
  · rw [off22_eq]
    match a with
    | 0 => simp [Shape.partIx, Shape.partSize]
    | 1 => simp [Shape.partIx, Shape.partSize]
    | 2 => simp [Shape.partIx, Shape.partSize]
    | 3 => simp [Shape.partIx, Shape.partSize]
  · match a with
    | 0 => simp [Shape.partSize]
    | 1 => simp [Shape.partSize]
    | 2 => simp [Shape.partSize]
    | 3 => simp [Shape.partSize]

omit [FloatOps F] [Named F] in
theorem set_oRowK : (oRowK L).view.set = rowSet (wL L) := by
  show (((oV).view.slice (rowK L)).reshape S10x3x16 squeezes_S1x10x3x16_S10x3x16.numel_eq).set = ((oV).view.slice (row (wL L))).set
  rw [View.set_reshape]
  exact rowK_eq L ▸ rfl
omit [FloatOps F] [Named F] in
theorem set_qRowK : (qRowK L).view.set = rowSet (wL L) := by
  show (((qV).view.slice (rowK L)).reshape S10x3x16 squeezes_S1x10x3x16_S10x3x16.numel_eq).set = ((oV).view.slice (row (wL L))).set
  rw [View.set_reshape]
  exact rowK_eq L ▸ rfl

omit [FloatOps F] [Named F] in
theorem pts_oRowK (f : Buf (Elt F) (oLoc d)) :
    ((oRowK L).view.loc (VT d L) ↦[(oRowK L).view.set]{fullShare} f : sProp 𝕄) = oLoc d ↦[rowSet (wL L)]{fullShare} f := by
  rw [set_oRowK]
omit [FloatOps F] [Named F] in
theorem pts_qRowK (f : Buf (Elt F) (qLoc d)) :
    ((qRowK L).view.loc (VT d L) ↦[(qRowK L).view.set]{fullShare} f : sProp 𝕄) = qLoc d ↦[rowSet (wL L)]{fullShare} f := by
  rw [set_qRowK]
omit [FloatOps F] [Named F] in
theorem pts_a (q : PosShare TreeShare) (f : Buf (Elt F) (aLoc d)) :
    ((aV).view.loc (VT d L) ↦{q} f : sProp 𝕄) = aLoc d ↦{q} f := rfl
omit [FloatOps F] [Named F] in
theorem pts_sB (f : Buf (Elt F) ((VT d L).loc cc1_scratch0)) :
    ((sB).view.loc (VT d L) ↦{fullShare} f : sProp 𝕄) = (VT d L).loc cc1_scratch0 ↦{fullShare} f := rfl
omit [FloatOps F] [Named F] in
theorem pts_sM (f : Buf (Elt F) ((VT d L).loc cc1_scratch1)) :
    ((sM).view.loc (VT d L) ↦{fullShare} f : sProp 𝕄) = (VT d L).loc cc1_scratch1 ↦{fullShare} f := rfl
omit [FloatOps F] [Named F] in
theorem pts_sN (f : Buf (Elt F) ((VT d L).loc cc1_scratch2)) :
    ((sN).view.loc (VT d L) ↦{fullShare} f : sProp 𝕄) = (VT d L).loc cc1_scratch2 ↦{fullShare} f := rfl

/-! ## The task's own semaphores and buffers -/

abbrev c0cell (d : Dev nD) (L : grid1.Coords) : GSem nD τ sig := (VT d L, .dma cc1_scoped0.sem)
abbrev c1cell (d : Dev nD) (L : grid1.Coords) : GSem nD τ sig := (VT d L, .dma cc1_scoped1.sem)
abbrev c2cell (d : Dev nD) (L : grid1.Coords) : GSem nD τ sig := (VT d L, .dma cc1_scoped2.sem)

omit [FloatOps F] [Named F] in
theorem ownSems0_V :
    (ownSems0 (VT d L) : sProp 𝕄)
      = iprop(semVal (c0cell d L) 0 ∗ semVal (c1cell d L) 0 ∗ semVal (c2cell d L) 0
          ∗ bigSep ((((ownCells (VT d L)).erase (c0cell d L)).erase (c1cell d L)).erase (c2cell d L)) fun g => semVal g 0) := by
  unfold SparseCore.Cfg.ownSems0
  rw [SparseCore.bigSep_erase' ((mem_ownCells (g := c0cell d L)).mpr ⟨rfl, by
      show (SemLoc.dma cc1_scoped0.sem : SemLoc sig).isScoped .scVector = true; decide⟩),
    SparseCore.bigSep_erase' (Finset.mem_erase.mpr ⟨by simp [c0cell, c1cell]; decide, (mem_ownCells (g := c1cell d L)).mpr ⟨rfl, by
      show (SemLoc.dma cc1_scoped1.sem : SemLoc sig).isScoped .scVector = true; decide⟩⟩),
    SparseCore.bigSep_erase' (Finset.mem_erase.mpr ⟨by simp [c1cell, c2cell]; decide, Finset.mem_erase.mpr ⟨by simp [c0cell, c2cell]; decide,
      (mem_ownCells (g := c2cell d L)).mpr ⟨rfl, by show (SemLoc.dma cc1_scoped2.sem : SemLoc sig).isScoped .scVector = true; decide⟩⟩⟩)]

omit [FloatOps F] [Named F] in
theorem ownBufs_V :
    (ownBufs (VT d L) : sProp 𝕄)
      = iprop((∃ f, (VT d L).loc cc1_scratch0 ↦{fullShare} f) ∗ (∃ f, (VT d L).loc cc1_scratch1 ↦{fullShare} f)
          ∗ (∃ f, (VT d L).loc cc1_scratch2 ↦{fullShare} f)
          ∗ bigSep ((((ownRefs (τ := τ) (.scVector (cV L) (jV L))).erase ((Proc.scVector (cV L) (jV L)).devRef cc1_scratch0)).erase
              ((Proc.scVector (cV L) (jV L)).devRef cc1_scratch1)).erase ((Proc.scVector (cV L) (jV L)).devRef cc1_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector (cV L) (jV L)) (b := (Proc.scVector (cV L) (jV L)).devRef cc1_scratch1) rfl⟩),
    SparseCore.bigSep_erase' (Finset.mem_erase.mpr ⟨fun e => absurd (Proc.devRef_injective _ e) (show (cc1_scratch2 : Ref sig .scVector) ≠ cc1_scratch1 by decide),
      Finset.mem_erase.mpr ⟨fun e => absurd (Proc.devRef_injective _ e) (show (cc1_scratch2 : Ref sig .scVector) ≠ cc1_scratch0 by decide),
      SparseCore.Cfg.mem_ownRefs_of_owner (p := Proc.scVector (cV L) (jV L)) (b := (Proc.scVector (cV L) (jV L)).devRef cc1_scratch2) rfl⟩⟩)]

end Tile

end Cert.KernelIdeal.Prf

end
-- ==== Proof.Stage1.lean ====
/-
  The first TensorCore call at one grid point: from a block of the points and of the mask logits it leaves the softmax of the
  logits, and the table of the point network's four outputs, the point's coordinates and the class of its largest logit.
-/
module

public import proofs.«01_k».proof.Proof.Tile
public import proofs.«01_k».proof.Proof.Gen.KernelIdeal.Points
public import Idealize.ShloMosaic.Lib.Pipeline.FrameBody

@[expose] public section

noncomputable section

namespace Cert.KernelIdeal.Prf

open Cert.KernelIdeal Cert.KernelIdeal.Gen

open Idealize.ShloMosaic Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Pipeline (Dat Cfg Window BodyObligation)

variable {F : FTy → Type} [FloatOps F] [Named F]

local notation "𝕄" => MT nD τ sig (HIx 1) (Elt F) ℕ UU ℕ

/-- The softmax block, and the table's block, of one grid point. -/
def maskOut (X1 : S1x10x4000.Idx → F .f32) : S1x10x4000.Idx → F .f32 := k0_pay1 (k0_pay7 X1) (k0_pay8 X1)
def auxOut (X0 : S1x3x4000.Idx → F .f32) (X1 : S1x10x4000.Idx → F .f32) (X2 : S128x3.Idx → F .f32) (X3 : S128.Idx → F .f32)
    (X4 : S128x128.Idx → F .f32) (X5 : S128.Idx → F .f32) (X6 : S4x128.Idx → F .f32) (X7 : S4.Idx → F .f32) : S1x8x4000.Idx → F .f32 :=
  k0_pay2 (k0_pay3 X0) (k0_pay4 X1) (k0_pay5 X0 X2 X3 X4 X5 X6 X7) (k0_pay6 X1)

theorem zero1 : (![0] : Fin 1 → ℕ) = fun _ => 0 := by funext a; fin_cases a; rfl
theorem zero2 : (![0, 0] : Fin 2 → ℕ) = fun _ => 0 := by funext a; fin_cases a <;> rfl
theorem zero3 : (![0, 0, 0] : Fin 3 → ℕ) = fun _ => 0 := by funext a; fin_cases a <;> rfl

omit [FloatOps F] [Named F] in
/-- A load of all of a memref reads its contents. -/
theorem readAt_whole {κ' : Kind} {sp : Space} {S : Shape} {e : EltTy} (v : View sig κ' sp S e) (f : v.ty.Contents (Elt F))
    {off : Fin S.rank → ℕ} (h : off = fun _ => 0) (inb) :
    v.readAt (Elt F) (Rect.unit (s := S) off S.size inb).toLoadRect f = v.read (Elt F) f := View.ld_unit_zero h inb _

omit [FloatOps F] [Named F] in
/-- A store over all of a memref leaves what is stored. -/
theorem read_store_whole {κ' : Kind} {sp : Space} {S : Shape} {e : EltTy} (v : View sig κ' sp S e) (f : v.ty.Contents (Elt F))
    {off : Fin S.rank → ℕ} (h : off = fun _ => 0) (inb) (w : S.Idx → Elt F e) :
    v.read (Elt F) (v.writes (Elt F) f [⟨Rect.unit (s := S) off S.size inb, w⟩]) = w := by
  subst h; exact View.read_writes_whole v f w

set_option maxHeartbeats 1000000 in
/-- One grid point: the eight staged inputs are kept, the two results' buffers hold the softmax block and the table's block. -/
theorem stage1_body (c : Dev nD) (i : grid0.Coords)
    (M0 : Memref sig .tc .vmem S1x3x4000 .f32) (h0 : M0.IsWhole) (M1 : Memref sig .tc .vmem S1x10x4000 .f32) (h1 : M1.IsWhole)
    (M2 : Memref sig .tc .vmem S128x3 .f32) (h2 : M2.IsWhole) (M3 : Memref sig .tc .vmem S128 .f32) (h3 : M3.IsWhole)
    (M4 : Memref sig .tc .vmem S128x128 .f32) (h4 : M4.IsWhole) (M5 : Memref sig .tc .vmem S128 .f32) (h5 : M5.IsWhole)
    (M6 : Memref sig .tc .vmem S4x128 .f32) (h6 : M6.IsWhole) (M7 : Memref sig .tc .vmem S4 .f32) (h7 : M7.IsWhole)
    (M8 : Memref sig .tc .vmem S1x10x4000 .f32) (h8 : M8.IsWhole) (M9 : Memref sig .tc .vmem S1x8x4000 .f32) (h9 : M9.IsWhole)
    (X0 : S1x3x4000.Idx → F .f32) (X1 : S1x10x4000.Idx → F .f32) (X2 : S128x3.Idx → F .f32) (X3 : S128.Idx → F .f32)
    (X4 : S128x128.Idx → F .f32) (X5 : S128.Idx → F .f32) (X6 : S4x128.Idx → F .f32) (X7 : S4.Idx → F .f32)
    (Y8 : S1x10x4000.Idx → F .f32) (Y9 : S1x8x4000.Idx → F .f32) (Q : PUnit → sProp 𝕄) :
    iprop(owns (c : Thread nD τ) M0 fullShare X0 ∗ owns (c : Thread nD τ) M1 fullShare X1 ∗ owns (c : Thread nD τ) M2 fullShare X2
        ∗ owns (c : Thread nD τ) M3 fullShare X3 ∗ owns (c : Thread nD τ) M4 fullShare X4 ∗ owns (c : Thread nD τ) M5 fullShare X5
        ∗ owns (c : Thread nD τ) M6 fullShare X6 ∗ owns (c : Thread nD τ) M7 fullShare X7
        ∗ owns (c : Thread nD τ) M8 fullShare Y8 ∗ owns (c : Thread nD τ) M9 fullShare Y9
        ∗ (iprop(owns (c : Thread nD τ) M0 fullShare X0 ∗ owns (c : Thread nD τ) M1 fullShare X1 ∗ owns (c : Thread nD τ) M2 fullShare X2
          ∗ owns (c : Thread nD τ) M3 fullShare X3 ∗ owns (c : Thread nD τ) M4 fullShare X4 ∗ owns (c : Thread nD τ) M5 fullShare X5
          ∗ owns (c : Thread nD τ) M6 fullShare X6 ∗ owns (c : Thread nD τ) M7 fullShare X7
          ∗ owns (c : Thread nD τ) M8 fullShare (maskOut X1) ∗ owns (c : Thread nD τ) M9 fullShare (auxOut X0 X1 X2 X3 X4 X5 X6 X7)) -∗ Q ⟨⟩))
      ⊢ wp frame (wpE (defs₀ (F := F)) 𝒱₀ (c : Thread nD τ) none) Set.univ
          (cc0__stage1_body i M0 h0 M1 h1 M2 h2 M3 h3 M4 h4 M5 h5 M6 h6 M7 h7 M8 h8 M9 h9) Q := by
  unfold owns
  iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, -, H8⟩, ⟨%f9, -, H9⟩, Hk⟩
  subst e0 e1 e2 e3 e4 e5 e6 e7
  sl_unfold [cc0__stage1_body, k0_part1]
  sl_exec
  sl_step
  iapply Hk
  isplitl [H0]; · iexists _; isplitr; swap; (· iexact H0); ipureintro; rfl
  isplitl [H1]; · iexists _; isplitr; swap; (· iexact H1); ipureintro; rfl
  isplitl [H2]; · iexists _; isplitr; swap; (· iexact H2); ipureintro; rfl
  isplitl [H3]; · iexists _; isplitr; swap; (· iexact H3); ipureintro; rfl
  isplitl [H4]; · iexists _; isplitr; swap; (· iexact H4); ipureintro; rfl
  isplitl [H5]; · iexists _; isplitr; swap; (· iexact H5); ipureintro; rfl
  isplitl [H6]; · iexists _; isplitr; swap; (· iexact H6); ipureintro; rfl
  isplitl [H7]; · iexists _; isplitr; swap; (· iexact H7); ipureintro; rfl
  isplitl [H8]
  · iexists _; isplitr; swap; (· iexact H8); ipureintro
    refine (read_store_whole _ _ zero3 _ _).trans ?_
    rw [← readAt_whole M1.view f1 zero3 inb_S1x10x4000_S1x10x4000_0_0_0]
    rfl
  iexists _; isplitr; swap; (· iexact H9); ipureintro
  refine (read_store_whole _ _ zero3 _ _).trans ?_
  rw [← readAt_whole M0.view f0 zero3 inb_S1x3x4000_S1x3x4000_0_0_0, ← readAt_whole M1.view f1 zero3 inb_S1x10x4000_S1x10x4000_0_0_0,
    ← readAt_whole M2.view f2 zero2 inb_S128x3_S128x3_0_0, ← readAt_whole M3.view f3 zero1 inb_S128_S128_0,
    ← readAt_whole M4.view f4 zero2 inb_S128x128_S128x128_0_0, ← readAt_whole M5.view f5 zero1 inb_S128_S128_0,
    ← readAt_whole M6.view f6 zero2 inb_S4x128_S4x128_0_0, ← readAt_whole M7.view f7 zero1 inb_S4_S4_0]
  rfl

/-! ## The call's proof data, from a valuation of the core's buffers -/

/-- What the TensorCore may have waited on while it is at call `n`. -/
abbrev recd (c : Dev nD) (n : ℕ) : Set (SemLoc sig × HIx 1) :=
  {p | (K (F := F)).lev ((c : Thread nD τ), p.1) p.2 ≤ 8 * (inferInstance : SparseCore.Cfg.Blocks 1 1).fst n}

variable (V₀ : (c : Dev nD) → (b : Ref sig .tc) → Buf (Elt F) ((c : Thread nD τ).loc b))

/-- Window `w`'s block at point `t`, read off its array. -/
def blk0 (c : Dev nD) (w : Fin cfg0.W) (t : Fin cfg0.N) : ((cfg0.win w).xblock (cfg0.grid.coords t)).Idx → Elt F (cfg0.win w).elt :=
  ((cfg0.win w).blk t).view.read (Elt F) (V₀ c (Pipeline.arrRef spec0 w))

def dat0 (c : Dev nD) : Dat τ (Elt F) (HIx 1) ℕ UU ℕ cfg0 c where
  A w := V₀ c (Pipeline.arrRef spec0 w)
  after w t := match w with
    | ⟨0, _⟩ => blk0 V₀ c 0 t
    | ⟨1, _⟩ => blk0 V₀ c 1 t
    | ⟨2, _⟩ => blk0 V₀ c 2 t
    | ⟨3, _⟩ => blk0 V₀ c 3 t
    | ⟨4, _⟩ => blk0 V₀ c 4 t
    | ⟨5, _⟩ => blk0 V₀ c 5 t
    | ⟨6, _⟩ => blk0 V₀ c 6 t
    | ⟨7, _⟩ => blk0 V₀ c 7 t
    | ⟨8, _⟩ => maskOut (blk0 V₀ c 1 t)
    | ⟨9, _⟩ => auxOut (blk0 V₀ c 0 t) (blk0 V₀ c 1 t) (blk0 V₀ c 2 t) (blk0 V₀ c 3 t) (blk0 V₀ c 4 t) (blk0 V₀ c 5 t) (blk0 V₀ c 6 t) (blk0 V₀ c 7 t)
  Φ _ := Pipeline.scopedRest (Ix := HIx 1) (Name := ℕ) (U := UU) (Lvl := ℕ) (Val := Elt F) spec0 c
  q _ := fullShare
  owed _ := (K (F := F)).Otc c 0
  recorded _ := recd (F := F) c 0

theorem before0_0 (c : Dev nD) (t : Fin cfg0.N) (d) : (dat0 V₀ c).before 0 t d = blk0 V₀ c 0 t :=
  (dat0 V₀ c).before_in_eq_fetched 0 rfl (fun _ => rfl) (fun _ _ _ => rfl) (fun _ => rfl) t d
theorem before0_1 (c : Dev nD) (t : Fin cfg0.N) (d) : (dat0 V₀ c).before 1 t d = blk0 V₀ c 1 t :=
  (dat0 V₀ c).before_in_eq_fetched 1 rfl (fun _ => rfl) (fun _ _ _ => rfl) (fun _ => rfl) t d
theorem before0_2 (c : Dev nD) (t : Fin cfg0.N) (d) : (dat0 V₀ c).before 2 t d = blk0 V₀ c 2 t :=
  (dat0 V₀ c).before_in_eq_fetched 2 rfl (fun _ => rfl) (fun _ _ _ => rfl) (fun _ => rfl) t d
theorem before0_3 (c : Dev nD) (t : Fin cfg0.N) (d) : (dat0 V₀ c).before 3 t d = blk0 V₀ c 3 t :=
  (dat0 V₀ c).before_in_eq_fetched 3 rfl (fun _ => rfl) (fun _ _ _ => rfl) (fun _ => rfl) t d
theorem before0_4 (c : Dev nD) (t : Fin cfg0.N) (d) : (dat0 V₀ c).before 4 t d = blk0 V₀ c 4 t :=
  (dat0 V₀ c).before_in_eq_fetched 4 rfl (fun _ => rfl) (fun _ _ _ => rfl) (fun _ => rfl) t d
theorem before0_5 (c : Dev nD) (t : Fin cfg0.N) (d) : (dat0 V₀ c).before 5 t d = blk0 V₀ c 5 t :=
  (dat0 V₀ c).before_in_eq_fetched 5 rfl (fun _ => rfl) (fun _ _ _ => rfl) (fun _ => rfl) t d
theorem before0_6 (c : Dev nD) (t : Fin cfg0.N) (d) : (dat0 V₀ c).before 6 t d = blk0 V₀ c 6 t :=
  (dat0 V₀ c).before_in_eq_fetched 6 rfl (fun _ => rfl) (fun _ _ _ => rfl) (fun _ => rfl) t d
theorem before0_7 (c : Dev nD) (t : Fin cfg0.N) (d) : (dat0 V₀ c).before 7 t d = blk0 V₀ c 7 t :=
  (dat0 V₀ c).before_in_eq_fetched 7 rfl (fun _ => rfl) (fun _ _ _ => rfl) (fun _ => rfl) t d

/-- The body table's row is the body at the point's staging buffers. -/
theorem defs₀_row0 (t : Fin cfg0.N) : defs₀ (F := F) .tc cfg0.body (cfg0.bodyArgs t (cfg0.slots t)) = bodyAt0 t := rfl

/-- The body obligation of the first call. -/
theorem obligation0 (c : Dev nD) : BodyObligation (dat0 V₀ c) (defs₀ (F := F)) 𝒱₀ none Set.univ := fun t => by
  rw [bigSep_W0, bigSep_W0, defs₀_row0]
  simp only [before0_0, before0_1, before0_2, before0_3, before0_4, before0_5, before0_6, before0_7]
  rw [show (dat0 V₀ c).Φ t.succ = (dat0 V₀ c).Φ t.castSucc from rfl, show (dat0 V₀ c).owesAt none t.succ = (dat0 V₀ c).owesAt none t.castSucc from rfl,
    show (dat0 V₀ c).after 0 t = blk0 V₀ c 0 t from rfl, show (dat0 V₀ c).after 1 t = blk0 V₀ c 1 t from rfl,
    show (dat0 V₀ c).after 2 t = blk0 V₀ c 2 t from rfl, show (dat0 V₀ c).after 3 t = blk0 V₀ c 3 t from rfl,
    show (dat0 V₀ c).after 4 t = blk0 V₀ c 4 t from rfl, show (dat0 V₀ c).after 5 t = blk0 V₀ c 5 t from rfl,
    show (dat0 V₀ c).after 6 t = blk0 V₀ c 6 t from rfl, show (dat0 V₀ c).after 7 t = blk0 V₀ c 7 t from rfl,
    show (dat0 V₀ c).after 8 t = maskOut (blk0 V₀ c 1 t) from rfl,
    show (dat0 V₀ c).after 9 t = auxOut (blk0 V₀ c 0 t) (blk0 V₀ c 1 t) (blk0 V₀ c 2 t) (blk0 V₀ c 3 t) (blk0 V₀ c 4 t) (blk0 V₀ c 5 t) (blk0 V₀ c 6 t) (blk0 V₀ c 7 t) from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (stage1_body c (grid0.coords t) _ _ _ _ _ _ _ _ _ _ _ _ _ _ _ _ _ _ _ _ (blk0 V₀ c 0 t) (blk0 V₀ c 1 t) (blk0 V₀ c 2 t) (blk0 V₀ c 3 t) (blk0 V₀ c 4 t) (blk0 V₀ c 5 t) (blk0 V₀ c 6 t) (blk0 V₀ c 7 t) _ _ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

end Cert.KernelIdeal.Prf

end
-- ==== Proof.Stage2.lean ====
/-
  The last TensorCore call at one grid point. Its first point takes the maxima and minima of the segment kernel's 32 rows over
  the rows and the lanes into two scratch buffers; every point reads its class's centre from them, turns the point about that
  centre and writes the flow, the translation and the angle.
-/
module

public import proofs.«01_k».proof.Proof.Stage1
public import proofs.«01_k».proof.Proof.Gen.KernelIdeal.Points

@[expose] public section

noncomputable section

namespace Cert.KernelIdeal.Prf

open Cert.KernelIdeal Cert.KernelIdeal.Gen

open Idealize.ShloMosaic Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Pipeline (Dat Cfg Window BodyObligation)

variable {F : FTy → Type} [FloatOps F] [Named F]

local notation "𝕄" => MT nD τ sig (HIx 1) (Elt F) ℕ UU ℕ

theorem row_inb (w : Fin 32) : ∀ a, (![w.val, 0, 0, 0] : Fin 4 → ℕ) a + S1x10x3x16.size a ≤ S32x10x3x16.size a := by decide +revert
theorem cell_inb (i : Fin 10) (k : Fin 3) : ∀ a, (![i.val, k.val] : Fin 2 → ℕ) a + S1x1.size a ≤ S10x3.size a := by decide +revert

/-- Row `w` of one of the segment kernel's results. -/
noncomputable def partRow (P : S32x10x3x16.Idx → F .f32) (w : Fin 32) : FVec F S10x3x16 .f32 :=
  shapeCast S10x3x16 (fun y => P ((Rect.unit (s := S32x10x3x16) ![w.val, 0, 0, 0] S1x10x3x16.size (row_inb w)).idx y) : FVec F S1x10x3x16 .f32) shapeCasts_S1x10x3x16_S10x3x16

noncomputable def rows : List (Fin 32) := [1, 2, 3, 4, 5, 6, 7, 8, 9, 10, 11, 12, 13, 14, 15, 16, 17, 18, 19, 20, 21, 22, 23, 24, 25, 26, 27, 28, 29, 30, 31]

/-- The maximum over the 32 rows and the lanes, and the minimum. -/
noncomputable def maxAll (P : S32x10x3x16.Idx → F .f32) : FVec F S10x3 .f32 :=
  shapeCast S10x3 (multiReduction .maximumf [2] S10x3 (rows.foldl (fun a w => maximumf a (partRow P w)) (partRow P 0)) 0xFF800000#32 reduces_S10x3x16_S10x3 (.inl rfl) rfl : FVec F S10x3 .f32) shapeCasts_S10x3_S10x3
noncomputable def minAll (P : S32x10x3x16.Idx → F .f32) : FVec F S10x3 .f32 :=
  shapeCast S10x3 (multiReduction .minimumf [2] S10x3 (rows.foldl (fun a w => minimumf a (partRow P w)) (partRow P 0)) 0x7F800000#32 reduces_S10x3x16_S10x3 (.inl rfl) rfl : FVec F S10x3 .f32) shapeCasts_S10x3_S10x3

/-- The centre's coordinate `k` of class `i`: half the sum of the maximum and the minimum, zero if the class has no point. -/
noncomputable def centre (vm vn : S10x3.Idx → F .f32) (i : Fin 10) (k : Fin 3) : F .f32 :=
  let at' := fun V : S10x3.Idx → F .f32 => extractAt ![0, 0] (fun y => V ((Rect.unit (s := S10x3) ![i.val, k.val] S1x1.size (cell_inb i k)).idx y) : FVec F S1x1 .f32) inpos_S1x1_p0_0
  Scalar.select (Scalar.cmpf .oge (at' vm) (at' vn)) (Scalar.mulf (Scalar.addf (at' vm) (at' vn)) (Scalar.ofBits .f32 0x3F000000#32)) (Scalar.ofBits .f32 0x00000000#32)

/-- Each point's centre, coordinate `k`, by its class. -/
noncomputable def centres (vm vn : S10x3.Idx → F .f32) (ind : FVec F S1x4000 .f32) (k : Fin 3) : FVec F S1x4000 .f32 :=
  ([0, 1, 2, 3, 4, 5, 6, 7, 8, 9] : List (Fin 10)).foldl (fun a i => select (cmpf .oeq ind (broadcast S1x4000 (Scalar.ofBits .f32 (labBits i)))) (broadcast S1x4000 (centre vm vn i k)) a)
    (broadcast S1x4000 (Scalar.ofBits .f32 0x00000000#32))

/-- The three results' blocks of one grid point. -/
noncomputable def flowOut (X : S1x8x4000.Idx → F .f32) (vm vn : S10x3.Idx → F .f32) : S1x3x4000.Idx → F .f32 :=
  k2_pay77 (k2_pay18 X) (k2_pay19 X) (k2_pay20 X) (k2_pay21 X) (k2_pay22 X) (centres vm vn (k2_pay23 X) 0) (centres vm vn (k2_pay23 X) 1) (centres vm vn (k2_pay23 X) 2)
    (subf (k2_pay20 X) (centres vm vn (k2_pay23 X) 0)) (subf (k2_pay21 X) (centres vm vn (k2_pay23 X) 1)) (subf (k2_pay22 X) (centres vm vn (k2_pay23 X) 2))
    (k2_pay74 (k2_pay19 X)) (k2_pay75 (k2_pay19 X)) (k2_pay76 (k2_pay19 X))
noncomputable def tOut (X : S1x8x4000.Idx → F .f32) : S1x3x4000.Idx → F .f32 := k2_pay1 (k2_pay78 (k2_pay18 X))
noncomputable def yawOut (X : S1x8x4000.Idx → F .f32) : S1x1x4000.Idx → F .f32 := k2_pay2 (k2_pay18 X)

set_option maxHeartbeats 4000000 in
/-- A later grid point: the scratch buffers are read. -/
theorem stage2_later (c : Dev nD) (i : grid2.Coords)
    (M1 : Memref sig .tc .vmem S1x8x4000 .f32) (h1 : M1.IsWhole) (M2 : Memref sig .tc .vmem S32x10x3x16 .f32) (h2 : M2.IsWhole)
    (M3 : Memref sig .tc .vmem S32x10x3x16 .f32) (h3 : M3.IsWhole) (M4 : Memref sig .tc .vmem S1x3x4000 .f32) (h4 : M4.IsWhole)
    (M5 : Memref sig .tc .vmem S1x3x4000 .f32) (h5 : M5.IsWhole) (M6 : Memref sig .tc .vmem S1x1x4000 .f32) (h6 : M6.IsWhole)
    (M7 : Memref sig .tc .vmem S10x3 .f32) (h7 : M7.IsWhole) (M8 : Memref sig .tc .vmem S10x3 .f32) (h8 : M8.IsWhole)
    (X1 : S1x8x4000.Idx → F .f32) (X2 X3 : S32x10x3x16.Idx → F .f32) (Y4 Y5 : S1x3x4000.Idx → F .f32) (Y6 : S1x1x4000.Idx → F .f32)
    (Y7 Y8 : S10x3.Idx → F .f32) (Q : PUnit → sProp 𝕄) (hc : ¬ Scalar.cmpi .ne (Scalar.extui (Scalar.cmpi .eq (BitVec.ofNat 32 (i 0).val) 0#32) : BitVec 32) 0#32 = 1#1) :
    iprop(owns (c : Thread nD τ) M1 fullShare X1 ∗ owns (c : Thread nD τ) M2 fullShare X2 ∗ owns (c : Thread nD τ) M3 fullShare X3 ∗ owns (c : Thread nD τ) M4 fullShare Y4 ∗ owns (c : Thread nD τ) M5 fullShare Y5 ∗ owns (c : Thread nD τ) M6 fullShare Y6 ∗ owns (c : Thread nD τ) M7 fullShare Y7 ∗ owns (c : Thread nD τ) M8 fullShare Y8
        ∗ (iprop(owns (c : Thread nD τ) M1 fullShare X1 ∗ owns (c : Thread nD τ) M2 fullShare X2 ∗ owns (c : Thread nD τ) M3 fullShare X3 ∗ owns (c : Thread nD τ) M4 fullShare (flowOut X1 Y7 Y8) ∗ owns (c : Thread nD τ) M5 fullShare (tOut X1) ∗ owns (c : Thread nD τ) M6 fullShare (yawOut X1) ∗ owns (c : Thread nD τ) M7 fullShare Y7 ∗ owns (c : Thread nD τ) M8 fullShare Y8) -∗ Q ⟨⟩))
      ⊢ wp frame (wpE (defs₀ (F := F)) 𝒱₀ (c : Thread nD τ) none) Set.univ
          (cc2__stage2_body i M1 h1 M2 h2 M3 h3 M4 h4 M5 h5 M6 h6 M7 h7 M8 h8) Q := by
  unfold owns
  iintro ⟨⟨%f1, %e1, H1⟩, ⟨%f2, %e2, H2⟩, ⟨%f3, %e3, H3⟩, ⟨%f4, -, H4⟩, ⟨%f5, -, H5⟩, ⟨%f6, -, H6⟩, ⟨%f7, %e7, H7⟩, ⟨%f8, %e8, H8⟩, Hk⟩
  subst e1 e2 e3 e7 e8
  sl_unfold [cc2__stage2_body, k2_part8, k2_part1, k2_part2, k2_part3, k2_part4, k2_part5, k2_part6, k2_part7, k2_part9, k2_part10, k2_part11, k2_part12, k2_part13, k2_part14, k2_part15, k2_part16, k2_part17]
  sl_exec
  sl_step
  iapply Hk
  isplitl [H1]; · iexists _; isplitr; swap; (· iexact H1); ipureintro; rfl
  isplitl [H2]; · iexists _; isplitr; swap; (· iexact H2); ipureintro; rfl
  isplitl [H3]; · iexists _; isplitr; swap; (· iexact H3); ipureintro; rfl
  isplitl [H4]
  · iexists _; isplitr; swap; (· iexact H4); ipureintro
    refine (read_store_whole _ _ zero3 _ _).trans ?_
    rw [← readAt_whole M1.view f1 zero3 inb_S1x8x4000_S1x8x4000_0_0_0]
    rfl
  isplitl [H5]
  · iexists _; isplitr; swap; (· iexact H5); ipureintro
    refine (read_store_whole _ _ zero3 _ _).trans ?_
    rw [← readAt_whole M1.view f1 zero3 inb_S1x8x4000_S1x8x4000_0_0_0]
    rfl
  isplitl [H6]
  · iexists _; isplitr; swap; (· iexact H6); ipureintro
    refine (read_store_whole _ _ zero3 _ _).trans ?_
    rw [← readAt_whole M1.view f1 zero3 inb_S1x8x4000_S1x8x4000_0_0_0]
    rfl
  isplitl [H7]; · iexists _; isplitr; swap; (· iexact H7); ipureintro; rfl
  iexists _; isplitr; swap; (· iexact H8); ipureintro; rfl

set_option maxHeartbeats 4000000 in
/-- The first grid point: the scratch buffers are filled, then read. -/
theorem stage2_first (c : Dev nD) (i : grid2.Coords)
    (M1 : Memref sig .tc .vmem S1x8x4000 .f32) (h1 : M1.IsWhole) (M2 : Memref sig .tc .vmem S32x10x3x16 .f32) (h2 : M2.IsWhole)
    (M3 : Memref sig .tc .vmem S32x10x3x16 .f32) (h3 : M3.IsWhole) (M4 : Memref sig .tc .vmem S1x3x4000 .f32) (h4 : M4.IsWhole)
    (M5 : Memref sig .tc .vmem S1x3x4000 .f32) (h5 : M5.IsWhole) (M6 : Memref sig .tc .vmem S1x1x4000 .f32) (h6 : M6.IsWhole)
    (M7 : Memref sig .tc .vmem S10x3 .f32) (h7 : M7.IsWhole) (M8 : Memref sig .tc .vmem S10x3 .f32) (h8 : M8.IsWhole)
    (X1 : S1x8x4000.Idx → F .f32) (X2 X3 : S32x10x3x16.Idx → F .f32) (Y4 Y5 : S1x3x4000.Idx → F .f32) (Y6 : S1x1x4000.Idx → F .f32)
    (Y7 Y8 : S10x3.Idx → F .f32) (Q : PUnit → sProp 𝕄) (hc : Scalar.cmpi .ne (Scalar.extui (Scalar.cmpi .eq (BitVec.ofNat 32 (i 0).val) 0#32) : BitVec 32) 0#32 = 1#1) :
    iprop(owns (c : Thread nD τ) M1 fullShare X1 ∗ owns (c : Thread nD τ) M2 fullShare X2 ∗ owns (c : Thread nD τ) M3 fullShare X3 ∗ owns (c : Thread nD τ) M4 fullShare Y4 ∗ owns (c : Thread nD τ) M5 fullShare Y5 ∗ owns (c : Thread nD τ) M6 fullShare Y6 ∗ owns (c : Thread nD τ) M7 fullShare Y7 ∗ owns (c : Thread nD τ) M8 fullShare Y8
        ∗ (iprop(owns (c : Thread nD τ) M1 fullShare X1 ∗ owns (c : Thread nD τ) M2 fullShare X2 ∗ owns (c : Thread nD τ) M3 fullShare X3 ∗ owns (c : Thread nD τ) M4 fullShare (flowOut X1 (maxAll X2) (minAll X3)) ∗ owns (c : Thread nD τ) M5 fullShare (tOut X1) ∗ owns (c : Thread nD τ) M6 fullShare (yawOut X1) ∗ owns (c : Thread nD τ) M7 fullShare (maxAll X2) ∗ owns (c : Thread nD τ) M8 fullShare (minAll X3)) -∗ Q ⟨⟩))
      ⊢ wp frame (wpE (defs₀ (F := F)) 𝒱₀ (c : Thread nD τ) none) Set.univ
          (cc2__stage2_body i M1 h1 M2 h2 M3 h3 M4 h4 M5 h5 M6 h6 M7 h7 M8 h8) Q := by
  unfold owns
  iintro ⟨⟨%f1, %e1, H1⟩, ⟨%f2, %e2, H2⟩, ⟨%f3, %e3, H3⟩, ⟨%f4, -, H4⟩, ⟨%f5, -, H5⟩, ⟨%f6, -, H6⟩, ⟨%f7, %e7, H7⟩, ⟨%f8, %e8, H8⟩, Hk⟩
  subst e1 e2 e3 e7 e8
  sl_unfold [cc2__stage2_body, k2_part8, k2_part1, k2_part2, k2_part3, k2_part4, k2_part5, k2_part6, k2_part7, k2_part9, k2_part10, k2_part11, k2_part12, k2_part13, k2_part14, k2_part15, k2_part16, k2_part17]
  sl_exec
  sl_step
  iapply Hk
  isplitl [H1]; · iexists _; isplitr; swap; (· iexact H1); ipureintro; rfl
  isplitl [H2]; · iexists _; isplitr; swap; (· iexact H2); ipureintro; rfl
  isplitl [H3]; · iexists _; isplitr; swap; (· iexact H3); ipureintro; rfl
  have e7 : ∀ f, M7.view.read (Elt F) (M7.view.writes (Elt F) f (stage2_first.sl.H7_1 c M2 f2)) = maxAll (M2.view.read (Elt F) f2) := fun f =>
    (read_store_whole _ _ zero2 _ _).trans rfl
  have e8 : ∀ f, M8.view.read (Elt F) (M8.view.writes (Elt F) f (stage2_first.sl.H8_1 c M3 f3)) = minAll (M3.view.read (Elt F) f3) := fun f =>
    (read_store_whole _ _ zero2 _ _).trans rfl
  isplitl [H4]
  · iexists _; isplitr; swap; (· iexact H4); ipureintro
    refine (read_store_whole _ _ zero3 _ _).trans ?_
    rw [← readAt_whole M1.view f1 zero3 inb_S1x8x4000_S1x8x4000_0_0_0, ← e7 M7.view.junk, ← e8 M8.view.junk]
    rfl
  isplitl [H5]
  · iexists _; isplitr; swap; (· iexact H5); ipureintro
    refine (read_store_whole _ _ zero3 _ _).trans ?_
    rw [← readAt_whole M1.view f1 zero3 inb_S1x8x4000_S1x8x4000_0_0_0]
    rfl
  isplitl [H6]
  · iexists _; isplitr; swap; (· iexact H6); ipureintro
    refine (read_store_whole _ _ zero3 _ _).trans ?_
    rw [← readAt_whole M1.view f1 zero3 inb_S1x8x4000_S1x8x4000_0_0_0]
    rfl
  isplitl [H7]; · iexists _; isplitr; swap; (· iexact H7); ipureintro; exact e7 f7
  iexists _; isplitr; swap; (· iexact H8); ipureintro; exact e8 f8

/-! ## The call's proof data -/

variable (V₀ : (c : Dev nD) → (b : Ref sig .tc) → Buf (Elt F) ((c : Thread nD τ).loc b))

/-- Window `w`'s block at point `t`, read off its array. -/
noncomputable def blk2 (c : Dev nD) (w : Fin cfg2.W) (t : Fin cfg2.N) : ((cfg2.win w).xblock (cfg2.grid.coords t)).Idx → Elt F (cfg2.win w).elt :=
  ((cfg2.win w).blk t).view.read (Elt F) (V₀ c (Pipeline.arrRef spec2 w))

/-- The first grid point. -/
noncomputable abbrev first2 : Fin cfg2.N := ⟨0, show 0 < grid2.N by rw [N_2]; decide⟩

/-- The maxima and the minima the first point leaves in the scratch buffers. -/
noncomputable abbrev vmx (c : Dev nD) : S10x3.Idx → F .f32 := maxAll (blk2 V₀ c 1 first2)
noncomputable abbrev vmn (c : Dev nD) : S10x3.Idx → F .f32 := minAll (blk2 V₀ c 2 first2)

local notation "scr0" => (Memref.whole Cert.KernelIdeal.cc2_scratch0 : Memref Cert.KernelIdeal.sig Kind.tc Space.vmem Cert.KernelIdeal.S10x3 EltTy.f32)
local notation "scr1" => (Memref.whole Cert.KernelIdeal.cc2_scratch1 : Memref Cert.KernelIdeal.sig Kind.tc Space.vmem Cert.KernelIdeal.S10x3 EltTy.f32)
local notation "rest2" c => (Pipeline.scopedRest (Ix := HIx 1) (Name := ℕ) (U := UU) (Lvl := ℕ) (Val := Elt F) spec2 c : sProp (MT nD τ sig (HIx 1) (Elt F) ℕ UU ℕ))

/-- The core's scoped buffers before point `t`: after the first point the two scratch buffers hold the maxima and minima. -/
noncomputable def scratch2 (c : Dev nD) (t : ℕ) : sProp 𝕄 :=
  iprop(∃ s7 : S10x3.Idx → F .f32, ∃ s8 : S10x3.Idx → F .f32, ⌜0 < t → s7 = vmx V₀ c ∧ s8 = vmn V₀ c⌝
    ∗ owns (c : Thread nD τ) scr0 fullShare s7 ∗ owns (c : Thread nD τ) scr1 fullShare s8
    ∗ ((∃ f : Buf (Elt F) ((c : Thread nD τ).loc cc2_scratch0), ((c : Thread nD τ).loc cc2_scratch0) ↦{fullShare} f)
        -∗ (∃ f : Buf (Elt F) ((c : Thread nD τ).loc cc2_scratch1), ((c : Thread nD τ).loc cc2_scratch1) ↦{fullShare} f) -∗ rest2 c))

theorem scratch2_start (c : Dev nD) : (rest2 c) ⊢ scratch2 V₀ c 0 := by
  unfold scratch2 owns
  rw [scopedRest2_eq]
  iintro ⟨R0, R1, R2, R3, R4, R5, R6, R7, R8, R9, R10, R11, R12, R13, ⟨%f0, S0⟩, ⟨%f1, S1⟩⟩
  iexists (scr0).view.read (Elt F) f0, (scr1).view.read (Elt F) f1
  isplitr; · ipureintro; exact fun h => absurd h (Nat.lt_irrefl 0)
  isplitl [S0]; · iexists f0; isplitr; · ipureintro; rfl
                  iexact S0
  isplitl [S1]; · iexists f1; isplitr; · ipureintro; rfl
                  iexact S1
  iintro S0 S1
  iframe

theorem scratch2_end (c : Dev nD) (t : ℕ) : scratch2 V₀ c t ⊢ (rest2 c) := by
  unfold scratch2 owns
  iintro ⟨%s7, %s8, -, ⟨%f0, -, S0⟩, ⟨%f1, -, S1⟩, Hw⟩
  ispecialize Hw $$ [S0]; · iexists f0; iexact S0
  ispecialize Hw $$ [S1]; · iexists f1; iexact S1
  iexact Hw

noncomputable def dat2 (c : Dev nD) : Dat τ (Elt F) (HIx 1) ℕ UU ℕ cfg2 c where
  A w := V₀ c (Pipeline.arrRef spec2 w)
  after w t := match w with
    | ⟨0, _⟩ => blk2 V₀ c 0 t
    | ⟨1, _⟩ => blk2 V₀ c 1 t
    | ⟨2, _⟩ => blk2 V₀ c 2 t
    | ⟨3, _⟩ => flowOut (blk2 V₀ c 0 t) (vmx V₀ c) (vmn V₀ c)
    | ⟨4, _⟩ => tOut (blk2 V₀ c 0 t)
    | ⟨5, _⟩ => yawOut (blk2 V₀ c 0 t)
  Φ t := scratch2 V₀ c t.val
  q _ := fullShare
  owed _ := (K (F := F)).Otc c 1
  recorded _ := recd (F := F) c 1

theorem before2_0 (c : Dev nD) (t : Fin cfg2.N) (d) : (dat2 V₀ c).before 0 t d = blk2 V₀ c 0 t :=
  (dat2 V₀ c).before_in_eq_fetched 0 rfl (fun _ => rfl) (fun _ _ _ => rfl) (fun _ => rfl) t d
theorem before2_1 (c : Dev nD) (t : Fin cfg2.N) (d) : (dat2 V₀ c).before 1 t d = blk2 V₀ c 1 t :=
  (dat2 V₀ c).before_in_eq_fetched 1 rfl (fun _ => rfl) (fun _ _ _ => rfl) (fun _ => rfl) t d
theorem before2_2 (c : Dev nD) (t : Fin cfg2.N) (d) : (dat2 V₀ c).before 2 t d = blk2 V₀ c 2 t :=
  (dat2 V₀ c).before_in_eq_fetched 2 rfl (fun _ => rfl) (fun _ _ _ => rfl) (fun _ => rfl) t d

theorem defs₀_row2 (t : Fin cfg2.N) : defs₀ (F := F) .tc cfg2.body (cfg2.bodyArgs t (cfg2.slots t)) = bodyAt2 t := rfl

theorem first_iff : ∀ t : Fin cfg2.N, Scalar.cmpi .ne (Scalar.extui (Scalar.cmpi .eq (BitVec.ofNat 32 ((grid2.coords t) 0).val) 0#32) : BitVec 32) 0#32 = 1#1 ↔ t.val = 0 := by
  decide +kernel

theorem blk2_1_const (c : Dev nD) (t : Fin cfg2.N) : blk2 V₀ c 1 t = blk2 V₀ c 1 first2 := rfl
theorem blk2_2_const (c : Dev nD) (t : Fin cfg2.N) : blk2 V₀ c 2 t = blk2 V₀ c 2 first2 := rfl

/-- The body obligation of the last call. -/
theorem obligation2 (c : Dev nD) : BodyObligation (dat2 V₀ c) (defs₀ (F := F)) 𝒱₀ none Set.univ := fun t => by
  rw [bigSep_W2, bigSep_W2, defs₀_row2]
  simp only [before2_0, before2_1, before2_2]
  rw [show (dat2 V₀ c).Φ t.succ = scratch2 V₀ c (t.val + 1) from rfl, show (dat2 V₀ c).Φ t.castSucc = scratch2 V₀ c t.val from rfl,
    show (dat2 V₀ c).owesAt none t.succ = (dat2 V₀ c).owesAt none t.castSucc from rfl,
    show (dat2 V₀ c).after 0 t = blk2 V₀ c 0 t from rfl, show (dat2 V₀ c).after 1 t = blk2 V₀ c 1 t from rfl,
    show (dat2 V₀ c).after 2 t = blk2 V₀ c 2 t from rfl,
    show (dat2 V₀ c).after 3 t = flowOut (blk2 V₀ c 0 t) (vmx V₀ c) (vmn V₀ c) from rfl,
    show (dat2 V₀ c).after 4 t = tOut (blk2 V₀ c 0 t) from rfl, show (dat2 V₀ c).after 5 t = yawOut (blk2 V₀ c 0 t) from rfl]
  rw [show scratch2 V₀ c t.val = _ from scratch2.eq_1 V₀ c t.val, show scratch2 V₀ c (t.val + 1) = _ from scratch2.eq_1 V₀ c (t.val + 1)]
  iintro ⟨⟨%s7, %s8, %hs, H6, H7, Hw⟩, Ho, ⟨%d0, H0⟩, ⟨%d1, H1⟩, ⟨%d2, H2⟩, ⟨%d3, H3⟩, ⟨%d4, H4⟩, ⟨%d5, H5⟩⟩
  by_cases ht : t.val = 0
  · iapply (stage2_first c (grid2.coords t) _ _ _ _ _ _ _ _ _ _ _ _ scr0 (Memref.isWhole_whole _) scr1 (Memref.isWhole_whole _)
      (blk2 V₀ c 0 t) (blk2 V₀ c 1 t) (blk2 V₀ c 2 t) _ _ _ s7 s8 _ ((first_iff t).mpr ht))
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iintro ⟨H0, H1, H2, H3, H4, H5, H6, H7⟩
    isplitl [H6 H7 Hw]
    · iexists vmx V₀ c, vmn V₀ c
      isplitr; · ipureintro; exact fun _ => ⟨rfl, rfl⟩
      isplitl [H6]; · iexact H6
      isplitl [H7]; · iexact H7
      iexact Hw
    isplitl [Ho]; · iexact Ho
    isplitl [H0]; · iexact H0
    isplitl [H1]; · iexact H1
    isplitl [H2]; · iexact H2
    isplitl [H3]; · iexact H3
    isplitl [H4]; · iexact H4
    iexact H5
  · obtain ⟨rfl, rfl⟩ := hs (Nat.pos_of_ne_zero ht)
    iapply (stage2_later c (grid2.coords t) _ _ _ _ _ _ _ _ _ _ _ _ scr0 (Memref.isWhole_whole _) scr1 (Memref.isWhole_whole _)
      (blk2 V₀ c 0 t) (blk2 V₀ c 1 t) (blk2 V₀ c 2 t) _ _ _ (vmx V₀ c) (vmn V₀ c) _ (fun h => ht ((first_iff t).mp h)))
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iintro ⟨H0, H1, H2, H3, H4, H5, H6, H7⟩
    isplitl [H6 H7 Hw]
    · iexists vmx V₀ c, vmn V₀ c
      isplitr; · ipureintro; exact fun _ => ⟨rfl, rfl⟩
      isplitl [H6]; · iexact H6
      isplitl [H7]; · iexact H7
      iexact Hw
    isplitl [Ho]; · iexact Ho
    isplitl [H0]; · iexact H0
    isplitl [H1]; · iexact H1
    isplitl [H2]; · iexact H2
    isplitl [H3]; · iexact H3
    isplitl [H4]; · iexact H4
    iexact H5

end Cert.KernelIdeal.Prf

end
-- ==== Proof.Regions.lean ====
/-
  The two TensorCore calls as steps of @main: each is entered with every array of the program held at a valuation and left with
  the arrays held at that valuation updated at the call's results.
-/
module

public import proofs.«01_k».proof.Proof.Stage2
public import Idealize.ShloMosaic.Lib.Pipeline.RegionsLoop

@[expose] public section

noncomputable section

namespace Cert.KernelIdeal.Prf

open Cert.KernelIdeal Cert.KernelIdeal.Gen

open Idealize.ShloMosaic Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation)

variable {F : FTy → Type} [FloatOps F] [Named F]

local notation "𝕄" => MT nD τ sig (HIx 1) (Elt F) ℕ UU ℕ

/-! ## The pipelines' part of the resource algebra -/

omit [FloatOps F] [Named F] in
/-- The pipelines' rounds: the first factor of the second. -/
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb

omit [FloatOps F] [Named F] in
instance EP_landsIn : (EP (F := F) : Emb UP 𝕄).LandsIn (upEmb : UEmb _ 𝕄) := by unfold EP; infer_instance

abbrev adm : (p : Fin 2) → (pcfgs (F := F) p).Adm := fun p => (cfgs p).toPCfg_adm
abbrev pins : Fin 2 → Cfg sig Λ₀ := Pipeline.pin (pcfgs (F := F)) adm

theorem pins_inj : Function.Injective (Pipeline.cellOf (nD := nD) (τ := τ) (pins (F := F))) := cellOf_inj

/-! ## The arrays held at a valuation -/

/-- The arrays of the program: the TensorCore's buffers that outlive its calls. -/
def ucRefs : Finset (DevRef τ sig) := (StableHlo.tcRefs τ sig).filter fun b => ¬ b.isScoped

omit [FloatOps F] [Named F] in
theorem unscopedBufs_held (c : Dev nD) (W : Valuation τ sig (Elt F)) :
    (unscopedBufs c (fun b => W b) : sProp 𝕄) = StableHlo.held (c : Thread nD τ) ucRefs W := by
  unfold unscopedBufs StableHlo.held ucRefs StableHlo.tcRefs
  rw [Finset.filter_map, bigSep_map]
  rfl

variable [∀ e, Nonempty (Elt F e)]

/-- Proof data standing for the call a region is not about. -/
def idleDat {cfg : Cfg sig Λ₀} (c : Dev nD) : Dat τ (Elt F) (HIx 1) ℕ UU ℕ cfg c where
  A _ := fun _ => Classical.arbitrary _
  after _ _ := fun _ => Classical.arbitrary _
  Φ _ := BI.emp
  q _ := fullShare
  owed _ := 0

variable (V : (c : Dev nD) → (b : Ref sig .tc) → Buf (Elt F) ((c : Thread nD τ).loc b))

/-- The proof data of the first call, and of the last, from the arrays at a valuation. -/
def dats0 : (p : Fin 2) → (c : Dev nD) → Dat τ (Elt F) (HIx 1) ℕ UU ℕ (pins (F := F) p) c
  | ⟨0, _⟩ => fun c => dat0 V c
  | ⟨1, _⟩ => fun c => idleDat c
def dats2 : (p : Fin 2) → (c : Dev nD) → Dat τ (Elt F) (HIx 1) ℕ UU ℕ (pins (F := F) p) c
  | ⟨0, _⟩ => fun c => idleDat c
  | ⟨1, _⟩ => fun c => dat2 V c

/-- What the TensorCore owes before SparseCore call `n`, having waited only on what lies below it. -/
abbrev owesBelow (c : Dev nD) (n : ℕ) : sProp 𝕄 :=
  iprop(∃ W, ⌜(K (F := F)).WBelow (c : Thread nD τ) W (8 * (inferInstance : SparseCore.Cfg.Blocks 1 1).fst n)⌝
    ∗ owes (c : Thread nD τ) ((K (F := F)).Otc c n) W)

theorem Otc_none (c : Dev nD) (n : ℕ) (g : GSem nD τ sig) : (K (F := F)).Otc c n g none = 0 := by
  by_contra h
  have h1 := (K (F := F)).lev_of_Otc_pos (Nat.pos_of_ne_zero h)
  have h2 : (K (F := F)).lev g none = 0 := rfl
  omega

/-- The pairs a pipeline's loop waits at lie below everything. -/
theorem below_of_bound (c : Dev nD) (n : ℕ) (cfg : Cfg sig Λ₀) (W : Waits sig (HIx 1))
    (h : (↑W : Set (SemLoc sig × HIx 1)) ⊆ recd (F := F) c n ∪ cfg.waitPairs none) :
    (K (F := F)).WBelow (c : Thread nD τ) W (8 * (inferInstance : SparseCore.Cfg.Blocks 1 1).fst n) := by
  intro p hp
  rcases h hp with h | ⟨w, s, h⟩
  · exact h
  · subst h; exact Nat.zero_le _

set_option backward.isDefEq.respectTransparency.types false in
/-- The first call as a region of @main. -/
def reg0 (Vp : (c : Dev nD) → (b : Ref sig .tc) → Buf (Elt F) ((c : Thread nD τ).loc b))
    (h8 : ∀ c, Vp c main_v7_0 = (dat0 V c).arrAt 8 cfg0.N) (h9 : ∀ c, Vp c main_v7_1 = (dat0 V c).arrAt 9 cfg0.N)
    (hne : ∀ c (b : Ref sig .tc), b ≠ main_v7_0 → b ≠ main_v7_1 → Vp c b = V c b) :
    Pipeline.RegionSeg (pcfgs (F := F)) adm (dats0 V) none defs₀ 𝒱₀ (K (F := F)).L (K (F := F)).lev 0 where
  win := (launch0).win.to₀
  block_pos := (launch0).block_pos
  stage_whole := (launch0).stage_whole
  K := PEmpty
  osem k := k.elim
  ho := Pipeline.OwnSemFacts.none _
  hbody c := (obligation0 V c).loose
  hwaits c := Pipeline.cellsWaits_intro (pins (F := F)) (dats0 V) none 0 c fun w s t =>
    (K (F := F)).mayWait_none _ (Otc_none c 0)
  pre c := iprop(unscopedBufs c (V c) ∗ owesBelow c 0)
  post c := iprop(unscopedBufs c (Vp c) ∗ owesBelow c 0)
  X _ := BI.emp
  Y _ := BI.emp
  Z c := Pipeline.unscopedRest (Ix := HIx 1) (Name := ℕ) (U := UU) (Lvl := ℕ) spec0 c (V c)
  hentry c := by
    rw [Pipeline.ownSems0_none]
    have hsplit := Pipeline.arrays_of_unscopedBufs (p := 0) (pcfgs (F := F)) adm (dats0 V) (launch0).win (launch0).arr_whole c
      ((dats0 V 0 c).share_full fun _ => rfl) (V c) fun _ => rfl
    iintro ⟨⟨Hub, ⟨%W, %hW, HO⟩⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      iexists W; isplitr; · ipureintro; exact fun p hp => Or.inl (hW p hp)
      iexact HO
    isplitr; · iempintro
    iexact Hrest
  hin c := by
    rw [show (dats0 V 0 c).Φ 0 = Pipeline.scopedRest (Ix := HIx 1) (Name := ℕ) (U := UU) (Lvl := ℕ) (Val := Elt F) spec0 c from rfl]
    iintro ⟨-, -, Hr⟩; iexact Hr
  hout c := by
    rw [Pipeline.ownSems0_none, show (dats0 V 0 c).Φ (Fin.last _) = Pipeline.scopedRest (Ix := HIx 1) (Name := ℕ) (U := UU) (Lvl := ℕ) (Val := Elt F) spec0 c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ) (launch0).win (launch0).arr_whole c
      (dats0 V) ((dats0 V 0 c).share_full fun _ => rfl) (V c) (Vp c) ((dats0 V 0 c).arrAt · cfg0.N)
      (fun w => by
        fin_cases w
        · exact ((dats0 V 0 c).arrAt_in 0 rfl _).trans (hne c main_v1 (by decide) (by decide)).symm
        · exact ((dats0 V 0 c).arrAt_in 1 rfl _).trans (hne c main_v3 (by decide) (by decide)).symm
        · exact ((dats0 V 0 c).arrAt_in 2 rfl _).trans (hne c main_v4 (by decide) (by decide)).symm
        · exact ((dats0 V 0 c).arrAt_in 3 rfl _).trans (hne c main_arg3 (by decide) (by decide)).symm
        · exact ((dats0 V 0 c).arrAt_in 4 rfl _).trans (hne c main_v5 (by decide) (by decide)).symm
        · exact ((dats0 V 0 c).arrAt_in 5 rfl _).trans (hne c main_arg5 (by decide) (by decide)).symm
        · exact ((dats0 V 0 c).arrAt_in 6 rfl _).trans (hne c main_v6 (by decide) (by decide)).symm
        · exact ((dats0 V 0 c).arrAt_in 7 rfl _).trans (hne c main_arg7 (by decide) (by decide)).symm
        · exact (h8 c).symm
        · exact (h9 c).symm)
      (fun b hb => hne c b (fun h => hb (h ▸ Finset.mem_image.mpr ⟨8, Finset.mem_univ _, rfl⟩))
        (fun h => hb (h ▸ Finset.mem_image.mpr ⟨9, Finset.mem_univ _, rfl⟩)))
    iintro ⟨Ha, HO, -, Hrest⟩
    imodintro
    isplitl [Ha Hrest]; · iapply hjoin; isplitl [Ha] <;> iassumption
    unfold Pipeline.Dat.owesAt Pipeline.owesWithin
    icases HO with ⟨%W, %hW, HO⟩; iexists W; isplitr; · ipureintro; exact below_of_bound c 0 cfg0 W hW
    iexact HO

set_option backward.isDefEq.respectTransparency.types false in
/-- The last call as a region of @main. -/
def reg2 (Vp : (c : Dev nD) → (b : Ref sig .tc) → Buf (Elt F) ((c : Thread nD τ).loc b))
    (h3 : ∀ c, Vp c main_v9_0 = (dat2 V c).arrAt 3 cfg2.N) (h4 : ∀ c, Vp c main_v9_1 = (dat2 V c).arrAt 4 cfg2.N)
    (h5 : ∀ c, Vp c main_v9_2 = (dat2 V c).arrAt 5 cfg2.N)
    (hne : ∀ c (b : Ref sig .tc), b ≠ main_v9_0 → b ≠ main_v9_1 → b ≠ main_v9_2 → Vp c b = V c b) :
    Pipeline.RegionSeg (pcfgs (F := F)) adm (dats2 V) none defs₀ 𝒱₀ (K (F := F)).L (K (F := F)).lev 1 where
  win := (launch2).win.to₀
  block_pos := (launch2).block_pos
  stage_whole := (launch2).stage_whole
  K := PEmpty
  osem k := k.elim
  ho := Pipeline.OwnSemFacts.none _
  hbody c := (obligation2 V c).loose
  hwaits c := Pipeline.cellsWaits_intro (pins (F := F)) (dats2 V) none 1 c fun w s t =>
    (K (F := F)).mayWait_none _ (Otc_none c 1)
  pre c := iprop(unscopedBufs c (V c) ∗ owesBelow c 1)
  post c := iprop(unscopedBufs c (Vp c) ∗ owesBelow c 1)
  X _ := BI.emp
  Y _ := BI.emp
  Z c := Pipeline.unscopedRest (Ix := HIx 1) (Name := ℕ) (U := UU) (Lvl := ℕ) spec2 c (V c)
  hentry c := by
    rw [Pipeline.ownSems0_none]
    have hsplit := Pipeline.arrays_of_unscopedBufs (p := 1) (pcfgs (F := F)) adm (dats2 V) (launch2).win (launch2).arr_whole c
      ((dats2 V 1 c).share_full fun _ => rfl) (V c) fun _ => rfl
    iintro ⟨⟨Hub, ⟨%W, %hW, HO⟩⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      iexists W; isplitr; · ipureintro; exact fun p hp => Or.inl (hW p hp)
      iexact HO
    isplitr; · iempintro
    iexact Hrest
  hin c := by
    rw [show (dats2 V 1 c).Φ 0 = scratch2 V c 0 from rfl]
    iintro ⟨-, -, Hr⟩
    iapply (scratch2_start V c); iexact Hr
  hout c := by
    rw [Pipeline.ownSems0_none, show (dats2 V 1 c).Φ (Fin.last _) = scratch2 V c cfg2.N from rfl]
    iintro Hr
    isplitr; · iempintro
    isplitr; · iempintro
    iapply (scratch2_end V c cfg2.N); iexact Hr
  hexit c := by
    have hjoin := Pipeline.unscopedBufs_of_arrays (p := 1) (pcfgs (F := F)) adm (Ix := HIx 1) (Name := ℕ) (U := UU) (Lvl := ℕ) (launch2).win (launch2).arr_whole c
      (dats2 V) ((dats2 V 1 c).share_full fun _ => rfl) (V c) (Vp c) ((dats2 V 1 c).arrAt · cfg2.N)
      (fun w => by
        fin_cases w
        · exact ((dats2 V 1 c).arrAt_in 0 rfl _).trans (hne c main_v7_1 (by decide) (by decide) (by decide)).symm
        · exact ((dats2 V 1 c).arrAt_in 1 rfl _).trans (hne c main_v8_0 (by decide) (by decide) (by decide)).symm
        · exact ((dats2 V 1 c).arrAt_in 2 rfl _).trans (hne c main_v8_1 (by decide) (by decide) (by decide)).symm
        · exact (h3 c).symm
        · exact (h4 c).symm
        · exact (h5 c).symm)
      (fun b hb => hne c b (fun h => hb (h ▸ Finset.mem_image.mpr ⟨3, Finset.mem_univ _, rfl⟩))
        (fun h => hb (h ▸ Finset.mem_image.mpr ⟨4, Finset.mem_univ _, rfl⟩)) (fun h => hb (h ▸ Finset.mem_image.mpr ⟨5, Finset.mem_univ _, rfl⟩)))
    iintro ⟨Ha, HO, -, Hrest⟩
    imodintro
    isplitl [Ha Hrest]; · iapply hjoin; isplitl [Ha] <;> iassumption
    unfold Pipeline.Dat.owesAt Pipeline.owesWithin
    icases HO with ⟨%W, %hW, HO⟩; iexists W; isplitr; · ipureintro; exact below_of_bound c 1 cfg2 W hW
    iexact HO

end Cert.KernelIdeal.Prf

end
-- ==== Proof.Calls.lean ====
/-
  The two TensorCore calls run from @main: each takes the arrays of the program from one valuation to the valuation updated at
  the call's results.
-/
module

public import proofs.«01_k».proof.Proof.Regions

@[expose] public section

noncomputable section

namespace Cert.KernelIdeal.Prf

open Cert.KernelIdeal Cert.KernelIdeal.Gen

open Idealize.ShloMosaic Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation)

variable {F : FTy → Type} [FloatOps F] [Named F]

local notation "𝕄" => MT nD τ sig (HIx 1) (Elt F) ℕ UU ℕ

variable [∀ e, Nonempty (Elt F e)]
variable (V : (c : Dev nD) → (b : Ref sig .tc) → Buf (Elt F) ((c : Thread nD τ).loc b))

/-! ## The two calls run -/

/-- The first call from @main: the arrays held at `Vp` after it. -/
theorem call0 (Vp : (c : Dev nD) → (b : Ref sig .tc) → Buf (Elt F) ((c : Thread nD τ).loc b))
    (h8 : ∀ c, Vp c main_v7_0 = (dat0 V c).arrAt 8 cfg0.N) (h9 : ∀ c, Vp c main_v7_1 = (dat0 V c).arrAt 9 cfg0.N)
    (hne : ∀ c (b : Ref sig .tc), b ≠ main_v7_0 → b ≠ main_v7_1 → Vp c b = V c b) (d : Dev nD) (Q : PUnit → sProp 𝕄) :
    iprop((iprop(boundary (d : Thread nD τ) ∗ unscopedBufs d (Vp d) ∗ owesBelow d 0) -∗ Q ⟨⟩)
        ∗ boundary (d : Thread nD τ) ∗ (unscopedBufs d (V d) ∗ owesBelow d 0) ∗ levAts (K (F := F)).L (K (F := F)).lev
        ∗ Pipeline.cellsGhost (pins (F := F)) EP 0 d ∗ Pipeline.toksInit (pins (F := F)) EP 0 d)
      ⊢ wp frame (wpE ((K (F := F)).defs (D (F := F))) 𝒱 (T d) none) Set.univ
          (Prog.lift (.customCall (SparseCore.inner (Pipeline.entry 0)) ())) Q := by
  have key := (K (F := F)).wp_liftProg (D (F := F)) 𝒱 (T d) Set.univ none (Prog.lift (.customCall (Pipeline.entry 0) ())) Q
  have key2 := Pipeline.RegionSeg.wp (pcfgs (F := F)) adm (dats0 V) none pins_inj EP defs₀ 𝒱₀ (K (F := F)).L (K (F := F)).lev
    (reg0 V Vp h8 h9 hne) d none (fun u hu => nomatch hu) .ret Q
  refine BIBase.Entails.trans ?_ key
  rw [show (reg0 V Vp h8 h9 hne).pre d = iprop(unscopedBufs d (V d) ∗ owesBelow d 0) from rfl,
    show (reg0 V Vp h8 h9 hne).post d = iprop(unscopedBufs d (Vp d) ∗ owesBelow d 0) from rfl] at key2
  refine BIBase.Entails.trans ?_ key2
  iintro ⟨Hk, Hb, Hpre, Hl, Hg, Ht⟩
  isplitl [Hk]
  · iintro ⟨Hb, Hpost⟩
    sl_step
    iapply Hk
    isplitl [Hb]; · iexact Hb
    iexact Hpost
  isplitl [Hb]; · iexact Hb
  isplitl [Hpre]; · iexact Hpre
  isplitl [Hl]; · iexact Hl
  isplitl [Hg]; · iexact Hg
  iexact Ht

/-- The last call from @main: the arrays held at `Vp` after it. -/
theorem call2 (Vp : (c : Dev nD) → (b : Ref sig .tc) → Buf (Elt F) ((c : Thread nD τ).loc b))
    (h3 : ∀ c, Vp c main_v9_0 = (dat2 V c).arrAt 3 cfg2.N) (h4 : ∀ c, Vp c main_v9_1 = (dat2 V c).arrAt 4 cfg2.N)
    (h5 : ∀ c, Vp c main_v9_2 = (dat2 V c).arrAt 5 cfg2.N)
    (hne : ∀ c (b : Ref sig .tc), b ≠ main_v9_0 → b ≠ main_v9_1 → b ≠ main_v9_2 → Vp c b = V c b) (d : Dev nD) (Q : PUnit → sProp 𝕄) :
    iprop((iprop(boundary (d : Thread nD τ) ∗ unscopedBufs d (Vp d) ∗ owesBelow d 1) -∗ Q ⟨⟩)
        ∗ boundary (d : Thread nD τ) ∗ (unscopedBufs d (V d) ∗ owesBelow d 1) ∗ levAts (K (F := F)).L (K (F := F)).lev
        ∗ Pipeline.cellsGhost (pins (F := F)) EP 1 d ∗ Pipeline.toksInit (pins (F := F)) EP 1 d)
      ⊢ wp frame (wpE ((K (F := F)).defs (D (F := F))) 𝒱 (T d) none) Set.univ
          (Prog.lift (.customCall (SparseCore.inner (Pipeline.entry 1)) ())) Q := by
  have key := (K (F := F)).wp_liftProg (D (F := F)) 𝒱 (T d) Set.univ none (Prog.lift (.customCall (Pipeline.entry 1) ())) Q
  have key2 := Pipeline.RegionSeg.wp (pcfgs (F := F)) adm (dats2 V) none pins_inj EP defs₀ 𝒱₀ (K (F := F)).L (K (F := F)).lev
    (reg2 V Vp h3 h4 h5 hne) d none (fun u hu => nomatch hu) .ret Q
  refine BIBase.Entails.trans ?_ key
  rw [show (reg2 V Vp h3 h4 h5 hne).pre d = iprop(unscopedBufs d (V d) ∗ owesBelow d 1) from rfl,
    show (reg2 V Vp h3 h4 h5 hne).post d = iprop(unscopedBufs d (Vp d) ∗ owesBelow d 1) from rfl] at key2
  refine BIBase.Entails.trans ?_ key2
  iintro ⟨Hk, Hb, Hpre, Hl, Hg, Ht⟩
  isplitl [Hk]
  · iintro ⟨Hb, Hpost⟩
    sl_step
    iapply Hk
    isplitl [Hb]; · iexact Hb
    iexact Hpost
  isplitl [Hb]; · iexact Hb
  isplitl [Hpre]; · iexact Hpre
  isplitl [Hl]; · iexact Hl
  isplitl [Hg]; · iexact Hg
  iexact Ht

end Cert.KernelIdeal.Prf

end
-- ==== Proof.TileBody.lean ====
/-
  The task run: its loops, and its whole body.
-/
module

public import proofs.«01_k».proof.Proof.Tile

@[expose] public section

noncomputable section

namespace Cert.KernelIdeal.Prf

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

local notation "aV" => (Memref.whole Cert.KernelIdeal.main_v7_1_scv : Memref Cert.KernelIdeal.sig Kind.scVector Space.hbm Cert.KernelIdeal.S25x8x4000 EltTy.f32)
local notation "oV" => (Memref.whole Cert.KernelIdeal.main_v8_0_scv : Memref Cert.KernelIdeal.sig Kind.scVector Space.hbm Cert.KernelIdeal.S32x10x3x16 EltTy.f32)
local notation "qV" => (Memref.whole Cert.KernelIdeal.main_v8_1_scv : Memref Cert.KernelIdeal.sig Kind.scVector Space.hbm Cert.KernelIdeal.S32x10x3x16 EltTy.f32)
local notation "sB" => (Memref.whole Cert.KernelIdeal.cc1_scratch0 : Memref Cert.KernelIdeal.sig Kind.scVector Space.vmem Cert.KernelIdeal.S8x4000 EltTy.f32)
local notation "sM" => (Memref.whole Cert.KernelIdeal.cc1_scratch1 : Memref Cert.KernelIdeal.sig Kind.scVector Space.vmem Cert.KernelIdeal.S10x3x16 EltTy.f32)
local notation "sN" => (Memref.whole Cert.KernelIdeal.cc1_scratch2 : Memref Cert.KernelIdeal.sig Kind.scVector Space.vmem Cert.KernelIdeal.S10x3x16 EltTy.f32)
local notation "hW" => Memref.isWhole_whole _

variable (d : Dev nD) (L : grid1.Coords)

/-- The twelve accumulators of a loop over classes `i` and `j` after `n` trips. -/
def carry (X : S8x4000.Idx → F .f32) (i j : Fin 10) (n : ℕ) :
    FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 :=
  (accMax X i 4 n, accMax X i 5 n, accMax X i 6 n, accMin X i 4 n, accMin X i 5 n, accMin X i 6 n,
    accMax X j 4 n, accMax X j 5 n, accMax X j 6 n, accMin X j 4 n, accMin X j 5 n, accMin X j 6 n)

omit [FloatOps F] [Named F] in
/-- A load of sixteen lanes of a row of the block, at any spelling of its offsets. -/
theorem lanes_load (X : S8x4000.Idx → F .f32) (off : Fin 2 → ℕ) (inb : ∀ a, off a + S1x16.size a ≤ S8x4000.size a) (r : Fin 8) (n : ℕ)
    (hn : n < 250) (hoff : off = ![r.val, 16 * n]) :
    shapeCast S16 (View.readAt (Elt F) (sB).view (Rect.unit (s := S8x4000) off S1x16.size inb).toLoadRect X) shapeCasts_S1x16_S16 = lanes X r n := by
  subst hoff
  funext x
  have hx : (x 0).val < 16 := (x 0).isLt
  let k : S1x16.Idx := fun | 0 => (0 : Fin 1) | 1 => x 0
  refine (shapeCast_apply (s := S1x16) (t := S16) _ _ x k (by
    rw [Shape.rowMajor_val_one, Shape.rowMajor_val_two]; show 0 * 16 + (x 0).val = (x 0).val; omega)).trans ?_
  refine congrArg X (funext fun a => Fin.ext ?_)
  match a with
  | 0 => show r.val + 1 * 0 = r.val; omega
  | 1 => show 16 * n + 1 * (x 0).val = (16 * n + (x 0).val) % 4000; rw [Nat.mod_eq_of_lt (by omega)]; omega

/-- One trip's twelve updates, from the four rows that it loads. -/
theorem carry_step (X : S8x4000.Idx → F .f32) (i j : Fin 10) (n : ℕ) {l x y z : FVec F S16 .f32}
    (hx : x = lanes X 4 n) (hy : y = lanes X 5 n) (hz : z = lanes X 6 n) (hl : l = lanes X 7 n) :
    (maximumf (accMax X i 4 n) (select (cmpf .oeq l (broadcast S16 (Scalar.ofBits .f32 (labBits i)))) x (broadcast S16 lo)),
      maximumf (accMax X i 5 n) (select (cmpf .oeq l (broadcast S16 (Scalar.ofBits .f32 (labBits i)))) y (broadcast S16 lo)),
      maximumf (accMax X i 6 n) (select (cmpf .oeq l (broadcast S16 (Scalar.ofBits .f32 (labBits i)))) z (broadcast S16 lo)),
      minimumf (accMin X i 4 n) (select (cmpf .oeq l (broadcast S16 (Scalar.ofBits .f32 (labBits i)))) x (broadcast S16 hi)),
      minimumf (accMin X i 5 n) (select (cmpf .oeq l (broadcast S16 (Scalar.ofBits .f32 (labBits i)))) y (broadcast S16 hi)),
      minimumf (accMin X i 6 n) (select (cmpf .oeq l (broadcast S16 (Scalar.ofBits .f32 (labBits i)))) z (broadcast S16 hi)),
      maximumf (accMax X j 4 n) (select (cmpf .oeq l (broadcast S16 (Scalar.ofBits .f32 (labBits j)))) x (broadcast S16 lo)),
      maximumf (accMax X j 5 n) (select (cmpf .oeq l (broadcast S16 (Scalar.ofBits .f32 (labBits j)))) y (broadcast S16 lo)),
      maximumf (accMax X j 6 n) (select (cmpf .oeq l (broadcast S16 (Scalar.ofBits .f32 (labBits j)))) z (broadcast S16 lo)),
      minimumf (accMin X j 4 n) (select (cmpf .oeq l (broadcast S16 (Scalar.ofBits .f32 (labBits j)))) x (broadcast S16 hi)),
      minimumf (accMin X j 5 n) (select (cmpf .oeq l (broadcast S16 (Scalar.ofBits .f32 (labBits j)))) y (broadcast S16 hi)),
      minimumf (accMin X j 6 n) (select (cmpf .oeq l (broadcast S16 (Scalar.ofBits .f32 (labBits j)))) z (broadcast S16 hi)))
      = carry X i j (n + 1) := by
  subst hx hy hz hl; rfl

omit [FloatOps F] [Named F] in
theorem off2_eq (t : Fin k1_t1_loop.trips) : k1_off2 t = ![4, 16 * t.val] := by decide +kernel +revert
omit [FloatOps F] [Named F] in
theorem off3_eq (t : Fin k1_t1_loop.trips) : k1_off3 t = ![5, 16 * t.val] := by decide +kernel +revert
omit [FloatOps F] [Named F] in
theorem off4_eq (t : Fin k1_t1_loop.trips) : k1_off4 t = ![6, 16 * t.val] := by decide +kernel +revert
omit [FloatOps F] [Named F] in
theorem off5_eq (t : Fin k1_t1_loop.trips) : k1_off5 t = ![7, 16 * t.val] := by decide +kernel +revert
omit [FloatOps F] [Named F] in
theorem off6_eq (t : Fin k1_t2_loop.trips) : k1_off6 t = ![4, 16 * t.val] := by decide +kernel +revert
omit [FloatOps F] [Named F] in
theorem off7_eq (t : Fin k1_t2_loop.trips) : k1_off7 t = ![5, 16 * t.val] := by decide +kernel +revert
omit [FloatOps F] [Named F] in
theorem off8_eq (t : Fin k1_t2_loop.trips) : k1_off8 t = ![6, 16 * t.val] := by decide +kernel +revert
omit [FloatOps F] [Named F] in
theorem off9_eq (t : Fin k1_t2_loop.trips) : k1_off9 t = ![7, 16 * t.val] := by decide +kernel +revert
omit [FloatOps F] [Named F] in
theorem off10_eq (t : Fin k1_t3_loop.trips) : k1_off10 t = ![4, 16 * t.val] := by decide +kernel +revert
omit [FloatOps F] [Named F] in
theorem off11_eq (t : Fin k1_t3_loop.trips) : k1_off11 t = ![5, 16 * t.val] := by decide +kernel +revert
omit [FloatOps F] [Named F] in
theorem off12_eq (t : Fin k1_t3_loop.trips) : k1_off12 t = ![6, 16 * t.val] := by decide +kernel +revert
omit [FloatOps F] [Named F] in
theorem off13_eq (t : Fin k1_t3_loop.trips) : k1_off13 t = ![7, 16 * t.val] := by decide +kernel +revert
omit [FloatOps F] [Named F] in
theorem off14_eq (t : Fin k1_t4_loop.trips) : k1_off14 t = ![4, 16 * t.val] := by decide +kernel +revert
omit [FloatOps F] [Named F] in
theorem off15_eq (t : Fin k1_t4_loop.trips) : k1_off15 t = ![5, 16 * t.val] := by decide +kernel +revert
omit [FloatOps F] [Named F] in
theorem off16_eq (t : Fin k1_t4_loop.trips) : k1_off16 t = ![6, 16 * t.val] := by decide +kernel +revert
omit [FloatOps F] [Named F] in
theorem off17_eq (t : Fin k1_t4_loop.trips) : k1_off17 t = ![7, 16 * t.val] := by decide +kernel +revert
omit [FloatOps F] [Named F] in
theorem off18_eq (t : Fin k1_t5_loop.trips) : k1_off18 t = ![4, 16 * t.val] := by decide +kernel +revert
omit [FloatOps F] [Named F] in
theorem off19_eq (t : Fin k1_t5_loop.trips) : k1_off19 t = ![5, 16 * t.val] := by decide +kernel +revert
omit [FloatOps F] [Named F] in
theorem off20_eq (t : Fin k1_t5_loop.trips) : k1_off20 t = ![6, 16 * t.val] := by decide +kernel +revert
omit [FloatOps F] [Named F] in
theorem off21_eq (t : Fin k1_t5_loop.trips) : k1_off21 t = ![7, 16 * t.val] := by decide +kernel +revert

/-- A trip of the loop over classes 0 and 1. -/
theorem trip1 (h : k1_cond1 L = 1#1) (X : S8x4000.Idx → F .f32) (t : Fin k1_t1_loop.trips)  :
    ((sB).view.loc (V d (cV L) (jV L)) ↦{fullShare} X : sProp 𝕄)
      ⊢ wp frame (wpE (defs₀ (F := F)) 𝒱₀ (V d (cV L) (jV L)) none) Set.univ
          (k1_t1_body L aV hW oV hW qV hW sB hW sM hW sN hW cc1_scoped0 cc1_scoped1 cc1_scoped2 h  t (carry X 0 1 t.val))
          fun r => iprop(⌜r = carry X 0 1 (t.val + 1)⌝ ∗ ((sB).view.loc (V d (cV L) (jV L)) ↦{fullShare} X)) := by
  conv => enter [2]; unfold carry
  iintro HX
  sl_unfold [k1_t1_body, k1_part1]
  sl_exec
  sl_step
  isplitr
  · ipureintro
    have ht : t.val < 250 := t.isLt
    exact carry_step X 0 1 t.val (lanes_load X _ _ 4 _ ht (off2_eq t)) (lanes_load X _ _ 5 _ ht (off3_eq t))
      (lanes_load X _ _ 6 _ ht (off4_eq t)) (lanes_load X _ _ 7 _ ht (off5_eq t))
  · iexact HX

/-- A trip of the loop over classes 2 and 3. -/
theorem trip2 (h : k1_cond1 L = 1#1) (X : S8x4000.Idx → F .f32) (t : Fin k1_t2_loop.trips) (v10 v11 : FVec F S16 .f32) (c1 c2 : BitVec 32) :
    ((sB).view.loc (V d (cV L) (jV L)) ↦{fullShare} X : sProp 𝕄)
      ⊢ wp frame (wpE (defs₀ (F := F)) 𝒱₀ (V d (cV L) (jV L)) none) Set.univ
          (k1_t2_body L aV hW oV hW qV hW sB hW sM hW sN hW cc1_scoped0 cc1_scoped1 cc1_scoped2 h v10 v11 c1 c2 t (carry X 2 3 t.val))
          fun r => iprop(⌜r = carry X 2 3 (t.val + 1)⌝ ∗ ((sB).view.loc (V d (cV L) (jV L)) ↦{fullShare} X)) := by
  conv => enter [2]; unfold carry
  iintro HX
  sl_unfold [k1_t2_body, k1_part2]
  sl_exec
  sl_step
  isplitr
  · ipureintro
    have ht : t.val < 250 := t.isLt
    exact carry_step X 2 3 t.val (lanes_load X _ _ 4 _ ht (off6_eq t)) (lanes_load X _ _ 5 _ ht (off7_eq t))
      (lanes_load X _ _ 6 _ ht (off8_eq t)) (lanes_load X _ _ 7 _ ht (off9_eq t))
  · iexact HX

/-- A trip of the loop over classes 4 and 5. -/
theorem trip3 (h : k1_cond1 L = 1#1) (X : S8x4000.Idx → F .f32) (t : Fin k1_t3_loop.trips) (v10 v11 : FVec F S16 .f32) :
    ((sB).view.loc (V d (cV L) (jV L)) ↦{fullShare} X : sProp 𝕄)
      ⊢ wp frame (wpE (defs₀ (F := F)) 𝒱₀ (V d (cV L) (jV L)) none) Set.univ
          (k1_t3_body L aV hW oV hW qV hW sB hW sM hW sN hW cc1_scoped0 cc1_scoped1 cc1_scoped2 h v10 v11 t (carry X 4 5 t.val))
          fun r => iprop(⌜r = carry X 4 5 (t.val + 1)⌝ ∗ ((sB).view.loc (V d (cV L) (jV L)) ↦{fullShare} X)) := by
  conv => enter [2]; unfold carry
  iintro HX
  sl_unfold [k1_t3_body, k1_part3]
  sl_exec
  sl_step
  isplitr
  · ipureintro
    have ht : t.val < 250 := t.isLt
    exact carry_step X 4 5 t.val (lanes_load X _ _ 4 _ ht (off10_eq t)) (lanes_load X _ _ 5 _ ht (off11_eq t))
      (lanes_load X _ _ 6 _ ht (off12_eq t)) (lanes_load X _ _ 7 _ ht (off13_eq t))
  · iexact HX

/-- A trip of the loop over classes 6 and 7. -/
theorem trip4 (h : k1_cond1 L = 1#1) (X : S8x4000.Idx → F .f32) (t : Fin k1_t4_loop.trips) (v10 v11 : FVec F S16 .f32) (w : Vec F S1x1x16 .f32) :
    ((sB).view.loc (V d (cV L) (jV L)) ↦{fullShare} X : sProp 𝕄)
      ⊢ wp frame (wpE (defs₀ (F := F)) 𝒱₀ (V d (cV L) (jV L)) none) Set.univ
          (k1_t4_body L aV hW oV hW qV hW sB hW sM hW sN hW cc1_scoped0 cc1_scoped1 cc1_scoped2 h v10 v11 w t (carry X 6 7 t.val))
          fun r => iprop(⌜r = carry X 6 7 (t.val + 1)⌝ ∗ ((sB).view.loc (V d (cV L) (jV L)) ↦{fullShare} X)) := by
  conv => enter [2]; unfold carry
  iintro HX
  sl_unfold [k1_t4_body, k1_part4]
  sl_exec
  sl_step
  isplitr
  · ipureintro
    have ht : t.val < 250 := t.isLt
    exact carry_step X 6 7 t.val (lanes_load X _ _ 4 _ ht (off14_eq t)) (lanes_load X _ _ 5 _ ht (off15_eq t))
      (lanes_load X _ _ 6 _ ht (off16_eq t)) (lanes_load X _ _ 7 _ ht (off17_eq t))
  · iexact HX

/-- A trip of the loop over classes 8 and 9. -/
theorem trip5 (h : k1_cond1 L = 1#1) (X : S8x4000.Idx → F .f32) (t : Fin k1_t5_loop.trips) (v11 : FVec F S16 .f32) (w : FVec F S1x1x16 .f32) :
    ((sB).view.loc (V d (cV L) (jV L)) ↦{fullShare} X : sProp 𝕄)
      ⊢ wp frame (wpE (defs₀ (F := F)) 𝒱₀ (V d (cV L) (jV L)) none) Set.univ
          (k1_t5_body L aV hW oV hW qV hW sB hW sM hW sN hW cc1_scoped0 cc1_scoped1 cc1_scoped2 h v11 w t (carry X 8 9 t.val))
          fun r => iprop(⌜r = carry X 8 9 (t.val + 1)⌝ ∗ ((sB).view.loc (V d (cV L) (jV L)) ↦{fullShare} X)) := by
  conv => enter [2]; unfold carry
  iintro HX
  sl_unfold [k1_t5_body, k1_part5]
  sl_exec
  sl_step
  isplitr
  · ipureintro
    have ht : t.val < 250 := t.isLt
    exact carry_step X 8 9 t.val (lanes_load X _ _ 4 _ ht (off18_eq t)) (lanes_load X _ _ 5 _ ht (off19_eq t))
      (lanes_load X _ _ 6 _ ht (off20_eq t)) (lanes_load X _ _ 7 _ ht (off21_eq t))
  · iexact HX

variable (A : S25x8x4000.Idx → F .f32) (q : PosShare TreeShare)

omit [FloatOps F] [Named F] in
/-- A whole buffer after one unmasked write of the whole shape holds what was written. -/
theorem writes_whole_eq {b : Ref sig .scVector} (f : b.ty.Contents (Elt F)) (g : b.ty.shape.Idx → Elt F b.ty.elt) :
    (Memref.whole b).view.writes (Elt F) f [⟨Rect.whole b.ty.shape, g⟩] = g := by
  funext y
  have h := View.read_writes_cons_hit_of_coords (Memref.whole b).view f (Rect.whole b.ty.shape) g [] y y
    (fun a => by simp [Rect.whole])
  exact h

/-- Block `w` of the table, as the task's copy names it. -/
abbrev aRowK (h : k1_cond1 L = 1#1) : Memref sig .scVector .hbm S8x4000 .f32 :=
  ((aV).slice (Rect.unit (s := S25x8x4000) (k1_off1 L) S1x8x4000.size (k1_off1_inb L h)) (fun _ => rfl)).squeeze S8x4000 squeezes_S1x8x4000_S8x4000

theorem read_aRowK (h : k1_cond1 L = 1#1) : (aRowK L h).view.read (Elt F) A = blk A ⟨(wL L).val, (cond_iff L).mp h⟩ := by
  refine (Memref.read_squeeze_slice (Val := Elt F) aV _ _ squeezes_S1x8x4000_S8x4000 (show S1x8x4000.ShapeCasts S8x4000 by decide) A).trans ?_
  funext x
  let k : S1x8x4000.Idx := fun | 0 => (0 : Fin 1) | 1 => x 0 | 2 => x 1
  refine (shapeCast_apply (s := S1x8x4000) (t := S8x4000) _ _ x k (by
    rw [Shape.rowMajor_val_two, Shape.rowMajor_val_three]; show (0 * 8 + (x 0).val) * 4000 + (x 1).val = (x 0).val * 4000 + (x 1).val; omega)).trans ?_
  refine congrArg A (funext fun a => Fin.ext ?_)
  have e := off1_eq L
  match a with
  | 0 => show k1_off1 L 0 + 1 * 0 = (wL L).val; rw [e]; simp
  | 1 => show k1_off1 L 1 + 1 * (x 0).val = (x 0).val; rw [e]; simp
  | 2 => show k1_off1 L 2 + 1 * (x 1).val = (x 1).val; rw [e]; simp

/-- The fetched block in the task's scratch. -/
theorem pts_landed (h : k1_cond1 L = 1#1) (fb : Buf (Elt F) ((V d (cV L) (jV L)).loc cc1_scratch0)) :
    ((sB).view.loc (V d (cV L) (jV L)) ↦{fullShare} View.write (Elt F) (sB).view fb ((aRowK L h).view.read (Elt F) A) Finset.univ : sProp 𝕄)
      = ((sB).view.loc (V d (cV L) (jV L)) ↦{fullShare} blk A ⟨(wL L).val, (cond_iff L).mp h⟩) := by
  rw [read_aRowK]
  exact congrArg _ (View.write_whole_univ (Val := Elt F) _ _ _)

/-- Between two trips of a loop over classes `i` and `j`: the accumulators, and the fetched block. -/
def inv (h : k1_cond1 L = 1#1) (i j : Fin 10) (n : ℕ)
    (c : FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32) : sProp 𝕄 :=
  iprop(⌜c = carry (blk A ⟨(wL L).val, (cond_iff L).mp h⟩) i j n⌝
    ∗ ((sB).view.loc (V d (cV L) (jV L)) ↦{fullShare} blk A ⟨(wL L).val, (cond_iff L).mp h⟩))

theorem inv_zero (h : k1_cond1 L = 1#1) (i j : Fin 10) :
    ((sB).view.loc (V d (cV L) (jV L)) ↦{fullShare} blk A ⟨(wL L).val, (cond_iff L).mp h⟩ : sProp 𝕄)
      ⊢ inv d L A h i j 0 (broadcast S16 lo, broadcast S16 lo, broadcast S16 lo, broadcast S16 hi, broadcast S16 hi, broadcast S16 hi,
          broadcast S16 lo, broadcast S16 lo, broadcast S16 lo, broadcast S16 hi, broadcast S16 hi, broadcast S16 hi) := by
  unfold inv
  iintro HX
  isplitr
  · ipureintro; rfl
  · iexact HX

/-- What a task is handed: a share of the table, its row of each result. -/
abbrev goT (fo : Buf (Elt F) (oLoc d)) (fq : Buf (Elt F) (qLoc d)) (w : Fin 32) : sProp 𝕄 :=
  iprop((aLoc d ↦{q} (A : Buf (Elt F) (aLoc d))) ∗ (oLoc d ↦[rowSet w]{fullShare} fo) ∗ (qLoc d ↦[rowSet w]{fullShare} fq))

/-- The class and the coordinate of the `k`-th newest of thirty stores. -/
abbrev ci (k : Fin 30) : Fin 10 := ⟨9 - k.val / 3, by omega⟩
abbrev cc (k : Fin 30) : Fin 3 := ⟨2 - k.val % 3, by omega⟩

omit [FloatOps F] [Named F] in
theorem fill_inb (k : Fin 30) : ∀ a, (![(ci k).val, (cc k).val, 0] : Fin 3 → ℕ) a + S1x1x16.size a ≤ S10x3x16.size a := by
  decide +revert

/-- The `k`-th newest of the thirty stores that fill an accumulator with the vectors `acc i c`. -/
def fillPiece (acc : Fin 10 → Fin 3 → FVec F S16 .f32) (k : Fin 30) : View.Piece (Elt F) S10x3x16 .f32 :=
  ⟨Rect.unit (s := S10x3x16) ![(ci k).val, (cc k).val, 0] S1x1x16.size (fill_inb k), shapeCast S1x1x16 (acc (ci k) (cc k)) shapeCasts_S16_S1x1x16⟩

theorem fill_cover (acc : Fin 10 → Fin 3 → FVec F S16 .f32) : ∀ y : S10x3x16.Idx, ∃ p ∈ (List.finRange 30).map (fillPiece acc), y ∈ p.1.set := by
  refine View.cover_of_blocks _ ![1, 1, 16] (by decide) fun ix => ?_
  have h0 : (ix 0).val < 10 := (ix 0).isLt
  have h1 : (ix 1).val < 3 := (ix 1).isLt
  have h2 : (ix 2).val < 1 := (ix 2).isLt
  refine ⟨fillPiece acc ⟨29 - (3 * (ix 0).val + (ix 1).val), by omega⟩, List.mem_map_of_mem (List.mem_finRange _), fun a => ?_, fun a => ?_, fun a => rfl⟩
  · match a with
    | 0 => show 9 - (29 - (3 * (ix 0).val + (ix 1).val)) / 3 = (ix 0).val * 1; omega
    | 1 => show 2 - (29 - (3 * (ix 0).val + (ix 1).val)) % 3 = (ix 1).val * 1; omega
    | 2 => show 0 = (ix 2).val * 16; omega
  · match a with
    | 0 => rfl
    | 1 => rfl
    | 2 => rfl

/-- What an accumulator holds after thirty stores that fill it, whatever was stored before. -/
theorem read_fill {κ' : Kind} {sp : Space} (v : View sig κ' sp S10x3x16 .f32) (f : v.ty.Contents (Elt F)) (acc : Fin 10 → Fin 3 → FVec F S16 .f32)
    (Ls : List (View.Piece (Elt F) S10x3x16 .f32)) (hL : Ls.take 30 = (List.finRange 30).map (fillPiece acc)) :
    v.read (Elt F) (v.writes (Elt F) f Ls) = fun x => acc (x 0) (x 1) (fun | 0 => x 2) := by
  rw [← List.take_append_drop 30 Ls, View.writes_append, hL]
  funext y
  refine View.read_writes_apply_of_pieces v _ (fun x => acc (x 0) (x 1) (fun | 0 => x 2)) _ ?_ y (fill_cover acc y)
  intro p hp x
  obtain ⟨k, -, rfl⟩ := List.mem_map.mp hp
  have h0 : (x 0).val < 1 := (x 0).isLt
  have h1 : (x 1).val < 1 := (x 1).isLt
  let z : S16.Idx := fun | 0 => x 2
  let x' : S1x1x16.Idx := x
  refine (shapeCast_apply (s := S16) (t := S1x1x16) _ _ x' z (by
    rw [Shape.rowMajor_val_one, Shape.rowMajor_val_three]; show (x 2).val = ((x 0).val * 1 + (x 1).val) * 16 + (x 2).val; omega)).trans ?_
  have e0 : ci k = (fillPiece acc k).1.emb x 0 := Fin.ext (by show _ = (ci k).val + 1 * (x 0).val; omega)
  have e1 : cc k = (fillPiece acc k).1.emb x 1 := Fin.ext (by show _ = (cc k).val + 1 * (x 1).val; omega)
  have e2 : z = fun | 0 => (fillPiece acc k).1.emb x 2 := funext fun a => match a with
    | 0 => Fin.ext (by show (x 2).val = 0 + 1 * (x 2).val; omega)
  rw [e0, e1, e2]

theorem tileMax_on (w : ℕ) (hw : w < 25) :
    (fun x : S10x3x16.Idx => accMax (blk A ⟨w, hw⟩) (x 0) (crow (x 1)) 250 (fun | 0 => x 2)) = tileMax A w := by
  funext x
  unfold tileMax
  rw [dif_pos hw]
  rfl
theorem tileMin_on (w : ℕ) (hw : w < 25) :
    (fun x : S10x3x16.Idx => accMin (blk A ⟨w, hw⟩) (x 0) (crow (x 1)) 250 (fun | 0 => x 2)) = tileMin A w := by
  funext x
  unfold tileMin
  rw [dif_pos hw]
  rfl
theorem tileMax_off (w : ℕ) (hw : ¬ w < 25) : (fun _ : S10x3x16.Idx => (lo : F .f32)) = tileMax A w := by
  funext x
  unfold tileMax
  rw [dif_neg hw]
theorem tileMin_off (w : ℕ) (hw : ¬ w < 25) : (fun _ : S10x3x16.Idx => (hi : F .f32)) = tileMin A w := by
  funext x
  unfold tileMin
  rw [dif_neg hw]

theorem segMax_row (w : Fin 32) (y : S32x10x3x16.Idx) (x : S10x3x16.Idx) (h : y = (fun | 0 => w | 1 => x 0 | 2 => x 1 | 3 => x 2)) :
    segMax A y = tileMax A w.val x := by
  subst h
  exact congrArg (tileMax A w.val) (funext fun | 0 => rfl | 1 => rfl | 2 => rfl)
theorem segMin_row (w : Fin 32) (y : S32x10x3x16.Idx) (x : S10x3x16.Idx) (h : y = (fun | 0 => w | 1 => x 0 | 2 => x 1 | 3 => x 2)) :
    segMin A y = tileMin A w.val x := by
  subst h
  exact congrArg (tileMin A w.val) (funext fun | 0 => rfl | 1 => rfl | 2 => rfl)

/-- The task's row of what the call leaves in its first result. -/
theorem read_oRowK : (oRowK L).view.read (Elt F) (segMax A) = tileMax A (wL L).val := by
  refine (Memref.read_squeeze_slice (Val := Elt F) oV _ _ squeezes_S1x10x3x16_S10x3x16 (show S1x10x3x16.ShapeCasts S10x3x16 by decide) (segMax A)).trans ?_
  funext x
  let k : S1x10x3x16.Idx := fun | 0 => (0 : Fin 1) | 1 => x 0 | 2 => x 1 | 3 => x 2
  refine (shapeCast_apply (s := S1x10x3x16) (t := S10x3x16) _ _ x k (by
    rw [Shape.rowMajor_val_three, Shape.rowMajor_val_four]
    show (((0 * 10 + (x 0).val) * 3 + (x 1).val) * 16 + (x 2).val) = ((x 0).val * 3 + (x 1).val) * 16 + (x 2).val; omega)).trans ?_
  exact segMax_row A (wL L) _ x (funext fun a => Fin.ext (by
    have e := off22_eq L
    match a with
    | 0 => show k1_off22 L 0 + 1 * 0 = (wL L).val; rw [e]; simp
    | 1 => show k1_off22 L 1 + 1 * (x 0).val = (x 0).val; rw [e]; simp
    | 2 => show k1_off22 L 2 + 1 * (x 1).val = (x 1).val; rw [e]; simp
    | 3 => show k1_off22 L 3 + 1 * (x 2).val = (x 2).val; rw [e]; simp))

/-- The task's row of the first result, written whole. -/
theorem pts_written_oRowK (f : Buf (Elt F) (oLoc d)) (g : S10x3x16.Idx → F .f32) (hg : g = tileMax A (wL L).val) :
    ((oRowK L).view.loc (V d (cV L) (jV L)) ↦[(oRowK L).view.set]{fullShare} (oRowK L).view.writes (Elt F) f [⟨Rect.whole S10x3x16, g⟩] : sProp 𝕄)
      = (oLoc d ↦[rowSet (wL L)]{fullShare} (segMax A : Buf (Elt F) (oLoc d))) := by
  refine (pointsTo_congr ?_).trans (pts_oRowK d L _)
  intro i hi
  obtain ⟨x, -, rfl⟩ := Finset.mem_map.mp hi
  have h := View.read_writes_cons_hit_of_coords (oRowK L).view f (Rect.whole S10x3x16) g [] x x (fun a => by simp [Rect.whole])
  refine h.trans ?_
  rw [hg, ← read_oRowK L A]
  rfl

/-- The task's row of what the call leaves in its second result. -/
theorem read_qRowK : (qRowK L).view.read (Elt F) (segMin A) = tileMin A (wL L).val := by
  refine (Memref.read_squeeze_slice (Val := Elt F) qV _ _ squeezes_S1x10x3x16_S10x3x16 (show S1x10x3x16.ShapeCasts S10x3x16 by decide) (segMin A)).trans ?_
  funext x
  let k : S1x10x3x16.Idx := fun | 0 => (0 : Fin 1) | 1 => x 0 | 2 => x 1 | 3 => x 2
  refine (shapeCast_apply (s := S1x10x3x16) (t := S10x3x16) _ _ x k (by
    rw [Shape.rowMajor_val_three, Shape.rowMajor_val_four]
    show (((0 * 10 + (x 0).val) * 3 + (x 1).val) * 16 + (x 2).val) = ((x 0).val * 3 + (x 1).val) * 16 + (x 2).val; omega)).trans ?_
  exact segMin_row A (wL L) _ x (funext fun a => Fin.ext (by
    have e := off22_eq L
    match a with
    | 0 => show k1_off22 L 0 + 1 * 0 = (wL L).val; rw [e]; simp
    | 1 => show k1_off22 L 1 + 1 * (x 0).val = (x 0).val; rw [e]; simp
    | 2 => show k1_off22 L 2 + 1 * (x 1).val = (x 1).val; rw [e]; simp
    | 3 => show k1_off22 L 3 + 1 * (x 2).val = (x 2).val; rw [e]; simp))

/-- The task's row of the second result, written whole. -/
theorem pts_written_qRowK (f : Buf (Elt F) (qLoc d)) (g : S10x3x16.Idx → F .f32) (hg : g = tileMin A (wL L).val) :
    ((qRowK L).view.loc (V d (cV L) (jV L)) ↦[(qRowK L).view.set]{fullShare} (qRowK L).view.writes (Elt F) f [⟨Rect.whole S10x3x16, g⟩] : sProp 𝕄)
      = (qLoc d ↦[rowSet (wL L)]{fullShare} (segMin A : Buf (Elt F) (qLoc d))) := by
  refine (pointsTo_congr ?_).trans (pts_qRowK d L _)
  intro i hi
  obtain ⟨x, -, rfl⟩ := Finset.mem_map.mp hi
  have h := View.read_writes_cons_hit_of_coords (qRowK L).view f (Rect.whole S10x3x16) g [] x x (fun a => by simp [Rect.whole])
  refine h.trans ?_
  rw [hg, ← read_qRowK L A]
  rfl

omit [FloatOps F] [Named F] in
/-- With one call, every recorded wait is outside the calls' handshakes or at that call. -/
theorem waits_one (W W' : Waits sig (HIx 1)) : ∀ p ∈ W', p ∈ W ∨ p.2 = none ∨ p.2 = some (0 : Fin 1) := by
  intro p _
  rcases p.2 with _ | k
  · exact .inr (.inl rfl)
  · exact .inr (.inr (congrArg some (Subsingleton.elim k 0)))

/-- The task at a place with no block of the table: its rows get the neutral constants. -/
theorem tile_off (hF : (K (F := F)).Facts) (h : ¬ k1_cond1 L = 1#1) (O : CellTallies nD τ sig (HIx 1)) (W : Waits sig (HIx 1)) (hO : ∀ g, O g none = 0)
    (fo : Buf (Elt F) (oLoc d)) (fq : Buf (Elt F) (qLoc d)) :
    iprop(levAts (K (F := F)).L (K (F := F)).lev ∗ emp ∗ goT d A q fo fq (wL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1__seg_sc_body L aV hW oV hW qV hW sB hW sM hW sN hW cc1_scoped0 cc1_scoped1 cc1_scoped2)
          fun _ => iprop(goT d A q (segMax A) (segMin A) (wL L)
            ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  rw [(K (F := F)).scopedBufs_V hF d (cV L) (jV L), SparseCore.Cfg.scopedSems0_V (Val := Elt F) d (cV L) (jV L), ownSems0_V, ownBufs_V]
  iintro ⟨#Hlv, -, ⟨Ha, Ho, Hq⟩, ⟨⟨%fb, Hb⟩, ⟨%fm, Hm⟩, ⟨%fn, Hn⟩, Hbufs⟩, ⟨Hs0, Hs1, Hs2, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Ho' := (Entails.of_eq (pts_oRowK (F := F) d L _).symm) $$ Ho
  ihave Hq' := (Entails.of_eq (pts_qRowK (F := F) d L _).symm) $$ Hq
  ihave Hm' := (Entails.of_eq (pts_sM (F := F) d L _).symm) $$ Hm
  ihave Hn' := (Entails.of_eq (pts_sN (F := F) d L _).symm) $$ Hn
  sl_unfold [cc1__seg_sc_body, k1_part27, k1_part16, k1_part17, k1_part18, k1_part19, k1_part20, k1_part21, k1_part22, k1_part23, k1_part24, k1_part25, k1_part26]
  sl_exec (disch := exact View.amount_pos _ _ (show 0 < S10x3x16.numel by decide))
  ihave Ho := (Entails.of_eq (pts_written_oRowK (F := F) d L A fo (tile_off.sl.dma120 d L fm) (by
    refine (read_fill (sM).view fm (fun _ _ => broadcast S16 lo) (tile_off.sl.Hm'_30) rfl).trans ?_
    exact tileMax_off A _ (fun e => h ((cond_iff L).mpr e))))) $$ Ho'
  ihave Hq := (Entails.of_eq (pts_written_qRowK (F := F) d L A fq (tile_off.sl.dma120_1 d L fn) (by
    refine (read_fill (sN).view fn (fun _ _ => broadcast S16 hi) (tile_off.sl.Hn'_30) rfl).trans ?_
    exact tileMin_off A _ (fun e => h ((cond_iff L).mpr e))))) $$ Hq'
  sl_step
  isplitl [Ha Ho Hq]
  · isplitl [Ha]
    · iexact Ha
    isplitl [Ho]
    · iexact Ho
    · iexact Hq
  isplitl [Hb Hm' Hn' Hbufs]
  · isplitl [Hb]
    · iexists fb; iexact Hb
    isplitl [Hm']
    · iexists _; iexact Hm'
    isplitl [Hn']
    · iexists _; iexact Hn'
    · iexact Hbufs
  isplitl [Hs0 Hs1 Hs2 Hsems]
  · isplitl [Hs0]
    · iexact Hs0
    isplitl [Hs1]
    · iexact Hs1
    isplitl [Hs2]
    · iexact Hs2
    · iexact Hsems
  iexists _
  isplitr
  swap
  · iexact HO
  ipureintro
  exact waits_one W _

/-- The task at a place with a block of the table. -/
theorem tile_on (hF : (K (F := F)).Facts) (h : k1_cond1 L = 1#1) (O : CellTallies nD τ sig (HIx 1)) (W : Waits sig (HIx 1)) (hO : ∀ g, O g none = 0)
    (fo : Buf (Elt F) (oLoc d)) (fq : Buf (Elt F) (qLoc d)) :
    iprop(levAts (K (F := F)).L (K (F := F)).lev ∗ emp ∗ goT d A q fo fq (wL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1__seg_sc_body L aV hW oV hW qV hW sB hW sM hW sN hW cc1_scoped0 cc1_scoped1 cc1_scoped2)
          fun _ => iprop(goT d A q (segMax A) (segMin A) (wL L)
            ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  rw [(K (F := F)).scopedBufs_V hF d (cV L) (jV L), SparseCore.Cfg.scopedSems0_V (Val := Elt F) d (cV L) (jV L), ownSems0_V, ownBufs_V]
  iintro ⟨#Hlv, -, ⟨Ha, Ho, Hq⟩, ⟨⟨%fb, Hb⟩, ⟨%fm, Hm⟩, ⟨%fn, Hn⟩, Hbufs⟩, ⟨Hs0, Hs1, Hs2, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Ho' := (Entails.of_eq (pts_oRowK (F := F) d L _).symm) $$ Ho
  ihave Hq' := (Entails.of_eq (pts_qRowK (F := F) d L _).symm) $$ Hq
  ihave Hm' := (Entails.of_eq (pts_sM (F := F) d L _).symm) $$ Hm
  ihave Hn' := (Entails.of_eq (pts_sN (F := F) d L _).symm) $$ Hn
  ihave Hb' := (Entails.of_eq (pts_sB (F := F) d L _).symm) $$ Hb
  ihave Ha' := (Entails.of_eq (pts_a (F := F) d L q _).symm) $$ Ha
  sl_unfold [cc1__seg_sc_body, k1_part27, k1_part16, k1_part17, k1_part18, k1_part19, k1_part20, k1_part21, k1_part22, k1_part23, k1_part24, k1_part25, k1_part26, k1_part6, k1_part7, k1_part8, k1_part9, k1_part10, k1_part11, k1_part12, k1_part13, k1_part14, k1_part15]
  sl_exec (disch := first | exact View.amount_pos _ _ (show 0 < S10x3x16.numel by decide) | exact View.amount_pos _ _ (show 0 < S8x4000.numel by decide))
  unfold tile_on.sl.dma120
  ihave HX := (Entails.of_eq (pts_landed (F := F) d L A h fb)) $$ Hb'
  sl_for (inv d L A h 0 1) $$ [HX]
  case region =>
    intro k c
    unfold inv
    iintro ⟨%hc, HX⟩
    subst hc
    iapply (trip1 d L h _ k) $$ HX
  · iapply (inv_zero (F := F) d L A h 0 1) $$ HX
  iintro %_ HI
  unfold inv
  icases HI with ⟨%hc, HX⟩
  subst hc
  sl_exec (disch := exact View.amount_pos _ _ (show 0 < S10x3x16.numel by decide))
  sl_for (inv d L A h 2 3) $$ [HX]
  case region =>
    intro k c
    unfold inv
    iintro ⟨%hc, HX⟩
    subst hc
    iapply (trip2 d L h _ k) $$ HX
  · iapply (inv_zero (F := F) d L A h 2 3) $$ HX
  iintro %_ HI
  unfold inv
  icases HI with ⟨%hc, HX⟩
  subst hc
  sl_exec (disch := exact View.amount_pos _ _ (show 0 < S10x3x16.numel by decide))
  sl_for (inv d L A h 4 5) $$ [HX]
  case region =>
    intro k c
    unfold inv
    iintro ⟨%hc, HX⟩
    subst hc
    iapply (trip3 d L h _ k) $$ HX
  · iapply (inv_zero (F := F) d L A h 4 5) $$ HX
  iintro %_ HI
  unfold inv
  icases HI with ⟨%hc, HX⟩
  subst hc
  sl_exec (disch := exact View.amount_pos _ _ (show 0 < S10x3x16.numel by decide))
  sl_for (inv d L A h 6 7) $$ [HX]
  case region =>
    intro k c
    unfold inv
    iintro ⟨%hc, HX⟩
    subst hc
    iapply (trip4 d L h _ k) $$ HX
  · iapply (inv_zero (F := F) d L A h 6 7) $$ HX
  iintro %_ HI
  unfold inv
  icases HI with ⟨%hc, HX⟩
  subst hc
  sl_exec (disch := exact View.amount_pos _ _ (show 0 < S10x3x16.numel by decide))
  sl_for (inv d L A h 8 9) $$ [HX]
  case region =>
    intro k c
    unfold inv
    iintro ⟨%hc, HX⟩
    subst hc
    iapply (trip5 d L h _ k) $$ HX
  · iapply (inv_zero (F := F) d L A h 8 9) $$ HX
  iintro %_ HI
  unfold inv
  icases HI with ⟨%hc, HX⟩
  subst hc
  sl_exec (disch := exact View.amount_pos _ _ (show 0 < S10x3x16.numel by decide))
  ihave Ho := (Entails.of_eq (pts_written_oRowK (F := F) d L A fo (tile_on.sl.dma24 L A h) (by
    refine (read_fill (sM).view _ (fun i c => accMax (blk A ⟨(wL L).val, (cond_iff L).mp h⟩) i (crow c) 250) (tile_on.sl.Hm'_60 L A h) rfl).trans ?_
    exact tileMax_on A _ ((cond_iff L).mp h)))) $$ Ho'
  ihave Hq := (Entails.of_eq (pts_written_qRowK (F := F) d L A fq (tile_on.sl.dma24_1 L A h) (by
    refine (read_fill (sN).view _ (fun i c => accMin (blk A ⟨(wL L).val, (cond_iff L).mp h⟩) i (crow c) 250) (tile_on.sl.Hn'_60 L A h) rfl).trans ?_
    exact tileMin_on A _ ((cond_iff L).mp h)))) $$ Hq'
  sl_step
  isplitl [Ha' Ho Hq]
  · isplitl [Ha']
    · iexact Ha'
    isplitl [Ho]
    · iexact Ho
    · iexact Hq
  isplitl [HX Hm' Hn' Hbufs]
  · isplitl [HX]
    · iexists _; iexact HX
    isplitl [Hm']
    · iexists _; iexact Hm'
    isplitl [Hn']
    · iexists _; iexact Hn'
    · iexact Hbufs
  isplitl [Hs0 Hs1 Hs2 Hsems]
  · isplitl [Hs0]
    · iexact Hs0
    isplitl [Hs1]
    · iexact Hs1
    isplitl [Hs2]
    · iexact Hs2
    · iexact Hsems
  iexists _
  isplitr
  swap
  · iexact HO
  ipureintro
  exact waits_one W _
/-- The task at any place. -/
theorem tile_body (hF : (K (F := F)).Facts) (O : CellTallies nD τ sig (HIx 1)) (W : Waits sig (HIx 1)) (hO : ∀ g, O g none = 0)
    (fo : Buf (Elt F) (oLoc d)) (fq : Buf (Elt F) (qLoc d)) :
    iprop(levAts (K (F := F)).L (K (F := F)).lev ∗ emp ∗ goT d A q fo fq (wL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1__seg_sc_body L aV hW oV hW qV hW sB hW sM hW sN hW cc1_scoped0 cc1_scoped1 cc1_scoped2)
          fun _ => iprop(goT d A q (segMax A) (segMin A) (wL L)
            ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  by_cases h : k1_cond1 L = 1#1
  · exact tile_on d L A q hF h O W hO fo fq
  · exact tile_off d L A q hF h O W hO fo fq

end Cert.KernelIdeal.Prf

end
-- ==== Proof.Run.lean ====
/-
  The whole program's run: @main's layout operations, the first TensorCore call, the segment kernel on the 32 vector subcores, the
  last TensorCore call and the final layout operations; every array of the program is followed from the launch memory to the end.
-/
module

public import proofs.«01_k».proof.Proof.Calls
public import proofs.«01_k».proof.Proof.TileBody

@[expose] public section

noncomputable section

namespace Cert.KernelIdeal.Prf

open Cert.KernelIdeal Cert.KernelIdeal.Gen

open Idealize.ShloMosaic Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held after seq)
open Idealize.ShloMosaic.Tactic

variable {F : FTy → Type} [FloatOps F] [Named F]

local notation "𝕄" => MT nD τ sig (HIx 1) (Elt F) ℕ UU ℕ

/-! ## @main's host operations -/

/-- The layout operations before the first call. -/
def opsIn : List (HloOp τ sig (Elt F)) :=
  [StableHlo.reshape main_arg0 main_v0 (rfl : (.f32 : EltTy) = .f32) shapeCasts_S1x100000x3_S25x4000x3,
    StableHlo.unary main_v0 main_v1 ((transpose S25x3x4000 [0, 2, 1] · transposes_S25x4000x3_S25x3x4000_0_2_1) : (⟨S25x4000x3, .f32⟩ : BufTy).Contents (Elt F) → (⟨S25x3x4000, .f32⟩ : BufTy).Contents (Elt F)),
    StableHlo.reshape main_arg1 main_v2 (rfl : (.f32 : EltTy) = .f32) shapeCasts_S1x100000x10_S25x4000x10,
    StableHlo.unary main_v2 main_v3 ((transpose S25x10x4000 [0, 2, 1] · transposes_S25x4000x10_S25x10x4000_0_2_1) : (⟨S25x4000x10, .f32⟩ : BufTy).Contents (Elt F) → (⟨S25x10x4000, .f32⟩ : BufTy).Contents (Elt F)),
    StableHlo.unary main_arg2 main_v4 ((transpose S128x3 [1, 0] · transposes_S3x128_S128x3_1_0) : (⟨S3x128, .f32⟩ : BufTy).Contents (Elt F) → (⟨S128x3, .f32⟩ : BufTy).Contents (Elt F)),
    StableHlo.unary main_arg4 main_v5 ((transpose S128x128 [1, 0] · transposes_S128x128_S128x128_1_0) : (⟨S128x128, .f32⟩ : BufTy).Contents (Elt F) → (⟨S128x128, .f32⟩ : BufTy).Contents (Elt F)),
    StableHlo.unary main_arg6 main_v6 ((transpose S4x128 [1, 0] · transposes_S128x4_S4x128_1_0) : (⟨S128x4, .f32⟩ : BufTy).Contents (Elt F) → (⟨S4x128, .f32⟩ : BufTy).Contents (Elt F))]

/-- The layout operations after the last call. -/
def opsOut : List (HloOp τ sig (Elt F)) :=
  [StableHlo.unary main_v7_0 main_v10 ((transpose S25x4000x10 [0, 2, 1] · transposes_S25x10x4000_S25x4000x10_0_2_1) : (⟨S25x10x4000, .f32⟩ : BufTy).Contents (Elt F) → (⟨S25x4000x10, .f32⟩ : BufTy).Contents (Elt F)),
    StableHlo.reshape main_v10 main_v11 (rfl : (.f32 : EltTy) = .f32) shapeCasts_S25x4000x10_S1x100000x10,
    StableHlo.unary main_v9_0 main_v12 ((transpose S25x4000x3 [0, 2, 1] · transposes_S25x3x4000_S25x4000x3_0_2_1) : (⟨S25x3x4000, .f32⟩ : BufTy).Contents (Elt F) → (⟨S25x4000x3, .f32⟩ : BufTy).Contents (Elt F)),
    StableHlo.reshape main_v12 main_v13 (rfl : (.f32 : EltTy) = .f32) shapeCasts_S25x4000x3_S1x100000x3,
    StableHlo.unary main_v9_1 main_v14 ((transpose S25x4000x3 [0, 2, 1] · transposes_S25x3x4000_S25x4000x3_0_2_1) : (⟨S25x3x4000, .f32⟩ : BufTy).Contents (Elt F) → (⟨S25x4000x3, .f32⟩ : BufTy).Contents (Elt F)),
    StableHlo.reshape main_v14 main_v15 (rfl : (.f32 : EltTy) = .f32) shapeCasts_S25x4000x3_S1x100000x3,
    StableHlo.unary main_v9_2 main_v16 ((transpose S25x4000x1 [0, 2, 1] · transposes_S25x1x4000_S25x4000x1_0_2_1) : (⟨S25x1x4000, .f32⟩ : BufTy).Contents (Elt F) → (⟨S25x4000x1, .f32⟩ : BufTy).Contents (Elt F)),
    StableHlo.reshape main_v16 main_v17 (rfl : (.f32 : EltTy) = .f32) shapeCasts_S25x4000x1_S1x100000x1]

theorem main_eq (d : Dev nD) : main (F := F) d = (seq opsIn >>= fun _ => Prog.lift (.customCall (SparseCore.inner (Pipeline.entry 0)) ()) >>= fun _ =>
    sc.run d 0 >>= fun _ => Prog.lift (.customCall (SparseCore.inner (Pipeline.entry 1)) ()) >>= fun _ => seq opsOut >>= fun _ => pure ⟨⟩) := by
  simp only [main, opsIn, opsOut, seq, bind_assoc, pure_bind]

theorem opsIn_bufs : ∀ op ∈ opsIn (F := F), op.bufs ⊆ ucRefs := by
  intro op h
  simp only [opsIn, List.mem_cons, List.not_mem_nil, or_false] at h
  rcases h with rfl | rfl | rfl | rfl | rfl | rfl | rfl <;>
    (simp only [StableHlo.unary_bufs, StableHlo.reshape_bufs]; decide)
theorem opsOut_bufs : ∀ op ∈ opsOut (F := F), op.bufs ⊆ ucRefs := by
  intro op h
  simp only [opsOut, List.mem_cons, List.not_mem_nil, or_false] at h
  rcases h with rfl | rfl | rfl | rfl | rfl | rfl | rfl | rfl <;>
    (simp only [StableHlo.unary_bufs, StableHlo.reshape_bufs]; decide)
theorem opsIn_fresh : ∀ op ∈ opsIn (F := F), op.fresh = ∅ := by
  intro op h
  simp only [opsIn, List.mem_cons, List.not_mem_nil, or_false] at h
  rcases h with rfl | rfl | rfl | rfl | rfl | rfl | rfl <;> rfl
theorem opsOut_fresh : ∀ op ∈ opsOut (F := F), op.fresh = ∅ := by
  intro op h
  simp only [opsOut, List.mem_cons, List.not_mem_nil, or_false] at h
  rcases h with rfl | rfl | rfl | rfl | rfl | rfl | rfl | rfl <;> rfl

/-! ## The arrays, stage by stage -/

variable [∀ e, Nonempty (Elt F e)]
variable (m : (ℓ : Loc nD τ sig) → Buf (Elt F) ℓ)

/-- The references by which the program's three calls name the arrays they write. -/
abbrev r70 : DevRef τ sig := main_v7_0
abbrev r71 : DevRef τ sig := main_v7_1
abbrev r80 : DevRef τ sig := main_v8_0
abbrev r81 : DevRef τ sig := main_v8_1
abbrev r90 : DevRef τ sig := main_v9_0
abbrev r91 : DevRef τ sig := main_v9_1
abbrev r92 : DevRef τ sig := main_v9_2

/-- At launch; after the layout operations; -/
def val0 (d : Dev nD) : Valuation τ sig (Elt F) := fun b => m (d, b)
def val1 (d : Dev nD) : Valuation τ sig (Elt F) := after opsIn (val0 m d)
/-- a valuation per device, read by the TensorCore's references; -/
abbrev tcv (W : Dev nD → Valuation τ sig (Elt F)) (c : Dev nD) (b : Ref sig .tc) : Buf (Elt F) ((c : Thread nD τ).loc b) := W c b
/-- after the first call; -/
def val2 (d : Dev nD) : Valuation τ sig (Elt F) :=
  Function.update (Function.update (val1 m d) r70 ((dat0 (tcv (val1 m)) d).arrAt 8 cfg0.N)) r71 ((dat0 (tcv (val1 m)) d).arrAt 9 cfg0.N)
/-- the per-point table the first call leaves; -/
def tab (d : Dev nD) : S25x8x4000.Idx → F .f32 := val2 m d r71
/-- after the segment kernel; -/
def val3 (d : Dev nD) : Valuation τ sig (Elt F) :=
  Function.update (Function.update (val2 m d) r80 (segMax (tab m d))) r81 (segMin (tab m d))
/-- after the last call; -/
def val4 (d : Dev nD) : Valuation τ sig (Elt F) :=
  Function.update (Function.update (Function.update (val3 m d) r90 ((dat2 (tcv (val3 m)) d).arrAt 3 cfg2.N)) r91 ((dat2 (tcv (val3 m)) d).arrAt 4 cfg2.N))
    r92 ((dat2 (tcv (val3 m)) d).arrAt 5 cfg2.N)
/-- at the end. -/
def val5 (d : Dev nD) : Valuation τ sig (Elt F) := after opsOut (val4 m d)

/-! ## What the segment kernel is handed -/

/-- What task `w` takes, and what it gives back. -/
abbrev goW (d : Dev nD) (w : Fin 32) : sProp 𝕄 :=
  goT d (tab m d) (Transfers.shareTok fullShare 32 w) (val2 m d r80) (val2 m d r81) w
abbrev tdW (d : Dev nD) (w : Fin 32) : sProp 𝕄 :=
  goT d (tab m d) (Transfers.shareTok fullShare 32 w) (segMax (tab m d)) (segMin (tab m d)) w

def P : (K (F := F)).Pay (nD := nD) (Val := Elt F) (Name := ℕ) (U := UU) where
  st := fun q d c => match q with | 0 => bigSep Finset.univ fun i : Fin 16 => goW m d (wid (Fin.cast nCore_zero c) i)
  dn := fun q d c => match q with | 0 => bigSep Finset.univ fun i : Fin 16 => tdW m d (wid (Fin.cast nCore_zero c) i)
  go := fun q d c i => match q with | 0 => goW m d (wid (Fin.cast nCore_zero c) (Fin.cast nSub_zero i))
  td := fun q d c i => match q with | 0 => tdW m d (wid (Fin.cast nCore_zero c) (Fin.cast nSub_zero i))
  x := fun _ _ => iprop(emp)

instance P_storable : (P (F := F) m).IsStorable where
  st q d c := match q with
    | 0 => (inferInstance : BI.Storable (upEmb : UEmb _ 𝕄) (bigSep Finset.univ fun i : Fin 16 => goW m d (wid (Fin.cast nCore_zero c) i)))
  dn q d c := match q with
    | 0 => (inferInstance : BI.Storable (upEmb : UEmb _ 𝕄) (bigSep Finset.univ fun i : Fin 16 => tdW m d (wid (Fin.cast nCore_zero c) i)))
  go q d c i := match q with
    | 0 => (inferInstance : BI.Storable (upEmb : UEmb _ 𝕄) (goW m d (wid (Fin.cast nCore_zero c) (Fin.cast nSub_zero i))))
  td q d c i := match q with
    | 0 => (inferInstance : BI.Storable (upEmb : UEmb _ 𝕄) (tdW m d (wid (Fin.cast nCore_zero c) (Fin.cast nSub_zero i))))

def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 ()
      = SparseCore.onTile hcore1 hsub1 (fun c s => cc1__seg_sc_body (coordsV c s)
          (Memref.whole main_v7_1_scv) (Memref.isWhole_whole _) (Memref.whole main_v8_0_scv) (Memref.isWhole_whole _) (Memref.whole main_v8_1_scv) (Memref.isWhole_whole _)
          (Memref.whole cc1_scratch0) (Memref.isWhole_whole _) (Memref.whole cc1_scratch1) (Memref.isWhole_whole _) (Memref.whole cc1_scratch2) (Memref.isWhole_whole _)
          cc1_scoped0 cc1_scoped1 cc1_scoped2) ⟨⟩ c s := rfl

theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BIBase.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body d (coordsV ⟨_, hci.1⟩ ⟨_, hci.2⟩) (tab m d) (Transfers.shareTok fullShare 32 (wid (Fin.cast nCore_zero c) (Fin.cast nSub_zero i))) hF O W hO
    (val2 m d r80) (val2 m d r81)

omit [FloatOps F] [Named F] [∀ e, Nonempty (Elt F e)] in
theorem bigSep_tasks [FloatOps F] [Named F] (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem vecSplit : (K (F := F)).VecSplit' (P m) 0 := by
  intro d c
  show (bigSep Finset.univ fun i : Fin 16 => goW m d (wid (Fin.cast nCore_zero c) i)) ⊢ |={Set.univ}=> iprop(
      (bigSep Finset.univ fun i : Fin ((K (F := F)).nSub 0) => goW m d (wid (Fin.cast nCore_zero c) (Fin.cast nSub_zero i)))
      ∗ ((bigSep Finset.univ fun i : Fin ((K (F := F)).nSub 0) => tdW m d (wid (Fin.cast nCore_zero c) (Fin.cast nSub_zero i)))
          -∗ bigSep Finset.univ fun i : Fin 16 => tdW m d (wid (Fin.cast nCore_zero c) i)))
  rw [bigSep_tasks (F := F) (fun i => goW m d (wid (Fin.cast nCore_zero c) i)), bigSep_tasks (F := F) (fun i => tdW m d (wid (Fin.cast nCore_zero c) i))]
  iintro H; imodintro
  isplitl [H]; · iexact H
  iintro H; iexact H

/-! ## The arrays split over the 32 tasks -/

theorem rowSet_eq (i : Fin 32) : rowSet i = (row i).set := by
  show ((View.whole (main_v8_0_scv : Ref sig .scVector)).slice (row i)).set = _
  rw [View.set_slice]; exact Finset.map_refl
theorem rows_disjoint : ∀ i ∈ (Finset.univ : Finset (Fin 32)), ∀ j ∈ (Finset.univ : Finset (Fin 32)), i ≠ j → Disjoint (rowSet i) (rowSet j) :=
  fun i _ j _ h => by rw [rowSet_eq, rowSet_eq]; exact Rect.part_disjoint hdiv h
theorem rows_cover : (Finset.univ : Finset (Fin 32)).biUnion rowSet = Finset.univ :=
  (Finset.biUnion_congr rfl fun i _ => rowSet_eq i).trans (Rect.biUnion_part hdiv)

theorem oPts_rows (d : Dev nD) (f : Buf (Elt F) (oLoc d)) :
    (oLoc d ↦{fullShare} f : sProp 𝕄) = bigSep Finset.univ fun i : Fin 32 => oLoc d ↦[rowSet i]{fullShare} f := by
  rw [← pointsTo_biUnion Finset.univ (ℓ := oLoc d) rowSet rows_disjoint, rows_cover]; try rfl
theorem qPts_rows (d : Dev nD) (f : Buf (Elt F) (qLoc d)) :
    (qLoc d ↦{fullShare} f : sProp 𝕄) = bigSep Finset.univ fun i : Fin 32 => qLoc d ↦[rowSet i]{fullShare} f := by
  rw [← pointsTo_biUnion Finset.univ (ℓ := qLoc d) rowSet rows_disjoint, rows_cover]; try rfl

/-- The 32 tasks, numbered by SparseCore and subcore. -/
def widEquiv : Fin 2 × Fin 16 ≃ Fin 32 where
  toFun x := wid x.1 x.2
  invFun w := (⟨w.val % 2, Nat.mod_lt _ (by decide)⟩, ⟨w.val / 2, by omega⟩)
  left_inv x := by
    obtain ⟨c, s⟩ := x
    refine Prod.ext (Fin.ext ?_) (Fin.ext ?_)
    · show (2 * s.val + c.val) % 2 = c.val; omega
    · show (2 * s.val + c.val) / 2 = s.val; omega
  right_inv w := Fin.ext (by show 2 * (w.val / 2) + w.val % 2 = w.val; omega)

theorem bigSep_wid (Φ : Fin 32 → sProp 𝕄) :
    (bigSep Finset.univ fun c : Fin ((K (F := F)).nCore 0) => bigSep Finset.univ fun i : Fin 16 => Φ (wid (Fin.cast nCore_zero c) i)) = bigSep Finset.univ Φ := by
  rw [BI.bigSep_univ_equiv widEquiv Φ, BI.bigSep_univ_prod]
  rfl

theorem st0_eq (d : Dev nD) :
    (bigSep Finset.univ fun c : Fin ((K (F := F)).nCore 0) => (P m).st 0 d c)
      = iprop((bigSep Finset.univ fun w : Fin 32 => aLoc d ↦{Transfers.shareTok fullShare 32 w} (tab m d : Buf (Elt F) (aLoc d)))
          ∗ (oLoc d ↦{fullShare} val2 m d r80) ∗ (qLoc d ↦{fullShare} val2 m d r81)) := by
  refine (bigSep_wid (F := F) (fun w => goW m d w)).trans ?_
  rw [bigSep_sep', bigSep_sep', ← oPts_rows (F := F) d, ← qPts_rows (F := F) d]
theorem dn0_eq (d : Dev nD) :
    (bigSep Finset.univ fun c : Fin ((K (F := F)).nCore 0) => (P m).dn 0 d c)
      = iprop((bigSep Finset.univ fun w : Fin 32 => aLoc d ↦{Transfers.shareTok fullShare 32 w} (tab m d : Buf (Elt F) (aLoc d)))
          ∗ (oLoc d ↦{fullShare} (segMax (tab m d) : Buf (Elt F) (oLoc d))) ∗ (qLoc d ↦{fullShare} (segMin (tab m d) : Buf (Elt F) (qLoc d)))) := by
  refine (bigSep_wid (F := F) (fun w => tdW m d w)).trans ?_
  rw [bigSep_sep', bigSep_sep', ← oPts_rows (F := F) d, ← qPts_rows (F := F) d]

/-! ## The launch element -/

def u₀ : UU := (initOf (K (F := F)).hsCells (K (F := F)).hsToks,
  (initOf (Pipeline.cells (pins (F := F)) pins_inj) (Pipeline.launchToks (pins (F := F)) pins_inj), 1))

/-- What the TensorCore of `d` is dealt for its two calls. -/
abbrev G (d : Dev nD) : sProp 𝕄 :=
  iprop((bigSep Finset.univ fun p : Fin 2 => Pipeline.cellsGhost (pins (F := F)) EP p d) ∗ bigSep Finset.univ fun p : Fin 2 => Pipeline.toksInit (pins (F := F)) EP p d)

theorem bigSep_emp' {I : Type} (s : Finset I) : (bigSep s fun _ => iprop(emp)) = (iprop(emp) : sProp 𝕄) := bigSep_emp_const s

theorem EP_eq : (EP (F := F) : Emb UP 𝕄) = (Emb.inl : Emb UP (UP × Counters)).trans (embR (A := UH) (B := UP × Counters)) := rfl

theorem hu₀ : (ownU (u₀ (F := F)) : sProp 𝕄)
    ⊢ |={Set.univ}=> iprop(BI.own (EH (initOf (K (F := F)).hsCells (K (F := F)).hsToks)) ∗ (bigSep Finset.univ (G (F := F)))
        ∗ bigSep Finset.univ fun thr : Thread nD τ => bigSep Finset.univ fun q : Fin 1 => (P m).x q thr) := by
  unfold u₀
  iintro Hu
  ihave H := (ownU_pair (initOf (K (F := F)).hsCells (K (F := F)).hsToks)
    (initOf (Pipeline.cells (pins (F := F)) pins_inj) (Pipeline.launchToks (pins (F := F)) pins_inj), (1 : Counters))) $$ Hu
  icases H with ⟨HH, HP⟩
  ihave H := (own_pair_emb (embR (A := UH) (B := UP × Counters)) (initOf (Pipeline.cells (pins (F := F)) pins_inj) (Pipeline.launchToks (pins (F := F)) pins_inj)) (1 : Counters)) $$ HP
  icases H with ⟨HP, -⟩
  rw [← EP_eq]
  imod (Pipeline.fund_ghost (pins (F := F)) (EP (F := F)) pins_inj) $$ HP with ⟨Hg, Ht⟩
  imodintro
  isplitl [HH]; · iexact HH
  isplitl [Hg Ht]
  · rw [bigSep_sep']
    isplitl [Hg]; · iexact Hg
    iexact Ht
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main -/

theorem tc_ne {a b : Ref sig .tc} (h : a ≠ b) : Proc.devRef (τ := τ) .tc a ≠ Proc.devRef .tc b := fun e => h (Proc.devRef_injective _ e)

theorem val2_r71 (d : Dev nD) : val2 m d r71 = (dat0 (tcv (val1 m)) d).arrAt 9 cfg0.N := Function.update_self _ _ _
theorem val2_r70 (d : Dev nD) : val2 m d r70 = (dat0 (tcv (val1 m)) d).arrAt 8 cfg0.N :=
  (Function.update_of_ne (show r70 ≠ r71 by decide) _ _).trans (Function.update_self _ _ _)
theorem val2_ne (d : Dev nD) {b : DevRef τ sig} (h0 : b ≠ r70) (h1 : b ≠ r71) : val2 m d b = val1 m d b :=
  (Function.update_of_ne h1 _ _).trans (Function.update_of_ne h0 _ _)
theorem val3_r81 (d : Dev nD) : val3 m d r81 = segMin (tab m d) := Function.update_self _ _ _
theorem val3_r80 (d : Dev nD) : val3 m d r80 = segMax (tab m d) :=
  (Function.update_of_ne (show r80 ≠ r81 by decide) _ _).trans (Function.update_self _ _ _)
theorem val3_ne (d : Dev nD) {b : DevRef τ sig} (h0 : b ≠ r80) (h1 : b ≠ r81) : val3 m d b = val2 m d b :=
  (Function.update_of_ne h1 _ _).trans (Function.update_of_ne h0 _ _)
theorem val4_r92 (d : Dev nD) : val4 m d r92 = (dat2 (tcv (val3 m)) d).arrAt 5 cfg2.N := Function.update_self _ _ _
theorem val4_r91 (d : Dev nD) : val4 m d r91 = (dat2 (tcv (val3 m)) d).arrAt 4 cfg2.N :=
  (Function.update_of_ne (show r91 ≠ r92 by decide) _ _).trans (Function.update_self _ _ _)
theorem val4_r90 (d : Dev nD) : val4 m d r90 = (dat2 (tcv (val3 m)) d).arrAt 3 cfg2.N :=
  (Function.update_of_ne (show r90 ≠ r92 by decide) _ _).trans
    ((Function.update_of_ne (show r90 ≠ r91 by decide) _ _).trans (Function.update_self _ _ _))
theorem val4_ne (d : Dev nD) {b : DevRef τ sig} (h0 : b ≠ r90) (h1 : b ≠ r91) (h2 : b ≠ r92) : val4 m d b = val3 m d b :=
  (Function.update_of_ne h2 _ _).trans ((Function.update_of_ne h1 _ _).trans (Function.update_of_ne h0 _ _))

/-- The arrays the segment kernel reads and writes. -/
def segRefs : Finset (DevRef τ sig) := {r71, r80, r81}

theorem held_segRefs (d : Dev nD) (W : Valuation τ sig (Elt F)) :
    (held (T d) segRefs W : sProp 𝕄) = iprop((aLoc d ↦{fullShare} W r71) ∗ (oLoc d ↦{fullShare} W r80) ∗ (qLoc d ↦{fullShare} W r81)) := by
  unfold held
  rw [show segRefs = insert r71 (insert r80 {r81}) from rfl, SparseCore.bigSep_insert' (by decide), SparseCore.bigSep_insert' (by decide), bigSep_singleton]

theorem segRefs_sub : segRefs ⊆ ucRefs := by decide

theorem held_val2 (d : Dev nD) : (held (T d) ucRefs (val2 m d) : sProp 𝕄)
    = iprop(((aLoc d ↦{fullShare} (tab m d : Buf (Elt F) (aLoc d))) ∗ (oLoc d ↦{fullShare} val2 m d r80) ∗ (qLoc d ↦{fullShare} val2 m d r81))
        ∗ held (T d) (ucRefs \ segRefs) (val2 m d)) := by
  rw [StableHlo.held_sub_split (T d) segRefs_sub, held_segRefs]; rfl
theorem held_val3 (d : Dev nD) : (held (T d) ucRefs (val3 m d) : sProp 𝕄)
    = iprop(((aLoc d ↦{fullShare} (tab m d : Buf (Elt F) (aLoc d))) ∗ (oLoc d ↦{fullShare} (segMax (tab m d) : Buf (Elt F) (oLoc d)))
          ∗ (qLoc d ↦{fullShare} (segMin (tab m d) : Buf (Elt F) (qLoc d))))
        ∗ held (T d) (ucRefs \ segRefs) (val2 m d)) := by
  rw [StableHlo.held_sub_split (T d) segRefs_sub, held_segRefs, val3_r80, val3_r81, val3_ne m d (show r71 ≠ r80 by decide) (show r71 ≠ r81 by decide),
    StableHlo.held_congr (T d) (S := ucRefs \ segRefs) (V := val3 m d) (V' := val2 m d) fun b hb => val3_ne m d
      (fun h => (Finset.mem_sdiff.mp hb).2 (by rw [h]; decide)) (fun h => (Finset.mem_sdiff.mp hb).2 (by rw [h]; decide))]
  rfl

end Cert.KernelIdeal.Prf

end
-- ==== Proof.Main.lean ====
/-
  @main's run on a TensorCore, and the run of the whole program from any launch memory: every array of the program ends at the contents
  that Run.lean writes down for it.
-/
module

public import proofs.«01_k».proof.Proof.Run
public import Idealize.ShloMosaic.Lib.SparseCore.Quiescent
public import proofs.«01_k».proof.Defs

@[expose] public section

noncomputable section

namespace Cert.KernelIdeal.Prf

open Cert.KernelIdeal Cert.KernelIdeal.Gen

open Idealize.ShloMosaic Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held after seq)
open Idealize.ShloMosaic.Tactic

variable {F : FTy → Type} [FloatOps F] [Named F]

local notation "𝕄" => MT nD τ sig (HIx 1) (Elt F) ℕ UU ℕ

variable [∀ e, Nonempty (Elt F e)]
variable (m : (ℓ : Loc nD τ sig) → Buf (Elt F) ℓ)
variable (ρ : Dev nD → PrngReg)

/-- What @main leaves the claim: every array of the program at its last contents. -/
abbrev FIN (d : Dev nD) : sProp 𝕄 := held (SparseCore.T d) ucRefs (val5 m d)

theorem held_launch (d : Dev nD) : (unscopedBufs d (fun b => m ((SparseCore.T d).loc b)) : sProp 𝕄) = held (SparseCore.T d) ucRefs (val0 m d) :=
  unscopedBufs_held d (val0 m d)
omit m in
theorem held_tcv (W : Dev nD → Valuation τ sig (Elt F)) (d : Dev nD) : (unscopedBufs d (tcv W d) : sProp 𝕄) = held (SparseCore.T d) ucRefs (W d) :=
  unscopedBufs_held d (W d)

theorem held_in (d : Dev nD) : (held (d.tc : Thread nD τ) ucRefs (after opsIn (val0 m d)) : sProp 𝕄) = unscopedBufs d (tcv (val1 m) d) :=
  (unscopedBufs_held d (val1 m d)).symm

theorem G_eq (d : Dev nD) : G (F := F) d = iprop((Pipeline.cellsGhost (pins (F := F)) EP 0 d ∗ Pipeline.cellsGhost (pins (F := F)) EP 1 d)
    ∗ Pipeline.toksInit (pins (F := F)) EP 0 d ∗ Pipeline.toksInit (pins (F := F)) EP 1 d) := by
  unfold G
  rw [show (Finset.univ : Finset (Fin 2)) = {0, 1} by decide, SparseCore.bigSep_insert' (by decide), bigSep_singleton,
    SparseCore.bigSep_insert' (by decide), bigSep_singleton]

/-- A TensorCore's handshake state is what it owes, beside the rest. -/
theorem tcSt_eq (d : Dev nD) (n : ℕ) : ∃ R : sProp 𝕄, (K (F := F)).tcSt EH d n = iprop(owesBelow (F := F) d n ∗ R) := ⟨_, rfl⟩

/-- The last two stretches, from what the segment kernel leaves. -/
theorem main_last (κ : GSem nD τ sig → ℕ) (d : Dev nD) :
    iprop((K (F := F)).ctx EH (P m) κ ∗ (K (F := F)).tcSt EH d 1 ∗ boundary (SparseCore.T d) ∗ held (SparseCore.T d) ucRefs (val3 m d)
        ∗ (K (F := F)).tcSems0 d ∗ Pipeline.cellsGhost (pins (F := F)) EP 1 d ∗ Pipeline.toksInit (pins (F := F)) EP 1 d)
      ⊢ wp frame (wpE ((K (F := F)).defs (D (F := F))) 𝒱 (SparseCore.T d) none) Set.univ
          (Prog.lift (.customCall (SparseCore.inner (Pipeline.entry 1)) ()) >>= fun _ => seq opsOut >>= fun _ => pure PUnit.unit)
          fun _ => iprop((K (F := F)).tcSt EH d 1 ∗ FIN m d ∗ (K (F := F)).tcEnd d) := by
  unfold SparseCore.Cfg.tcEnd
  obtain ⟨R, hR⟩ := tcSt_eq (F := F) d 1
  rw [hR, wp_bind, ← held_tcv (val3 m)]
  iintro ⟨#Hctx, ⟨HO, Hst⟩, Hb, Hheld, Hts, Hg, Ht⟩
  ihave #Hlev := ((K (F := F)).ctx_levAts κ) $$ Hctx
  iapply (call2 (tcv (val3 m)) (tcv (val4 m)) (val4_r90 m) (val4_r91 m) (val4_r92 m)
    (fun c b h0 h1 h2 => val4_ne m c (tc_ne h0) (tc_ne h1) (tc_ne h2)) d _) $$ [HO Hst Hb Hheld Hts Hg Ht]
  isplitr [Hb Hheld HO Hg Ht]
  rotate_left
  · isplitl [Hb]; · iexact Hb
    isplitl [Hheld HO]
    · isplitl [Hheld] <;> iassumption
    isplitr; · iexact Hlev
    isplitl [Hg] <;> iassumption
  iintro ⟨Hb, Hheld, HO⟩
  ihave Hheld' := (Entails.of_eq (held_tcv (val4 m) d)) $$ Hheld
  iapply (StableHlo.wp_seq 𝒱 none Set.univ d ucRefs (fun _ => pure PUnit.unit) opsOut opsOut_bufs opsOut_fresh (val4 m d)) $$ [Hb Hheld']
  · isplitl [Hb] <;> iassumption
  iintro ⟨Hb, Hheld⟩
  rw [wp_pure]; imodintro
  isplitl [HO Hst]
  · isplitl [HO] <;> iassumption
  isplitl [Hheld]; · iexact Hheld
  isplitl [Hb] <;> iassumption

/-- The stretch of the segment kernel and what follows. -/
theorem main_seg (κ : GSem nD τ sig → ℕ) (d : Dev nD) :
    iprop((K (F := F)).ctx EH (P m) κ ∗ (K (F := F)).tcSt EH d 0 ∗ boundary (SparseCore.T d) ∗ held (SparseCore.T d) ucRefs (val2 m d)
        ∗ (K (F := F)).tcSems0 d ∗ Pipeline.cellsGhost (pins (F := F)) EP 1 d ∗ Pipeline.toksInit (pins (F := F)) EP 1 d)
      ⊢ wp frame (wpE ((K (F := F)).defs (D (F := F))) 𝒱 (SparseCore.T d) none) Set.univ
          (sc.run d 0 >>= fun _ => Prog.lift (.customCall (SparseCore.inner (Pipeline.entry 1)) ()) >>= fun _ => seq opsOut >>= fun _ => pure PUnit.unit)
          fun _ => iprop((K (F := F)).tcSt EH d 1 ∗ FIN m d ∗ (K (F := F)).tcEnd d) := by
  rw [wp_bind, held_val2]
  iintro ⟨#Hctx, Hst, Hb, ⟨⟨Ha, Ho, Hq⟩, Hrest⟩, Hts, Hg, Ht⟩
  ihave Ha' := (Transfers.pointsTo_toks fullShare 32).1 $$ Ha
  icases Ha' with ⟨Had, Hat⟩
  iapply ((K (F := F)).wp_run (D (F := F)) 𝒱 (EH := EH) (P := P m) κ d 0) $$ [Hst Had Hat Ho Hq Hrest Hb Hts Hg Ht]
  isplitr; · iexact Hctx
  isplitl [Hst]; · iexact Hst
  isplitl [Hat Ho Hq]
  · rw [st0_eq]
    isplitl [Hat]; · iexact Hat
    isplitl [Ho] <;> iassumption
  iintro ⟨Hst, Hdn⟩
  ihave Hdn' := (Entails.of_eq (dn0_eq m d)) $$ Hdn
  icases Hdn' with ⟨Hat, Ho, Hq⟩
  ihave Ha := (Transfers.pointsTo_toks fullShare 32).2 $$ [Had Hat]
  · isplitl [Had] <;> iassumption
  iapply (main_last m κ d) $$ [Hst Hb Ha Ho Hq Hrest Hts Hg Ht]
  isplitr; · iexact Hctx
  isplitl [Hst]; · iexact Hst
  isplitl [Hb]; · iexact Hb
  isplitl [Ha Ho Hq Hrest]
  · rw [held_val3]
    isplitl [Ha Ho Hq]
    · isplitl [Ha]; · iexact Ha
      isplitl [Ho] <;> iassumption
    iexact Hrest
  isplitl [Hts]; · iexact Hts
  isplitl [Hg] <;> iassumption

/-- @main on one TensorCore: every array's contents followed through the five stretches. -/
theorem hmain (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes
  obtain ⟨R, hR⟩ := tcSt_eq (F := F) d 0
  rw [main_eq, held_launch, G_eq]
  iintro ⟨#Hctx, Hst, ⟨Hb, Hheld, Hts, -⟩, ⟨Hg0, Hg1⟩, Ht0, Ht1⟩
  ihave #Hlev := ((K (F := F)).ctx_levAts κ) $$ Hctx
  iapply (StableHlo.wp_seq 𝒱 none Set.univ d ucRefs _ opsIn opsIn_bufs opsIn_fresh (val0 m d)) $$ [Hb Hheld]
  · isplitl [Hb] <;> iassumption
  iintro ⟨Hb, Hheld⟩
  rw [wp_bind]
  ihave Hst' := (Entails.of_eq hR) $$ Hst
  icases Hst' with ⟨HO, Hst⟩
  ihave Hheld' := (Entails.of_eq (held_in m d)) $$ Hheld
  iapply (call0 (tcv (val1 m)) (tcv (val2 m)) (val2_r70 m) (val2_r71 m) (fun c b h0 h1 => val2_ne m c (tc_ne h0) (tc_ne h1)) d _)
    $$ [Hb Hheld' HO Hst Hg0 Hg1 Ht0 Ht1 Hts]
  isplitr [Hb Hheld' HO Hg0 Ht0]
  rotate_left
  · isplitl [Hb]; · iexact Hb
    isplitl [Hheld' HO]
    · isplitl [Hheld'] <;> iassumption
    isplitr; · iexact Hlev
    isplitl [Hg0] <;> iassumption
  iintro ⟨Hb, Hheld, HO⟩
  ihave Hheld' := (Entails.of_eq (held_tcv (val2 m) d)) $$ Hheld
  iapply (main_seg m κ d) $$ [Hst HO Hb Hheld' Hts Hg1 Ht1]
  isplitr; · iexact Hctx
  isplitl [Hst HO]
  · rw [hR]
    isplitl [HO] <;> iassumption
  isplitl [Hb]; · iexact Hb
  isplitl [Hheld']; · iexact Hheld'
  isplitl [Hts]; · iexact Hts
  isplitl [Hg1] <;> iassumption

/-- At the end, every array of the program is at its last contents. -/
def fq (d : Dev nD) (s' : Phys nD τ sig (Elt F)) : Prop := ∀ b ∈ ucRefs, s'.mem.mem (d, b) = val5 m d b

theorem hfin (d : Dev nD) (s' : Phys nD τ sig (Elt F)) : iprop(FIN m d ∗ SI s') ⊢ (⌜fq m d s'⌝ : sProp 𝕄) := by
  show iprop((bigSep ucRefs fun b => (d, b) ↦{fullShare} val5 m d b) ∗ SI s') ⊢ _
  iintro ⟨Hx, HSI⟩
  iapply (SI_pointsTo_bufs_agree (st := s') (c := d) (qs := fun _ => fullShare) (F := val5 m d) ucRefs) $$ [HSI Hx]
  isplitl [HSI]; · iexact HSI
  iexact Hx

/-- The run's post: every array at its last contents, every semaphore at zero. -/
def QC : PUnit × MemSt nD τ sig (Elt F) → Prop := fun r => (∀ c : Dev nD, ∀ b ∈ ucRefs, r.2.mem (c, b) = val5 m c b) ∧ r.2.sem = fun _ => 0

theorem run_main : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (G (F := F)) (FIN m) (u₀ (F := F)) (sep_elim_left.trans (hu₀ m)) (hmain m ρ) (fq m) (hfin m) (QC m) (fun _ h hz => ⟨h, hz⟩)

end Cert.KernelIdeal.Prf

end
-- ==== Proof.Frame.lean ====
/-
  The arguments at the end of the run: no stretch of the program writes one, so each holds what it held at launch.
-/
module

public import proofs.«01_k».proof.Proof.Main
public import Idealize.ShloMosaic.Lib.StableHlo.RunRead

@[expose] public section

noncomputable section

namespace Cert.KernelIdeal.Prf

open Cert.KernelIdeal Cert.KernelIdeal.Gen

open Idealize.ShloMosaic Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held after seq)
open Idealize.ShloMosaic.Tactic

variable {F : FTy → Type} [FloatOps F] [Named F]

local notation "𝕄" => MT nD τ sig (HIx 1) (Elt F) ℕ UU ℕ

variable [∀ e, Nonempty (Elt F e)]
variable (m : (ℓ : Loc nD τ sig) → Buf (Elt F) ℓ)

/-- What the two host stretches write. -/
def wroteIn : List (Ref sig .tc) := [main_v0, main_v1, main_v2, main_v3, main_v4, main_v5, main_v6]
def wroteOut : List (Ref sig .tc) := [main_v10, main_v11, main_v12, main_v13, main_v14, main_v15, main_v16, main_v17]

/-- An array that nothing writes is at its launch contents at the end. -/
theorem val5_kept (d : Dev nD) {r : Ref sig .tc} (hi : r ∉ wroteIn) (ho : r ∉ wroteOut) (h70 : r ≠ main_v7_0) (h71 : r ≠ main_v7_1)
    (h80 : r ≠ main_v8_0) (h81 : r ≠ main_v8_1) (h90 : r ≠ main_v9_0) (h91 : r ≠ main_v9_1) (h92 : r ≠ main_v9_2) :
    val5 m d (Proc.devRef .tc r) = m (d, Proc.devRef .tc r) := by
  unfold val5
  rw [StableHlo.after_unwritten wroteOut rfl ho, val4_ne m d (tc_ne h90) (tc_ne h91) (tc_ne h92), val3_ne m d (tc_ne h80) (tc_ne h81),
    val2_ne m d (tc_ne h70) (tc_ne h71)]
  unfold val1
  rw [StableHlo.after_unwritten wroteIn rfl hi]
  rfl

/-- Every run ends with the arguments as they were at launch and every semaphore at zero. -/
theorem run_frame (ρ : Dev nD → PrngReg) :
    θ_run (Cert.KernelIdeal.defs (F := F)) (Cert.KernelIdeal.threads (F := F)) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) := by
  refine (θ_run _ _ _).mono (fun r h => ⟨fun c => ?_, h.2⟩) (run_main m ρ)
  have key : ∀ a : Ref sig .tc, Proc.devRef (τ := τ) .tc a ∈ ucRefs → a ∉ wroteIn → a ∉ wroteOut → a ≠ main_v7_0 → a ≠ main_v7_1 → a ≠ main_v8_0 → a ≠ main_v8_1 →
      a ≠ main_v9_0 → a ≠ main_v9_1 → a ≠ main_v9_2 → r.2.mem (c, Proc.devRef .tc a) = m (c, Proc.devRef .tc a) :=
    fun a hu hi ho h1 h2 h3 h4 h5 h6 h7 => (h.1 c _ hu).trans (val5_kept m c hi ho h1 h2 h3 h4 h5 h6 h7)
  refine ⟨key main_arg0 ?_ ?_ ?_ ?_ ?_ ?_ ?_ ?_ ?_ ?_, key main_arg1 ?_ ?_ ?_ ?_ ?_ ?_ ?_ ?_ ?_ ?_, key main_arg2 ?_ ?_ ?_ ?_ ?_ ?_ ?_ ?_ ?_ ?_,
    key main_arg3 ?_ ?_ ?_ ?_ ?_ ?_ ?_ ?_ ?_ ?_, key main_arg4 ?_ ?_ ?_ ?_ ?_ ?_ ?_ ?_ ?_ ?_, key main_arg5 ?_ ?_ ?_ ?_ ?_ ?_ ?_ ?_ ?_ ?_,
    key main_arg6 ?_ ?_ ?_ ?_ ?_ ?_ ?_ ?_ ?_ ?_, key main_arg7 ?_ ?_ ?_ ?_ ?_ ?_ ?_ ?_ ?_ ?_⟩ <;> decide

end Cert.KernelIdeal.Prf

end
-- ==== Proof.RefRun.lean ====
/-
  The reference's run. Its operations stand in several stretches; what each stretch leaves in the arrays the later ones
  read is stated as a function of the arrays it reads itself.
-/
module

public import proofs.«01_k».proof.Defs
public import proofs.«01_k».proof.Proof.Gen.ReferenceIdeal
public import Idealize.ShloMosaic.Lib.Claim
public import Idealize.ShloMosaic.Lib.Quiescent
public import Idealize.ShloMosaic.Lib.StableHlo.RunRead

@[expose] public section

set_option maxRecDepth 16384

noncomputable section

namespace Cert.ReferenceIdeal.Prf

open Cert.ReferenceIdeal Cert.ReferenceIdeal.Gen
open Idealize.ShloMosaic Idealize.ShloMosaic.TcCoe
open Idealize.SL.Sem
open Idealize.ShloMosaic.StableHlo (after seq)

variable {F : FTy → Type} [FloatOps F]

/-- Operations 0 to 17. -/
def segA : List (HloOp τ sig (Elt F)) :=
  [StableHlo.binary main_arg0 main_arg2 main_v0 ((fun l r => Host.dotGeneral dot_S1x100000x3_S3x128_S1x100000x128_2_0_01_1_n_n none l r) : (⟨S1x100000x3, .f32⟩ : BufTy).Contents (Elt F) → (⟨S3x128, .f32⟩ : BufTy).Contents (Elt F) → (⟨S1x100000x128, .f32⟩ : BufTy).Contents (Elt F)),
   StableHlo.unary main_arg3 main_v1 (broadcastInDim S1x1x128 ![2] bcast_S128_S1x1x128_2 : (⟨S128, .f32⟩ : BufTy).Contents (Elt F) → (⟨S1x1x128, .f32⟩ : BufTy).Contents (Elt F)),
   StableHlo.unary main_v1 main_v2 (broadcastInDim S1x100000x128 ![0, 1, 2] bcast_S1x1x128_S1x100000x128_0_1_2 : (⟨S1x1x128, .f32⟩ : BufTy).Contents (Elt F) → (⟨S1x100000x128, .f32⟩ : BufTy).Contents (Elt F)),
   StableHlo.binary main_v0 main_v2 main_v3 (addf : (⟨S1x100000x128, .f32⟩ : BufTy).Contents (Elt F) → (⟨S1x100000x128, .f32⟩ : BufTy).Contents (Elt F) → (⟨S1x100000x128, .f32⟩ : BufTy).Contents (Elt F)),
   StableHlo.nullary main_cst (constant S_ .f32 0x00000000#32),
   StableHlo.unary main_cst main_v4 (broadcastInDim S1x100000x128 ![] bcast_S_S1x100000x128 : (⟨S_, .f32⟩ : BufTy).Contents (Elt F) → (⟨S1x100000x128, .f32⟩ : BufTy).Contents (Elt F)),
   StableHlo.binary main_v3 main_v4 main_v5 (maximumf : (⟨S1x100000x128, .f32⟩ : BufTy).Contents (Elt F) → (⟨S1x100000x128, .f32⟩ : BufTy).Contents (Elt F) → (⟨S1x100000x128, .f32⟩ : BufTy).Contents (Elt F)),
   StableHlo.binary main_v5 main_arg4 main_v6 ((fun l r => Host.dotGeneral dot_S1x100000x128_S128x128_S1x100000x128_2_0_01_1_n_n none l r) : (⟨S1x100000x128, .f32⟩ : BufTy).Contents (Elt F) → (⟨S128x128, .f32⟩ : BufTy).Contents (Elt F) → (⟨S1x100000x128, .f32⟩ : BufTy).Contents (Elt F)),
   StableHlo.unary main_arg5 main_v7 (broadcastInDim S1x1x128 ![2] bcast_S128_S1x1x128_2 : (⟨S128, .f32⟩ : BufTy).Contents (Elt F) → (⟨S1x1x128, .f32⟩ : BufTy).Contents (Elt F)),
   StableHlo.unary main_v7 main_v8 (broadcastInDim S1x100000x128 ![0, 1, 2] bcast_S1x1x128_S1x100000x128_0_1_2 : (⟨S1x1x128, .f32⟩ : BufTy).Contents (Elt F) → (⟨S1x100000x128, .f32⟩ : BufTy).Contents (Elt F)),
   StableHlo.binary main_v6 main_v8 main_v9 (addf : (⟨S1x100000x128, .f32⟩ : BufTy).Contents (Elt F) → (⟨S1x100000x128, .f32⟩ : BufTy).Contents (Elt F) → (⟨S1x100000x128, .f32⟩ : BufTy).Contents (Elt F)),
   StableHlo.nullary main_cst_0 (constant S_ .f32 0x00000000#32),
   StableHlo.unary main_cst_0 main_v10 (broadcastInDim S1x100000x128 ![] bcast_S_S1x100000x128 : (⟨S_, .f32⟩ : BufTy).Contents (Elt F) → (⟨S1x100000x128, .f32⟩ : BufTy).Contents (Elt F)),
   StableHlo.binary main_v9 main_v10 main_v11 (maximumf : (⟨S1x100000x128, .f32⟩ : BufTy).Contents (Elt F) → (⟨S1x100000x128, .f32⟩ : BufTy).Contents (Elt F) → (⟨S1x100000x128, .f32⟩ : BufTy).Contents (Elt F)),
   StableHlo.binary main_v11 main_arg6 main_v12 ((fun l r => Host.dotGeneral dot_S1x100000x128_S128x4_S1x100000x4_2_0_01_1_n_n none l r) : (⟨S1x100000x128, .f32⟩ : BufTy).Contents (Elt F) → (⟨S128x4, .f32⟩ : BufTy).Contents (Elt F) → (⟨S1x100000x4, .f32⟩ : BufTy).Contents (Elt F)),
   StableHlo.unary main_arg7 main_v13 (broadcastInDim S1x1x4 ![2] bcast_S4_S1x1x4_2 : (⟨S4, .f32⟩ : BufTy).Contents (Elt F) → (⟨S1x1x4, .f32⟩ : BufTy).Contents (Elt F)),
   StableHlo.unary main_v13 main_v14 (broadcastInDim S1x100000x4 ![0, 1, 2] bcast_S1x1x4_S1x100000x4_0_1_2 : (⟨S1x1x4, .f32⟩ : BufTy).Contents (Elt F) → (⟨S1x100000x4, .f32⟩ : BufTy).Contents (Elt F)),
   StableHlo.binary main_v12 main_v14 main_v15 (addf : (⟨S1x100000x4, .f32⟩ : BufTy).Contents (Elt F) → (⟨S1x100000x4, .f32⟩ : BufTy).Contents (Elt F) → (⟨S1x100000x4, .f32⟩ : BufTy).Contents (Elt F))]

/-- Operations 18 to 31. -/
def segB : List (HloOp τ sig (Elt F)) :=
  [StableHlo.nullary main_cst_1 (constant S_ .f32 0xFF800000#32),
   StableHlo.binary main_arg1 main_cst_1 main_v16 ((fun x v => Host.reduce FloatOps.maximumf x v reducesTo_S1x100000x10_S1x100000_d2 h_S_) : (⟨S1x100000x10, .f32⟩ : BufTy).Contents (Elt F) → (⟨S_, .f32⟩ : BufTy).Contents (Elt F) → (⟨S1x100000, .f32⟩ : BufTy).Contents (Elt F)),
   StableHlo.nullary main_cst_2 (constant S_ .f32 0xFF800000#32),
   StableHlo.unary main_cst_2 main_v17 (broadcastInDim S1x100000 ![] bcast_S_S1x100000 : (⟨S_, .f32⟩ : BufTy).Contents (Elt F) → (⟨S1x100000, .f32⟩ : BufTy).Contents (Elt F)),
   StableHlo.binary main_v17 main_v16 main_v18 (maximumf : (⟨S1x100000, .f32⟩ : BufTy).Contents (Elt F) → (⟨S1x100000, .f32⟩ : BufTy).Contents (Elt F) → (⟨S1x100000, .f32⟩ : BufTy).Contents (Elt F)),
   StableHlo.unary main_v18 main_v19 (broadcastInDim S1x100000x1 ![0, 1] bcast_S1x100000_S1x100000x1_0_1 : (⟨S1x100000, .f32⟩ : BufTy).Contents (Elt F) → (⟨S1x100000x1, .f32⟩ : BufTy).Contents (Elt F)),
   StableHlo.unary main_v19 main_v20 (broadcastInDim S1x100000x10 ![0, 1, 2] bcast_S1x100000x1_S1x100000x10_0_1_2 : (⟨S1x100000x1, .f32⟩ : BufTy).Contents (Elt F) → (⟨S1x100000x10, .f32⟩ : BufTy).Contents (Elt F)),
   StableHlo.binary main_arg1 main_v20 main_v21 (subf : (⟨S1x100000x10, .f32⟩ : BufTy).Contents (Elt F) → (⟨S1x100000x10, .f32⟩ : BufTy).Contents (Elt F) → (⟨S1x100000x10, .f32⟩ : BufTy).Contents (Elt F)),
   StableHlo.unary main_v21 main_v22 (Host.exp : (⟨S1x100000x10, .f32⟩ : BufTy).Contents (Elt F) → (⟨S1x100000x10, .f32⟩ : BufTy).Contents (Elt F)),
   StableHlo.nullary main_cst_3 (constant S_ .f32 0x00000000#32),
   StableHlo.binary main_v22 main_cst_3 main_v23 ((fun x v => Host.reduceAdd x v reducesTo_S1x100000x10_S1x100000_d2 h_S_) : (⟨S1x100000x10, .f32⟩ : BufTy).Contents (Elt F) → (⟨S_, .f32⟩ : BufTy).Contents (Elt F) → (⟨S1x100000, .f32⟩ : BufTy).Contents (Elt F)),
   StableHlo.unary main_v23 main_v24 (broadcastInDim S1x100000x1 ![0, 1] bcast_S1x100000_S1x100000x1_0_1 : (⟨S1x100000, .f32⟩ : BufTy).Contents (Elt F) → (⟨S1x100000x1, .f32⟩ : BufTy).Contents (Elt F)),
   StableHlo.unary main_v24 main_v25 (broadcastInDim S1x100000x10 ![0, 1, 2] bcast_S1x100000x1_S1x100000x10_0_1_2 : (⟨S1x100000x1, .f32⟩ : BufTy).Contents (Elt F) → (⟨S1x100000x10, .f32⟩ : BufTy).Contents (Elt F)),
   StableHlo.binary main_v22 main_v25 main_v26 (Host.divf : (⟨S1x100000x10, .f32⟩ : BufTy).Contents (Elt F) → (⟨S1x100000x10, .f32⟩ : BufTy).Contents (Elt F) → (⟨S1x100000x10, .f32⟩ : BufTy).Contents (Elt F))]

/-- Operations 32 to 33. -/
def segB2 : List (HloOp τ sig (Elt F)) :=
  [StableHlo.unary main_v15 main_v27 ((extractStridedSlice S1x100000x3 ![0, 0, 0] · slices_S1x100000x4_S1x100000x3_0_0_0) : (⟨S1x100000x4, .f32⟩ : BufTy).Contents (Elt F) → (⟨S1x100000x3, .f32⟩ : BufTy).Contents (Elt F)),
   StableHlo.unary main_v15 main_v28 ((extractStridedSlice S1x100000x1 ![0, 0, 3] · slices_S1x100000x4_S1x100000x1_0_0_3) : (⟨S1x100000x4, .f32⟩ : BufTy).Contents (Elt F) → (⟨S1x100000x1, .f32⟩ : BufTy).Contents (Elt F))]

/-- Operations 34 to 61. -/
def segC0 : List (HloOp τ sig (Elt F)) :=
  [StableHlo.nullary main_cst_4 (constant S_ .f32 0x00000000#32),
   StableHlo.unary main_cst_4 main_v29 (broadcastInDim S1x100000x2 ![] bcast_S_S1x100000x2 : (⟨S_, .f32⟩ : BufTy).Contents (Elt F) → (⟨S1x100000x2, .f32⟩ : BufTy).Contents (Elt F)),
   StableHlo.binary main_v29 main_v28 main_v30 ((fun a b => concatenate S1x100000x3 2 [⟨S1x100000x2, a⟩, ⟨S1x100000x1, b⟩] concatenates_S1x100000x2_S1x100000x1_S1x100000x3_d2) : (⟨S1x100000x2, .f32⟩ : BufTy).Contents (Elt F) → (⟨S1x100000x1, .f32⟩ : BufTy).Contents (Elt F) → (⟨S1x100000x3, .f32⟩ : BufTy).Contents (Elt F)),
   StableHlo.reshape main_v30 main_v31 (rfl : (.f32 : EltTy) = .f32) shapeCasts_S1x100000x3_S100000x3,
   StableHlo.binary main_v31 main_v31 main_v32 (mulf : (⟨S100000x3, .f32⟩ : BufTy).Contents (Elt F) → (⟨S100000x3, .f32⟩ : BufTy).Contents (Elt F) → (⟨S100000x3, .f32⟩ : BufTy).Contents (Elt F)),
   StableHlo.nullary main_cst_5 (constant S_ .f32 0x00000000#32),
   StableHlo.binary main_v32 main_cst_5 main_v33 ((fun x v => Host.reduceAdd x v reducesTo_S100000x3_S100000_d1 h_S_) : (⟨S100000x3, .f32⟩ : BufTy).Contents (Elt F) → (⟨S_, .f32⟩ : BufTy).Contents (Elt F) → (⟨S100000, .f32⟩ : BufTy).Contents (Elt F)),
   StableHlo.nullary main_cst_6 (constant S_ .f32 0x2B8CBCCC#32),
   StableHlo.unary main_cst_6 main_v34 (broadcastInDim S100000 ![] bcast_S_S100000 : (⟨S_, .f32⟩ : BufTy).Contents (Elt F) → (⟨S100000, .f32⟩ : BufTy).Contents (Elt F)),
   StableHlo.binary main_v33 main_v34 main_v35 (addf : (⟨S100000, .f32⟩ : BufTy).Contents (Elt F) → (⟨S100000, .f32⟩ : BufTy).Contents (Elt F) → (⟨S100000, .f32⟩ : BufTy).Contents (Elt F)),
   StableHlo.unary main_v35 main_v36 (Host.sqrt : (⟨S100000, .f32⟩ : BufTy).Contents (Elt F) → (⟨S100000, .f32⟩ : BufTy).Contents (Elt F)),
   StableHlo.nullary main_cst_7 (constant S_ .f32 0x38D1B717#32),
   StableHlo.unary main_cst_7 main_v37 (broadcastInDim S100000 ![] bcast_S_S100000 : (⟨S_, .f32⟩ : BufTy).Contents (Elt F) → (⟨S100000, .f32⟩ : BufTy).Contents (Elt F)),
   StableHlo.binary main_v36 main_v37 main_v38 (cmpf .olt : (⟨S100000, .f32⟩ : BufTy).Contents (Elt F) → (⟨S100000, .f32⟩ : BufTy).Contents (Elt F) → (⟨S100000, .i1⟩ : BufTy).Contents (Elt F)),
   StableHlo.nullary main_cst_8 (constant S_ .f32 0x3F800000#32),
   StableHlo.unary main_cst_8 main_call0_v0 (id : (⟨S_, .f32⟩ : BufTy).Contents (Elt F) → (⟨S_, .f32⟩ : BufTy).Contents (Elt F)),
   StableHlo.unary main_call0_v0 main_call0_v1 (broadcastInDim S100000 ![] bcast_S_S100000 : (⟨S_, .f32⟩ : BufTy).Contents (Elt F) → (⟨S100000, .f32⟩ : BufTy).Contents (Elt F)),
   StableHlo.ternary main_v38 main_call0_v1 main_v36 main_v39 (select : (⟨S100000, .i1⟩ : BufTy).Contents (Elt F) → (⟨S100000, .f32⟩ : BufTy).Contents (Elt F) → (⟨S100000, .f32⟩ : BufTy).Contents (Elt F) → (⟨S100000, .f32⟩ : BufTy).Contents (Elt F)),
   StableHlo.nullary main_cst_9 (constant S_ .f32 0x40C00000#32),
   StableHlo.unary main_cst_9 main_v40 (broadcastInDim S100000 ![] bcast_S_S100000 : (⟨S_, .f32⟩ : BufTy).Contents (Elt F) → (⟨S100000, .f32⟩ : BufTy).Contents (Elt F)),
   StableHlo.binary main_v33 main_v40 main_v41 (Host.divf : (⟨S100000, .f32⟩ : BufTy).Contents (Elt F) → (⟨S100000, .f32⟩ : BufTy).Contents (Elt F) → (⟨S100000, .f32⟩ : BufTy).Contents (Elt F)),
   StableHlo.nullary main_cst_10 (constant S_ .f32 0x3F800000#32),
   StableHlo.unary main_cst_10 main_v42 (broadcastInDim S100000 ![] bcast_S_S100000 : (⟨S_, .f32⟩ : BufTy).Contents (Elt F) → (⟨S100000, .f32⟩ : BufTy).Contents (Elt F)),
   StableHlo.binary main_v42 main_v41 main_v43 (subf : (⟨S100000, .f32⟩ : BufTy).Contents (Elt F) → (⟨S100000, .f32⟩ : BufTy).Contents (Elt F) → (⟨S100000, .f32⟩ : BufTy).Contents (Elt F)),
   StableHlo.unary main_v39 main_v44 (Host.sin : (⟨S100000, .f32⟩ : BufTy).Contents (Elt F) → (⟨S100000, .f32⟩ : BufTy).Contents (Elt F)),
   StableHlo.binary main_v44 main_v39 main_v45 (Host.divf : (⟨S100000, .f32⟩ : BufTy).Contents (Elt F) → (⟨S100000, .f32⟩ : BufTy).Contents (Elt F) → (⟨S100000, .f32⟩ : BufTy).Contents (Elt F)),
   StableHlo.ternary main_v38 main_v43 main_v45 main_v46 (select : (⟨S100000, .i1⟩ : BufTy).Contents (Elt F) → (⟨S100000, .f32⟩ : BufTy).Contents (Elt F) → (⟨S100000, .f32⟩ : BufTy).Contents (Elt F) → (⟨S100000, .f32⟩ : BufTy).Contents (Elt F)),
   StableHlo.nullary main_cst_11 (constant S_ .f32 0x41C00000#32)]

/-- Operations 62 to 73. -/
def segC1 : List (HloOp τ sig (Elt F)) :=
  [StableHlo.unary main_cst_11 main_v47 (broadcastInDim S100000 ![] bcast_S_S100000 : (⟨S_, .f32⟩ : BufTy).Contents (Elt F) → (⟨S100000, .f32⟩ : BufTy).Contents (Elt F)),
   StableHlo.binary main_v33 main_v47 main_v48 (Host.divf : (⟨S100000, .f32⟩ : BufTy).Contents (Elt F) → (⟨S100000, .f32⟩ : BufTy).Contents (Elt F) → (⟨S100000, .f32⟩ : BufTy).Contents (Elt F)),
   StableHlo.nullary main_cst_12 (constant S_ .f32 0x3F000000#32),
   StableHlo.unary main_cst_12 main_v49 (broadcastInDim S100000 ![] bcast_S_S100000 : (⟨S_, .f32⟩ : BufTy).Contents (Elt F) → (⟨S100000, .f32⟩ : BufTy).Contents (Elt F)),
   StableHlo.binary main_v49 main_v48 main_v50 (subf : (⟨S100000, .f32⟩ : BufTy).Contents (Elt F) → (⟨S100000, .f32⟩ : BufTy).Contents (Elt F) → (⟨S100000, .f32⟩ : BufTy).Contents (Elt F)),
   StableHlo.unary main_v39 main_v51 (Host.cos : (⟨S100000, .f32⟩ : BufTy).Contents (Elt F) → (⟨S100000, .f32⟩ : BufTy).Contents (Elt F)),
   StableHlo.nullary main_cst_13 (constant S_ .f32 0x3F800000#32),
   StableHlo.unary main_cst_13 main_v52 (broadcastInDim S100000 ![] bcast_S_S100000 : (⟨S_, .f32⟩ : BufTy).Contents (Elt F) → (⟨S100000, .f32⟩ : BufTy).Contents (Elt F)),
   StableHlo.binary main_v52 main_v51 main_v53 (subf : (⟨S100000, .f32⟩ : BufTy).Contents (Elt F) → (⟨S100000, .f32⟩ : BufTy).Contents (Elt F) → (⟨S100000, .f32⟩ : BufTy).Contents (Elt F)),
   StableHlo.binary main_v39 main_v39 main_v54 (mulf : (⟨S100000, .f32⟩ : BufTy).Contents (Elt F) → (⟨S100000, .f32⟩ : BufTy).Contents (Elt F) → (⟨S100000, .f32⟩ : BufTy).Contents (Elt F)),
   StableHlo.binary main_v53 main_v54 main_v55 (Host.divf : (⟨S100000, .f32⟩ : BufTy).Contents (Elt F) → (⟨S100000, .f32⟩ : BufTy).Contents (Elt F) → (⟨S100000, .f32⟩ : BufTy).Contents (Elt F)),
   StableHlo.ternary main_v38 main_v50 main_v55 main_v56 (select : (⟨S100000, .i1⟩ : BufTy).Contents (Elt F) → (⟨S100000, .f32⟩ : BufTy).Contents (Elt F) → (⟨S100000, .f32⟩ : BufTy).Contents (Elt F) → (⟨S100000, .f32⟩ : BufTy).Contents (Elt F))]

/-- Operations 74 to 85. -/
def segD1 : List (HloOp τ sig (Elt F)) :=
  [StableHlo.unary main_v31 main_v57 ((extractStridedSlice S100000x1 ![0, 0] · slices_S100000x3_S100000x1_0_0) : (⟨S100000x3, .f32⟩ : BufTy).Contents (Elt F) → (⟨S100000x1, .f32⟩ : BufTy).Contents (Elt F)),
   StableHlo.reshape main_v57 main_v58 (rfl : (.f32 : EltTy) = .f32) shapeCasts_S100000x1_S100000,
   StableHlo.unary main_v31 main_v59 ((extractStridedSlice S100000x1 ![0, 1] · slices_S100000x3_S100000x1_0_1) : (⟨S100000x3, .f32⟩ : BufTy).Contents (Elt F) → (⟨S100000x1, .f32⟩ : BufTy).Contents (Elt F)),
   StableHlo.reshape main_v59 main_v60 (rfl : (.f32 : EltTy) = .f32) shapeCasts_S100000x1_S100000,
   StableHlo.unary main_v31 main_v61 ((extractStridedSlice S100000x1 ![0, 2] · slices_S100000x3_S100000x1_0_2) : (⟨S100000x3, .f32⟩ : BufTy).Contents (Elt F) → (⟨S100000x1, .f32⟩ : BufTy).Contents (Elt F)),
   StableHlo.reshape main_v61 main_v62 (rfl : (.f32 : EltTy) = .f32) shapeCasts_S100000x1_S100000,
   StableHlo.nullary main_cst_14 (constant S_ .f32 0x00000000#32),
   StableHlo.unary main_cst_14 main_v63 (broadcastInDim S100000 ![] bcast_S_S100000 : (⟨S_, .f32⟩ : BufTy).Contents (Elt F) → (⟨S100000, .f32⟩ : BufTy).Contents (Elt F)),
   StableHlo.unary main_v62 main_v64 (Host.negf : (⟨S100000, .f32⟩ : BufTy).Contents (Elt F) → (⟨S100000, .f32⟩ : BufTy).Contents (Elt F)),
   StableHlo.unary main_v63 main_v65 (broadcastInDim S100000x1 ![0] bcast_S100000_S100000x1_0 : (⟨S100000, .f32⟩ : BufTy).Contents (Elt F) → (⟨S100000x1, .f32⟩ : BufTy).Contents (Elt F)),
   StableHlo.unary main_v64 main_v66 (broadcastInDim S100000x1 ![0] bcast_S100000_S100000x1_0 : (⟨S100000, .f32⟩ : BufTy).Contents (Elt F) → (⟨S100000x1, .f32⟩ : BufTy).Contents (Elt F)),
   StableHlo.unary main_v60 main_v67 (broadcastInDim S100000x1 ![0] bcast_S100000_S100000x1_0 : (⟨S100000, .f32⟩ : BufTy).Contents (Elt F) → (⟨S100000x1, .f32⟩ : BufTy).Contents (Elt F))]

/-- Operations 86 to 86. -/
def segN1 : List (HloOp τ sig (Elt F)) :=
  [StableHlo.nary ![main_v65, main_v66, main_v67] main_v68 (fun u => (concatenate S100000x3 1 [⟨S100000x1, (u 0 : (⟨S100000x1, .f32⟩ : BufTy).Contents (Elt F))⟩, ⟨S100000x1, (u 1 : (⟨S100000x1, .f32⟩ : BufTy).Contents (Elt F))⟩, ⟨S100000x1, (u 2 : (⟨S100000x1, .f32⟩ : BufTy).Contents (Elt F))⟩] concatenates_S100000x1_S100000x1_S100000x1_S100000x3_d1 : (⟨S100000x3, .f32⟩ : BufTy).Contents (Elt F)))]

/-- Operations 87 to 90. -/
def segD2 : List (HloOp τ sig (Elt F)) :=
  [StableHlo.unary main_v58 main_v69 (Host.negf : (⟨S100000, .f32⟩ : BufTy).Contents (Elt F) → (⟨S100000, .f32⟩ : BufTy).Contents (Elt F)),
   StableHlo.unary main_v62 main_v70 (broadcastInDim S100000x1 ![0] bcast_S100000_S100000x1_0 : (⟨S100000, .f32⟩ : BufTy).Contents (Elt F) → (⟨S100000x1, .f32⟩ : BufTy).Contents (Elt F)),
   StableHlo.unary main_v63 main_v71 (broadcastInDim S100000x1 ![0] bcast_S100000_S100000x1_0 : (⟨S100000, .f32⟩ : BufTy).Contents (Elt F) → (⟨S100000x1, .f32⟩ : BufTy).Contents (Elt F)),
   StableHlo.unary main_v69 main_v72 (broadcastInDim S100000x1 ![0] bcast_S100000_S100000x1_0 : (⟨S100000, .f32⟩ : BufTy).Contents (Elt F) → (⟨S100000x1, .f32⟩ : BufTy).Contents (Elt F))]

/-- Operations 91 to 91. -/
def segN2 : List (HloOp τ sig (Elt F)) :=
  [StableHlo.nary ![main_v70, main_v71, main_v72] main_v73 (fun u => (concatenate S100000x3 1 [⟨S100000x1, (u 0 : (⟨S100000x1, .f32⟩ : BufTy).Contents (Elt F))⟩, ⟨S100000x1, (u 1 : (⟨S100000x1, .f32⟩ : BufTy).Contents (Elt F))⟩, ⟨S100000x1, (u 2 : (⟨S100000x1, .f32⟩ : BufTy).Contents (Elt F))⟩] concatenates_S100000x1_S100000x1_S100000x1_S100000x3_d1 : (⟨S100000x3, .f32⟩ : BufTy).Contents (Elt F)))]

/-- Operations 92 to 95. -/
def segD3 : List (HloOp τ sig (Elt F)) :=
  [StableHlo.unary main_v60 main_v74 (Host.negf : (⟨S100000, .f32⟩ : BufTy).Contents (Elt F) → (⟨S100000, .f32⟩ : BufTy).Contents (Elt F)),
   StableHlo.unary main_v74 main_v75 (broadcastInDim S100000x1 ![0] bcast_S100000_S100000x1_0 : (⟨S100000, .f32⟩ : BufTy).Contents (Elt F) → (⟨S100000x1, .f32⟩ : BufTy).Contents (Elt F)),
   StableHlo.unary main_v58 main_v76 (broadcastInDim S100000x1 ![0] bcast_S100000_S100000x1_0 : (⟨S100000, .f32⟩ : BufTy).Contents (Elt F) → (⟨S100000x1, .f32⟩ : BufTy).Contents (Elt F)),
   StableHlo.unary main_v63 main_v77 (broadcastInDim S100000x1 ![0] bcast_S100000_S100000x1_0 : (⟨S100000, .f32⟩ : BufTy).Contents (Elt F) → (⟨S100000x1, .f32⟩ : BufTy).Contents (Elt F))]

/-- Operations 96 to 96. -/
def segN3 : List (HloOp τ sig (Elt F)) :=
  [StableHlo.nary ![main_v75, main_v76, main_v77] main_v78 (fun u => (concatenate S100000x3 1 [⟨S100000x1, (u 0 : (⟨S100000x1, .f32⟩ : BufTy).Contents (Elt F))⟩, ⟨S100000x1, (u 1 : (⟨S100000x1, .f32⟩ : BufTy).Contents (Elt F))⟩, ⟨S100000x1, (u 2 : (⟨S100000x1, .f32⟩ : BufTy).Contents (Elt F))⟩] concatenates_S100000x1_S100000x1_S100000x1_S100000x3_d1 : (⟨S100000x3, .f32⟩ : BufTy).Contents (Elt F)))]

/-- Operations 97 to 99. -/
def segD4 : List (HloOp τ sig (Elt F)) :=
  [StableHlo.unary main_v68 main_v79 (broadcastInDim S100000x1x3 ![0, 2] bcast_S100000x3_S100000x1x3_0_2 : (⟨S100000x3, .f32⟩ : BufTy).Contents (Elt F) → (⟨S100000x1x3, .f32⟩ : BufTy).Contents (Elt F)),
   StableHlo.unary main_v73 main_v80 (broadcastInDim S100000x1x3 ![0, 2] bcast_S100000x3_S100000x1x3_0_2 : (⟨S100000x3, .f32⟩ : BufTy).Contents (Elt F) → (⟨S100000x1x3, .f32⟩ : BufTy).Contents (Elt F)),
   StableHlo.unary main_v78 main_v81 (broadcastInDim S100000x1x3 ![0, 2] bcast_S100000x3_S100000x1x3_0_2 : (⟨S100000x3, .f32⟩ : BufTy).Contents (Elt F) → (⟨S100000x1x3, .f32⟩ : BufTy).Contents (Elt F))]

/-- Operations 100 to 100. -/
def segN4 : List (HloOp τ sig (Elt F)) :=
  [StableHlo.nary ![main_v79, main_v80, main_v81] main_v82 (fun u => (concatenate S100000x3x3 1 [⟨S100000x1x3, (u 0 : (⟨S100000x1x3, .f32⟩ : BufTy).Contents (Elt F))⟩, ⟨S100000x1x3, (u 1 : (⟨S100000x1x3, .f32⟩ : BufTy).Contents (Elt F))⟩, ⟨S100000x1x3, (u 2 : (⟨S100000x1x3, .f32⟩ : BufTy).Contents (Elt F))⟩] concatenates_S100000x1x3_S100000x1x3_S100000x1x3_S100000x3x3_d1 : (⟨S100000x3x3, .f32⟩ : BufTy).Contents (Elt F)))]

/-- Operations 101 to 118. -/
def segD5 : List (HloOp τ sig (Elt F)) :=
  [StableHlo.nullary main_v83 (iotaInDim S3x3 32 0),
   StableHlo.nullary main_v84 (iotaInDim S3x3 32 1),
   StableHlo.nullary main_c (constantI S_ 32 0#32),
   StableHlo.unary main_c main_v85 (broadcastInDim S3x3 ![] bcast_S_S3x3 : (⟨S_, .i32⟩ : BufTy).Contents (Elt F) → (⟨S3x3, .i32⟩ : BufTy).Contents (Elt F)),
   StableHlo.binary main_v83 main_v85 main_v86 (addi : (⟨S3x3, .i32⟩ : BufTy).Contents (Elt F) → (⟨S3x3, .i32⟩ : BufTy).Contents (Elt F) → (⟨S3x3, .i32⟩ : BufTy).Contents (Elt F)),
   StableHlo.binary main_v86 main_v84 main_v87 (cmpi .eq : (⟨S3x3, .i32⟩ : BufTy).Contents (Elt F) → (⟨S3x3, .i32⟩ : BufTy).Contents (Elt F) → (⟨S3x3, .i1⟩ : BufTy).Contents (Elt F)),
   StableHlo.unary main_v87 main_v88 (uitofp .f32 : (⟨S3x3, .i1⟩ : BufTy).Contents (Elt F) → (⟨S3x3, .f32⟩ : BufTy).Contents (Elt F)),
   StableHlo.unary main_v46 main_v89 (broadcastInDim S100000x1x1 ![0] bcast_S100000_S100000x1x1_0 : (⟨S100000, .f32⟩ : BufTy).Contents (Elt F) → (⟨S100000x1x1, .f32⟩ : BufTy).Contents (Elt F)),
   StableHlo.unary main_v89 main_v90 (broadcastInDim S100000x3x3 ![0, 1, 2] bcast_S100000x1x1_S100000x3x3_0_1_2 : (⟨S100000x1x1, .f32⟩ : BufTy).Contents (Elt F) → (⟨S100000x3x3, .f32⟩ : BufTy).Contents (Elt F)),
   StableHlo.binary main_v90 main_v82 main_v91 (mulf : (⟨S100000x3x3, .f32⟩ : BufTy).Contents (Elt F) → (⟨S100000x3x3, .f32⟩ : BufTy).Contents (Elt F) → (⟨S100000x3x3, .f32⟩ : BufTy).Contents (Elt F)),
   StableHlo.unary main_v88 main_v92 (broadcastInDim S1x3x3 ![1, 2] bcast_S3x3_S1x3x3_1_2 : (⟨S3x3, .f32⟩ : BufTy).Contents (Elt F) → (⟨S1x3x3, .f32⟩ : BufTy).Contents (Elt F)),
   StableHlo.unary main_v92 main_v93 (broadcastInDim S100000x3x3 ![0, 1, 2] bcast_S1x3x3_S100000x3x3_0_1_2 : (⟨S1x3x3, .f32⟩ : BufTy).Contents (Elt F) → (⟨S100000x3x3, .f32⟩ : BufTy).Contents (Elt F)),
   StableHlo.binary main_v93 main_v91 main_v94 (addf : (⟨S100000x3x3, .f32⟩ : BufTy).Contents (Elt F) → (⟨S100000x3x3, .f32⟩ : BufTy).Contents (Elt F) → (⟨S100000x3x3, .f32⟩ : BufTy).Contents (Elt F)),
   StableHlo.unary main_v56 main_v95 (broadcastInDim S100000x1x1 ![0] bcast_S100000_S100000x1x1_0 : (⟨S100000, .f32⟩ : BufTy).Contents (Elt F) → (⟨S100000x1x1, .f32⟩ : BufTy).Contents (Elt F)),
   StableHlo.binary main_v82 main_v82 main_v96 ((fun l r => Host.dotGeneral dot_S100000x3x3_S100000x3x3_S100000x3x3_2_1_1_2_0_0 none l r) : (⟨S100000x3x3, .f32⟩ : BufTy).Contents (Elt F) → (⟨S100000x3x3, .f32⟩ : BufTy).Contents (Elt F) → (⟨S100000x3x3, .f32⟩ : BufTy).Contents (Elt F)),
   StableHlo.unary main_v95 main_v97 (broadcastInDim S100000x3x3 ![0, 1, 2] bcast_S100000x1x1_S100000x3x3_0_1_2 : (⟨S100000x1x1, .f32⟩ : BufTy).Contents (Elt F) → (⟨S100000x3x3, .f32⟩ : BufTy).Contents (Elt F)),
   StableHlo.binary main_v97 main_v96 main_v98 (mulf : (⟨S100000x3x3, .f32⟩ : BufTy).Contents (Elt F) → (⟨S100000x3x3, .f32⟩ : BufTy).Contents (Elt F) → (⟨S100000x3x3, .f32⟩ : BufTy).Contents (Elt F)),
   StableHlo.binary main_v94 main_v98 main_v99 (addf : (⟨S100000x3x3, .f32⟩ : BufTy).Contents (Elt F) → (⟨S100000x3x3, .f32⟩ : BufTy).Contents (Elt F) → (⟨S100000x3x3, .f32⟩ : BufTy).Contents (Elt F))]

/-- Operations 119 to 125. -/
def segE : List (HloOp τ sig (Elt F)) :=
  [StableHlo.nullary main_call3_v0 (iotaInDim S1x100000x10 32 2),
   StableHlo.nullary main_call3_cst (constant S_ .f32 0xFF800000#32),
   StableHlo.nullary main_call3_c (constantI S_ 32 0#32),
   StableHlo.quaternary main_v26 main_call3_v0 main_call3_cst main_call3_c main_call3_v1_0 ((fun x y u v j => (Host.argReduce reducer_argmax_f32_i32 x y u v reducesTo_S1x100000x10_S1x100000_d2 h_S_ j).1) : (⟨S1x100000x10, .f32⟩ : BufTy).Contents (Elt F) → (⟨S1x100000x10, .i32⟩ : BufTy).Contents (Elt F) → (⟨S_, .f32⟩ : BufTy).Contents (Elt F) → (⟨S_, .i32⟩ : BufTy).Contents (Elt F) → (⟨S1x100000, .f32⟩ : BufTy).Contents (Elt F)),
   StableHlo.quaternary main_v26 main_call3_v0 main_call3_cst main_call3_c main_v100 ((fun x y u v j => (Host.argReduce reducer_argmax_f32_i32 x y u v reducesTo_S1x100000x10_S1x100000_d2 h_S_ j).2) : (⟨S1x100000x10, .f32⟩ : BufTy).Contents (Elt F) → (⟨S1x100000x10, .i32⟩ : BufTy).Contents (Elt F) → (⟨S_, .f32⟩ : BufTy).Contents (Elt F) → (⟨S_, .i32⟩ : BufTy).Contents (Elt F) → (⟨S1x100000, .i32⟩ : BufTy).Contents (Elt F)),
   StableHlo.reshape main_v100 main_v101 (rfl : (.i32 : EltTy) = .i32) shapeCasts_S1x100000_S100000,
   StableHlo.reshape main_arg0 main_v102 (rfl : (.f32 : EltTy) = .f32) shapeCasts_S1x100000x3_S100000x3]

/-- Operations 126 to 141. -/
def segF1 : List (HloOp τ sig (Elt F)) :=
  [StableHlo.unary main_v101 main_v103 (broadcastInDim S100000x1 ![0] bcast_S100000_S100000x1_0 : (⟨S100000, .i32⟩ : BufTy).Contents (Elt F) → (⟨S100000x1, .i32⟩ : BufTy).Contents (Elt F)),
   StableHlo.nullary main_v104 (iotaInDim S10 32 0),
   StableHlo.unary main_v104 main_v105 (broadcastInDim S1x10 ![1] bcast_S10_S1x10_1 : (⟨S10, .i32⟩ : BufTy).Contents (Elt F) → (⟨S1x10, .i32⟩ : BufTy).Contents (Elt F)),
   StableHlo.unary main_v103 main_v106 (broadcastInDim S100000x10 ![0, 1] bcast_S100000x1_S100000x10_0_1 : (⟨S100000x1, .i32⟩ : BufTy).Contents (Elt F) → (⟨S100000x10, .i32⟩ : BufTy).Contents (Elt F)),
   StableHlo.unary main_v105 main_v107 (broadcastInDim S100000x10 ![0, 1] bcast_S1x10_S100000x10_0_1 : (⟨S1x10, .i32⟩ : BufTy).Contents (Elt F) → (⟨S100000x10, .i32⟩ : BufTy).Contents (Elt F)),
   StableHlo.binary main_v106 main_v107 main_v108 (cmpi .eq : (⟨S100000x10, .i32⟩ : BufTy).Contents (Elt F) → (⟨S100000x10, .i32⟩ : BufTy).Contents (Elt F) → (⟨S100000x10, .i1⟩ : BufTy).Contents (Elt F)),
   StableHlo.unary main_v108 main_v109 (broadcastInDim S100000x10x1 ![0, 1] bcast_S100000x10_S100000x10x1_0_1 : (⟨S100000x10, .i1⟩ : BufTy).Contents (Elt F) → (⟨S100000x10x1, .i1⟩ : BufTy).Contents (Elt F)),
   StableHlo.unary main_v102 main_v110 (broadcastInDim S100000x1x3 ![0, 2] bcast_S100000x3_S100000x1x3_0_2 : (⟨S100000x3, .f32⟩ : BufTy).Contents (Elt F) → (⟨S100000x1x3, .f32⟩ : BufTy).Contents (Elt F)),
   StableHlo.nullary main_cst_15 (constant S_ .f32 0xFF800000#32),
   StableHlo.unary main_cst_15 main_call4_v0 (id : (⟨S_, .f32⟩ : BufTy).Contents (Elt F) → (⟨S_, .f32⟩ : BufTy).Contents (Elt F)),
   StableHlo.unary main_v109 main_call4_v1 (broadcastInDim S100000x10x3 ![0, 1, 2] bcast_S100000x10x1_S100000x10x3_0_1_2 : (⟨S100000x10x1, .i1⟩ : BufTy).Contents (Elt F) → (⟨S100000x10x3, .i1⟩ : BufTy).Contents (Elt F)),
   StableHlo.unary main_v110 main_call4_v2 (broadcastInDim S100000x10x3 ![0, 1, 2] bcast_S100000x1x3_S100000x10x3_0_1_2 : (⟨S100000x1x3, .f32⟩ : BufTy).Contents (Elt F) → (⟨S100000x10x3, .f32⟩ : BufTy).Contents (Elt F)),
   StableHlo.unary main_call4_v0 main_call4_v3 (broadcastInDim S100000x10x3 ![] bcast_S_S100000x10x3 : (⟨S_, .f32⟩ : BufTy).Contents (Elt F) → (⟨S100000x10x3, .f32⟩ : BufTy).Contents (Elt F)),
   StableHlo.ternary main_call4_v1 main_call4_v2 main_call4_v3 main_v111 (select : (⟨S100000x10x3, .i1⟩ : BufTy).Contents (Elt F) → (⟨S100000x10x3, .f32⟩ : BufTy).Contents (Elt F) → (⟨S100000x10x3, .f32⟩ : BufTy).Contents (Elt F) → (⟨S100000x10x3, .f32⟩ : BufTy).Contents (Elt F)),
   StableHlo.nullary main_cst_16 (constant S_ .f32 0xFF800000#32),
   StableHlo.binary main_v111 main_cst_16 main_v112 ((fun x v => Host.reduce FloatOps.maximumf x v reducesTo_S100000x10x3_S10x3_d0 h_S_) : (⟨S100000x10x3, .f32⟩ : BufTy).Contents (Elt F) → (⟨S_, .f32⟩ : BufTy).Contents (Elt F) → (⟨S10x3, .f32⟩ : BufTy).Contents (Elt F))]

/-- Operations 142 to 158. -/
def segF2 : List (HloOp τ sig (Elt F)) :=
  [StableHlo.reshape main_arg0 main_v113 (rfl : (.f32 : EltTy) = .f32) shapeCasts_S1x100000x3_S100000x3,
   StableHlo.unary main_v101 main_v114 (broadcastInDim S100000x1 ![0] bcast_S100000_S100000x1_0 : (⟨S100000, .i32⟩ : BufTy).Contents (Elt F) → (⟨S100000x1, .i32⟩ : BufTy).Contents (Elt F)),
   StableHlo.nullary main_v115 (iotaInDim S10 32 0),
   StableHlo.unary main_v115 main_v116 (broadcastInDim S1x10 ![1] bcast_S10_S1x10_1 : (⟨S10, .i32⟩ : BufTy).Contents (Elt F) → (⟨S1x10, .i32⟩ : BufTy).Contents (Elt F)),
   StableHlo.unary main_v114 main_v117 (broadcastInDim S100000x10 ![0, 1] bcast_S100000x1_S100000x10_0_1 : (⟨S100000x1, .i32⟩ : BufTy).Contents (Elt F) → (⟨S100000x10, .i32⟩ : BufTy).Contents (Elt F)),
   StableHlo.unary main_v116 main_v118 (broadcastInDim S100000x10 ![0, 1] bcast_S1x10_S100000x10_0_1 : (⟨S1x10, .i32⟩ : BufTy).Contents (Elt F) → (⟨S100000x10, .i32⟩ : BufTy).Contents (Elt F)),
   StableHlo.binary main_v117 main_v118 main_v119 (cmpi .eq : (⟨S100000x10, .i32⟩ : BufTy).Contents (Elt F) → (⟨S100000x10, .i32⟩ : BufTy).Contents (Elt F) → (⟨S100000x10, .i1⟩ : BufTy).Contents (Elt F)),
   StableHlo.unary main_v119 main_v120 (broadcastInDim S100000x10x1 ![0, 1] bcast_S100000x10_S100000x10x1_0_1 : (⟨S100000x10, .i1⟩ : BufTy).Contents (Elt F) → (⟨S100000x10x1, .i1⟩ : BufTy).Contents (Elt F)),
   StableHlo.unary main_v113 main_v121 (broadcastInDim S100000x1x3 ![0, 2] bcast_S100000x3_S100000x1x3_0_2 : (⟨S100000x3, .f32⟩ : BufTy).Contents (Elt F) → (⟨S100000x1x3, .f32⟩ : BufTy).Contents (Elt F)),
   StableHlo.nullary main_cst_17 (constant S_ .f32 0x7F800000#32),
   StableHlo.unary main_cst_17 main_call5_v0 (id : (⟨S_, .f32⟩ : BufTy).Contents (Elt F) → (⟨S_, .f32⟩ : BufTy).Contents (Elt F)),
   StableHlo.unary main_v120 main_call5_v1 (broadcastInDim S100000x10x3 ![0, 1, 2] bcast_S100000x10x1_S100000x10x3_0_1_2 : (⟨S100000x10x1, .i1⟩ : BufTy).Contents (Elt F) → (⟨S100000x10x3, .i1⟩ : BufTy).Contents (Elt F)),
   StableHlo.unary main_v121 main_call5_v2 (broadcastInDim S100000x10x3 ![0, 1, 2] bcast_S100000x1x3_S100000x10x3_0_1_2 : (⟨S100000x1x3, .f32⟩ : BufTy).Contents (Elt F) → (⟨S100000x10x3, .f32⟩ : BufTy).Contents (Elt F)),
   StableHlo.unary main_call5_v0 main_call5_v3 (broadcastInDim S100000x10x3 ![] bcast_S_S100000x10x3 : (⟨S_, .f32⟩ : BufTy).Contents (Elt F) → (⟨S100000x10x3, .f32⟩ : BufTy).Contents (Elt F)),
   StableHlo.ternary main_call5_v1 main_call5_v2 main_call5_v3 main_v122 (select : (⟨S100000x10x3, .i1⟩ : BufTy).Contents (Elt F) → (⟨S100000x10x3, .f32⟩ : BufTy).Contents (Elt F) → (⟨S100000x10x3, .f32⟩ : BufTy).Contents (Elt F) → (⟨S100000x10x3, .f32⟩ : BufTy).Contents (Elt F)),
   StableHlo.nullary main_cst_18 (constant S_ .f32 0x7F800000#32),
   StableHlo.binary main_v122 main_cst_18 main_v123 ((fun x v => Host.reduce FloatOps.minimumf x v reducesTo_S100000x10x3_S10x3_d0 h_S_) : (⟨S100000x10x3, .f32⟩ : BufTy).Contents (Elt F) → (⟨S_, .f32⟩ : BufTy).Contents (Elt F) → (⟨S10x3, .f32⟩ : BufTy).Contents (Elt F))]

/-- Operations 159 to 162. -/
def segF3 : List (HloOp τ sig (Elt F)) :=
  [StableHlo.binary main_v112 main_v123 main_v124 (addf : (⟨S10x3, .f32⟩ : BufTy).Contents (Elt F) → (⟨S10x3, .f32⟩ : BufTy).Contents (Elt F) → (⟨S10x3, .f32⟩ : BufTy).Contents (Elt F)),
   StableHlo.nullary main_cst_19 (constant S_ .f32 0x40000000#32),
   StableHlo.unary main_cst_19 main_v125 (broadcastInDim S10x3 ![] bcast_S_S10x3 : (⟨S_, .f32⟩ : BufTy).Contents (Elt F) → (⟨S10x3, .f32⟩ : BufTy).Contents (Elt F)),
   StableHlo.binary main_v124 main_v125 main_v126 (Host.divf : (⟨S10x3, .f32⟩ : BufTy).Contents (Elt F) → (⟨S10x3, .f32⟩ : BufTy).Contents (Elt F) → (⟨S10x3, .f32⟩ : BufTy).Contents (Elt F))]

/-- Operations 163 to 171. -/
def segF4 : List (HloOp τ sig (Elt F)) :=
  [StableHlo.nullary main_c_20 (constantI S_ 32 0#32),
   StableHlo.unary main_c_20 main_v127 (broadcastInDim S100000 ![] bcast_S_S100000 : (⟨S_, .i32⟩ : BufTy).Contents (Elt F) → (⟨S100000, .i32⟩ : BufTy).Contents (Elt F)),
   StableHlo.binary main_v101 main_v127 main_v128 (cmpi .slt : (⟨S100000, .i32⟩ : BufTy).Contents (Elt F) → (⟨S100000, .i32⟩ : BufTy).Contents (Elt F) → (⟨S100000, .i1⟩ : BufTy).Contents (Elt F)),
   StableHlo.nullary main_c_21 (constantI S_ 32 10#32),
   StableHlo.unary main_c_21 main_v129 (broadcastInDim S100000 ![] bcast_S_S100000 : (⟨S_, .i32⟩ : BufTy).Contents (Elt F) → (⟨S100000, .i32⟩ : BufTy).Contents (Elt F)),
   StableHlo.binary main_v101 main_v129 main_v130 (addi : (⟨S100000, .i32⟩ : BufTy).Contents (Elt F) → (⟨S100000, .i32⟩ : BufTy).Contents (Elt F) → (⟨S100000, .i32⟩ : BufTy).Contents (Elt F)),
   StableHlo.ternary main_v128 main_v130 main_v101 main_v131 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
   StableHlo.unary main_v131 main_v132 (broadcastInDim S100000x1 ![0] bcast_S100000_S100000x1_0 : (⟨S100000, .i32⟩ : BufTy).Contents (Elt F) → (⟨S100000x1, .i32⟩ : BufTy).Contents (Elt F)),
   StableHlo.binary main_v126 main_v132 main_v133 ((fun x i => Host.gather gather_S10x3_S100000x1_S100000x3_1_0_n_n_0_1_13 x i) : (⟨S10x3, .f32⟩ : BufTy).Contents (Elt F) → (⟨S100000x1, .i32⟩ : BufTy).Contents (Elt F) → (⟨S100000x3, .f32⟩ : BufTy).Contents (Elt F))]

/-- Operations 172 to 180. -/
def segG : List (HloOp τ sig (Elt F)) :=
  [StableHlo.unary main_v133 main_v134 (broadcastInDim S1x100000x3 ![1, 2] bcast_S100000x3_S1x100000x3_1_2 : (⟨S100000x3, .f32⟩ : BufTy).Contents (Elt F) → (⟨S1x100000x3, .f32⟩ : BufTy).Contents (Elt F)),
   StableHlo.binary main_arg0 main_v134 main_v135 (subf : (⟨S1x100000x3, .f32⟩ : BufTy).Contents (Elt F) → (⟨S1x100000x3, .f32⟩ : BufTy).Contents (Elt F) → (⟨S1x100000x3, .f32⟩ : BufTy).Contents (Elt F)),
   StableHlo.reshape main_v135 main_v136 (rfl : (.f32 : EltTy) = .f32) shapeCasts_S1x100000x3_S100000x3,
   StableHlo.binary main_v99 main_v136 main_v137 ((fun l r => Host.dotGeneral dot_S100000x3x3_S100000x3_S100000x3_2_1_1_n_0_0 none l r) : (⟨S100000x3x3, .f32⟩ : BufTy).Contents (Elt F) → (⟨S100000x3, .f32⟩ : BufTy).Contents (Elt F) → (⟨S100000x3, .f32⟩ : BufTy).Contents (Elt F)),
   StableHlo.unary main_v137 main_v138 (broadcastInDim S1x100000x3 ![1, 2] bcast_S100000x3_S1x100000x3_1_2 : (⟨S100000x3, .f32⟩ : BufTy).Contents (Elt F) → (⟨S1x100000x3, .f32⟩ : BufTy).Contents (Elt F)),
   StableHlo.unary main_v133 main_v139 (broadcastInDim S1x100000x3 ![1, 2] bcast_S100000x3_S1x100000x3_1_2 : (⟨S100000x3, .f32⟩ : BufTy).Contents (Elt F) → (⟨S1x100000x3, .f32⟩ : BufTy).Contents (Elt F)),
   StableHlo.binary main_v138 main_v139 main_v140 (addf : (⟨S1x100000x3, .f32⟩ : BufTy).Contents (Elt F) → (⟨S1x100000x3, .f32⟩ : BufTy).Contents (Elt F) → (⟨S1x100000x3, .f32⟩ : BufTy).Contents (Elt F)),
   StableHlo.binary main_v140 main_v27 main_v141 (addf : (⟨S1x100000x3, .f32⟩ : BufTy).Contents (Elt F) → (⟨S1x100000x3, .f32⟩ : BufTy).Contents (Elt F) → (⟨S1x100000x3, .f32⟩ : BufTy).Contents (Elt F)),
   StableHlo.binary main_v141 main_arg0 main_v142 (subf : (⟨S1x100000x3, .f32⟩ : BufTy).Contents (Elt F) → (⟨S1x100000x3, .f32⟩ : BufTy).Contents (Elt F) → (⟨S1x100000x3, .f32⟩ : BufTy).Contents (Elt F))]

/-- All of them. -/
def ops : List (HloOp τ sig (Elt F)) := segA ++ (segB ++ (segB2 ++ (segC0 ++ (segC1 ++ (segD1 ++ (segN1 ++ (segD2 ++ (segN2 ++ (segD3 ++ (segN3 ++ (segD4 ++ (segN4 ++ (segD5 ++ (segE ++ (segF1 ++ (segF2 ++ (segF3 ++ (segF4 ++ (segG)))))))))))))))))))

/-- The program is the sequence of its operations. -/
theorem main_eq (d : Dev nD) : main (F := F) d = seq (ops (F := F)) := rfl

set_option maxHeartbeats 4000000 in
/-- Every operation touches arrays of the program only. -/
theorem ops_bufs : (ops (F := F)).Forall fun op => op.bufs ⊆ StableHlo.tcRefs τ sig := by
  unfold ops segA segB segB2 segC0 segC1 segD1 segN1 segD2 segN2 segD3 segN3 segD4 segN4 segD5 segE segF1 segF2 segF3 segF4 segG
  simp

/-- No operation leaves a result undetermined. -/
theorem ops_fresh : ∀ op ∈ ops (F := F), op.fresh = ∅ := by
  intro op h
  simp only [ops, List.mem_append] at h
  rcases h with h | h | h | h | h | h | h | h | h | h | h | h | h | h | h | h | h | h | h | h <;>
    ((repeat (cases h with | head => rfl | tail _ h => ?_)); exact nomatch h)

/-- The run: every array ends at the operations' results, and the program has no semaphore to leave up. -/
theorem run (m : (ℓ : Loc nD τ sig) → Buf (Elt F) ℓ) (ρ : Dev nD → PrngReg) :
    θ_run (defs (F := F)) (onTc (τ := τ) (main (F := F))) ⟨m, fun _ => 0, ρ⟩ fun r =>
      (∀ (d : Dev nD) (b : Ref sig .tc), r.2.mem ((d.tc : Thread nD τ).loc b) = after ops (StableHlo.launchContents m d) (Proc.devRef .tc b))
      ∧ r.2.sem = fun _ => 0 :=
  θ_run_mono (StableHlo.run_seq (by decide) (by decide) defs main (fun _ => ops) main_eq (fun _ => ops_bufs) m ρ (fun _ => ops_fresh))
    fun r h => ⟨h, sem_eq_zero_of_no_sems (by decide) r.2⟩

end Cert.ReferenceIdeal.Prf

end
-- ==== Proof.RefVals.lean ====
/-
  What the reference's stretches compute, as functions of the arrays they read.
-/
module

public import proofs.«01_k».proof.Defs
public import proofs.«01_k».proof.Proof.Gen.ReferenceIdeal
public import proofs.«01_k».proof.Proof.RefRun
public import Idealize.ShloMosaic.Lib.Quiescent
public import Idealize.ShloMosaic.Lib.StableHlo.RunRead

@[expose] public section

set_option maxRecDepth 16384

noncomputable section

namespace Cert.ReferenceIdeal.Prf

open Cert.ReferenceIdeal Cert.ReferenceIdeal.Gen
open Idealize.ShloMosaic Idealize.ShloMosaic.TcCoe
open Idealize.SL.Sem
open Idealize.ShloMosaic.StableHlo (after seq)

variable {F : FTy → Type} [FloatOps F]

/-- The four features of each point, before any use. -/
def rMlp (arg0 : FVec F S1x100000x3 .f32) (arg2 : FVec F S3x128 .f32) (arg3 : FVec F S128 .f32) (arg4 : FVec F S128x128 .f32) (arg5 : FVec F S128 .f32) (arg6 : FVec F S128x4 .f32) (arg7 : FVec F S4 .f32) : FVec F S1x100000x4 .f32 :=
  let v0 : FVec F S1x100000x128 .f32 := Host.dotGeneral dot_S1x100000x3_S3x128_S1x100000x128_2_0_01_1_n_n none arg0 arg2
  let v1 : FVec F S1x1x128 .f32 := broadcastInDim S1x1x128 ![2] bcast_S128_S1x1x128_2 arg3
  let v2 : FVec F S1x100000x128 .f32 := broadcastInDim S1x100000x128 ![0, 1, 2] bcast_S1x1x128_S1x100000x128_0_1_2 v1
  let v3 : FVec F S1x100000x128 .f32 := addf v0 v2
  let cst : FVec F S_ .f32 := (constant S_ .f32 0x00000000#32)
  let v4 : FVec F S1x100000x128 .f32 := broadcastInDim S1x100000x128 ![] bcast_S_S1x100000x128 cst
  let v5 : FVec F S1x100000x128 .f32 := maximumf v3 v4
  let v6 : FVec F S1x100000x128 .f32 := Host.dotGeneral dot_S1x100000x128_S128x128_S1x100000x128_2_0_01_1_n_n none v5 arg4
  let v7 : FVec F S1x1x128 .f32 := broadcastInDim S1x1x128 ![2] bcast_S128_S1x1x128_2 arg5
  let v8 : FVec F S1x100000x128 .f32 := broadcastInDim S1x100000x128 ![0, 1, 2] bcast_S1x1x128_S1x100000x128_0_1_2 v7
  let v9 : FVec F S1x100000x128 .f32 := addf v6 v8
  let cst_0 : FVec F S_ .f32 := (constant S_ .f32 0x00000000#32)
  let v10 : FVec F S1x100000x128 .f32 := broadcastInDim S1x100000x128 ![] bcast_S_S1x100000x128 cst_0
  let v11 : FVec F S1x100000x128 .f32 := maximumf v9 v10
  let v12 : FVec F S1x100000x4 .f32 := Host.dotGeneral dot_S1x100000x128_S128x4_S1x100000x4_2_0_01_1_n_n none v11 arg6
  let v13 : FVec F S1x1x4 .f32 := broadcastInDim S1x1x4 ![2] bcast_S4_S1x1x4_2 arg7
  let v14 : FVec F S1x100000x4 .f32 := broadcastInDim S1x100000x4 ![0, 1, 2] bcast_S1x1x4_S1x100000x4_0_1_2 v13
  addf v12 v14

/-- The class weights of each point. -/
def rMask (arg1 : FVec F S1x100000x10 .f32) : FVec F S1x100000x10 .f32 :=
  let cst_1 : FVec F S_ .f32 := (constant S_ .f32 0xFF800000#32)
  let v16 : FVec F S1x100000 .f32 := Host.reduce FloatOps.maximumf arg1 cst_1 reducesTo_S1x100000x10_S1x100000_d2 h_S_
  let cst_2 : FVec F S_ .f32 := (constant S_ .f32 0xFF800000#32)
  let v17 : FVec F S1x100000 .f32 := broadcastInDim S1x100000 ![] bcast_S_S1x100000 cst_2
  let v18 : FVec F S1x100000 .f32 := maximumf v17 v16
  let v19 : FVec F S1x100000x1 .f32 := broadcastInDim S1x100000x1 ![0, 1] bcast_S1x100000_S1x100000x1_0_1 v18
  let v20 : FVec F S1x100000x10 .f32 := broadcastInDim S1x100000x10 ![0, 1, 2] bcast_S1x100000x1_S1x100000x10_0_1_2 v19
  let v21 : FVec F S1x100000x10 .f32 := subf arg1 v20
  let v22 : FVec F S1x100000x10 .f32 := Host.exp v21
  let cst_3 : FVec F S_ .f32 := (constant S_ .f32 0x00000000#32)
  let v23 : FVec F S1x100000 .f32 := Host.reduceAdd v22 cst_3 reducesTo_S1x100000x10_S1x100000_d2 h_S_
  let v24 : FVec F S1x100000x1 .f32 := broadcastInDim S1x100000x1 ![0, 1] bcast_S1x100000_S1x100000x1_0_1 v23
  let v25 : FVec F S1x100000x10 .f32 := broadcastInDim S1x100000x10 ![0, 1, 2] bcast_S1x100000x1_S1x100000x10_0_1_2 v24
  Host.divf v22 v25

/-- Each point's translation. -/
def rT (v15 : FVec F S1x100000x4 .f32) : FVec F S1x100000x3 .f32 :=
  (extractStridedSlice S1x100000x3 ![0, 0, 0] v15 slices_S1x100000x4_S1x100000x3_0_0_0)

/-- Each point's yaw. -/
def rYaw (v15 : FVec F S1x100000x4 .f32) : FVec F S1x100000x1 .f32 :=
  (extractStridedSlice S1x100000x1 ![0, 0, 3] v15 slices_S1x100000x4_S1x100000x1_0_0_3)

/-- Each point's rotation vector. -/
def rVec (v28 : FVec F S1x100000x1 .f32) : FVec F S100000x3 .f32 :=
  let cst_4 : FVec F S_ .f32 := (constant S_ .f32 0x00000000#32)
  let v29 : FVec F S1x100000x2 .f32 := broadcastInDim S1x100000x2 ![] bcast_S_S1x100000x2 cst_4
  let v30 : FVec F S1x100000x3 .f32 := (fun a b => concatenate S1x100000x3 2 [⟨S1x100000x2, a⟩, ⟨S1x100000x1, b⟩] concatenates_S1x100000x2_S1x100000x1_S1x100000x3_d2) v29 v28
  shapeCast S100000x3 v30 shapeCasts_S1x100000x3_S100000x3

/-- The rotation vector's squared length. -/
def rSq (v28 : FVec F S1x100000x1 .f32) : FVec F S100000 .f32 :=
  let cst_4 : FVec F S_ .f32 := (constant S_ .f32 0x00000000#32)
  let v29 : FVec F S1x100000x2 .f32 := broadcastInDim S1x100000x2 ![] bcast_S_S1x100000x2 cst_4
  let v30 : FVec F S1x100000x3 .f32 := (fun a b => concatenate S1x100000x3 2 [⟨S1x100000x2, a⟩, ⟨S1x100000x1, b⟩] concatenates_S1x100000x2_S1x100000x1_S1x100000x3_d2) v29 v28
  let v31 : FVec F S100000x3 .f32 := shapeCast S100000x3 v30 shapeCasts_S1x100000x3_S100000x3
  let v32 : FVec F S100000x3 .f32 := mulf v31 v31
  let cst_5 : FVec F S_ .f32 := (constant S_ .f32 0x00000000#32)
  Host.reduceAdd v32 cst_5 reducesTo_S100000x3_S100000_d1 h_S_

/-- Where the angle is small. -/
def rSmall (v28 : FVec F S1x100000x1 .f32) : IVec S100000 1 :=
  let cst_4 : FVec F S_ .f32 := (constant S_ .f32 0x00000000#32)
  let v29 : FVec F S1x100000x2 .f32 := broadcastInDim S1x100000x2 ![] bcast_S_S1x100000x2 cst_4
  let v30 : FVec F S1x100000x3 .f32 := (fun a b => concatenate S1x100000x3 2 [⟨S1x100000x2, a⟩, ⟨S1x100000x1, b⟩] concatenates_S1x100000x2_S1x100000x1_S1x100000x3_d2) v29 v28
  let v31 : FVec F S100000x3 .f32 := shapeCast S100000x3 v30 shapeCasts_S1x100000x3_S100000x3
  let v32 : FVec F S100000x3 .f32 := mulf v31 v31
  let cst_5 : FVec F S_ .f32 := (constant S_ .f32 0x00000000#32)
  let v33 : FVec F S100000 .f32 := Host.reduceAdd v32 cst_5 reducesTo_S100000x3_S100000_d1 h_S_
  let cst_6 : FVec F S_ .f32 := (constant S_ .f32 0x2B8CBCCC#32)
  let v34 : FVec F S100000 .f32 := broadcastInDim S100000 ![] bcast_S_S100000 cst_6
  let v35 : FVec F S100000 .f32 := addf v33 v34
  let v36 : FVec F S100000 .f32 := Host.sqrt v35
  let cst_7 : FVec F S_ .f32 := (constant S_ .f32 0x38D1B717#32)
  let v37 : FVec F S100000 .f32 := broadcastInDim S100000 ![] bcast_S_S100000 cst_7
  cmpf .olt v36 v37

/-- The angle, one where it is small. -/
def rAng (v28 : FVec F S1x100000x1 .f32) : FVec F S100000 .f32 :=
  let cst_4 : FVec F S_ .f32 := (constant S_ .f32 0x00000000#32)
  let v29 : FVec F S1x100000x2 .f32 := broadcastInDim S1x100000x2 ![] bcast_S_S1x100000x2 cst_4
  let v30 : FVec F S1x100000x3 .f32 := (fun a b => concatenate S1x100000x3 2 [⟨S1x100000x2, a⟩, ⟨S1x100000x1, b⟩] concatenates_S1x100000x2_S1x100000x1_S1x100000x3_d2) v29 v28
  let v31 : FVec F S100000x3 .f32 := shapeCast S100000x3 v30 shapeCasts_S1x100000x3_S100000x3
  let v32 : FVec F S100000x3 .f32 := mulf v31 v31
  let cst_5 : FVec F S_ .f32 := (constant S_ .f32 0x00000000#32)
  let v33 : FVec F S100000 .f32 := Host.reduceAdd v32 cst_5 reducesTo_S100000x3_S100000_d1 h_S_
  let cst_6 : FVec F S_ .f32 := (constant S_ .f32 0x2B8CBCCC#32)
  let v34 : FVec F S100000 .f32 := broadcastInDim S100000 ![] bcast_S_S100000 cst_6
  let v35 : FVec F S100000 .f32 := addf v33 v34
  let v36 : FVec F S100000 .f32 := Host.sqrt v35
  let cst_7 : FVec F S_ .f32 := (constant S_ .f32 0x38D1B717#32)
  let v37 : FVec F S100000 .f32 := broadcastInDim S100000 ![] bcast_S_S100000 cst_7
  let v38 : IVec S100000 1 := cmpf .olt v36 v37
  let cst_8 : FVec F S_ .f32 := (constant S_ .f32 0x3F800000#32)
  let call0_v0 : FVec F S_ .f32 := cst_8
  let call0_v1 : FVec F S100000 .f32 := broadcastInDim S100000 ![] bcast_S_S100000 call0_v0
  select v38 call0_v1 v36

/-- The factor of the skew matrix. -/
def rSin (v28 : FVec F S1x100000x1 .f32) : FVec F S100000 .f32 :=
  let cst_4 : FVec F S_ .f32 := (constant S_ .f32 0x00000000#32)
  let v29 : FVec F S1x100000x2 .f32 := broadcastInDim S1x100000x2 ![] bcast_S_S1x100000x2 cst_4
  let v30 : FVec F S1x100000x3 .f32 := (fun a b => concatenate S1x100000x3 2 [⟨S1x100000x2, a⟩, ⟨S1x100000x1, b⟩] concatenates_S1x100000x2_S1x100000x1_S1x100000x3_d2) v29 v28
  let v31 : FVec F S100000x3 .f32 := shapeCast S100000x3 v30 shapeCasts_S1x100000x3_S100000x3
  let v32 : FVec F S100000x3 .f32 := mulf v31 v31
  let cst_5 : FVec F S_ .f32 := (constant S_ .f32 0x00000000#32)
  let v33 : FVec F S100000 .f32 := Host.reduceAdd v32 cst_5 reducesTo_S100000x3_S100000_d1 h_S_
  let cst_6 : FVec F S_ .f32 := (constant S_ .f32 0x2B8CBCCC#32)
  let v34 : FVec F S100000 .f32 := broadcastInDim S100000 ![] bcast_S_S100000 cst_6
  let v35 : FVec F S100000 .f32 := addf v33 v34
  let v36 : FVec F S100000 .f32 := Host.sqrt v35
  let cst_7 : FVec F S_ .f32 := (constant S_ .f32 0x38D1B717#32)
  let v37 : FVec F S100000 .f32 := broadcastInDim S100000 ![] bcast_S_S100000 cst_7
  let v38 : IVec S100000 1 := cmpf .olt v36 v37
  let cst_8 : FVec F S_ .f32 := (constant S_ .f32 0x3F800000#32)
  let call0_v0 : FVec F S_ .f32 := cst_8
  let call0_v1 : FVec F S100000 .f32 := broadcastInDim S100000 ![] bcast_S_S100000 call0_v0
  let v39 : FVec F S100000 .f32 := select v38 call0_v1 v36
  let cst_9 : FVec F S_ .f32 := (constant S_ .f32 0x40C00000#32)
  let v40 : FVec F S100000 .f32 := broadcastInDim S100000 ![] bcast_S_S100000 cst_9
  let v41 : FVec F S100000 .f32 := Host.divf v33 v40
  let cst_10 : FVec F S_ .f32 := (constant S_ .f32 0x3F800000#32)
  let v42 : FVec F S100000 .f32 := broadcastInDim S100000 ![] bcast_S_S100000 cst_10
  let v43 : FVec F S100000 .f32 := subf v42 v41
  let v44 : FVec F S100000 .f32 := Host.sin v39
  let v45 : FVec F S100000 .f32 := Host.divf v44 v39
  select v38 v43 v45

/-- The constant twenty-four. -/
def r24  : FVec F S_ .f32 :=
  (constant S_ .f32 0x41C00000#32)

/-- The factor of the skew matrix squared. -/
def rCos (v33 : FVec F S100000 .f32) (v38 : IVec S100000 1) (v39 : FVec F S100000 .f32) (cst_11 : FVec F S_ .f32) : FVec F S100000 .f32 :=
  let v47 : FVec F S100000 .f32 := broadcastInDim S100000 ![] bcast_S_S100000 cst_11
  let v48 : FVec F S100000 .f32 := Host.divf v33 v47
  let cst_12 : FVec F S_ .f32 := (constant S_ .f32 0x3F000000#32)
  let v49 : FVec F S100000 .f32 := broadcastInDim S100000 ![] bcast_S_S100000 cst_12
  let v50 : FVec F S100000 .f32 := subf v49 v48
  let v51 : FVec F S100000 .f32 := Host.cos v39
  let cst_13 : FVec F S_ .f32 := (constant S_ .f32 0x3F800000#32)
  let v52 : FVec F S100000 .f32 := broadcastInDim S100000 ![] bcast_S_S100000 cst_13
  let v53 : FVec F S100000 .f32 := subf v52 v51
  let v54 : FVec F S100000 .f32 := mulf v39 v39
  let v55 : FVec F S100000 .f32 := Host.divf v53 v54
  select v38 v50 v55

/-- The rotation vector's first coordinate. -/
def rX (v31 : FVec F S100000x3 .f32) : FVec F S100000 .f32 :=
  let v57 : FVec F S100000x1 .f32 := (extractStridedSlice S100000x1 ![0, 0] v31 slices_S100000x3_S100000x1_0_0)
  shapeCast S100000 v57 shapeCasts_S100000x1_S100000

/-- Its second. -/
def rY (v31 : FVec F S100000x3 .f32) : FVec F S100000 .f32 :=
  let v59 : FVec F S100000x1 .f32 := (extractStridedSlice S100000x1 ![0, 1] v31 slices_S100000x3_S100000x1_0_1)
  shapeCast S100000 v59 shapeCasts_S100000x1_S100000

/-- Its third. -/
def rZ (v31 : FVec F S100000x3 .f32) : FVec F S100000 .f32 :=
  let v61 : FVec F S100000x1 .f32 := (extractStridedSlice S100000x1 ![0, 2] v31 slices_S100000x3_S100000x1_0_2)
  shapeCast S100000 v61 shapeCasts_S100000x1_S100000

/-- Zeros. -/
def rO  : FVec F S100000 .f32 :=
  let cst_14 : FVec F S_ .f32 := (constant S_ .f32 0x00000000#32)
  broadcastInDim S100000 ![] bcast_S_S100000 cst_14

/-- The skew matrix's first row, first entry. -/
def rRow0a  : FVec F S100000x1 .f32 :=
  let cst_14 : FVec F S_ .f32 := (constant S_ .f32 0x00000000#32)
  let v63 : FVec F S100000 .f32 := broadcastInDim S100000 ![] bcast_S_S100000 cst_14
  broadcastInDim S100000x1 ![0] bcast_S100000_S100000x1_0 v63

/-- Second entry. -/
def rRow0b (v31 : FVec F S100000x3 .f32) : FVec F S100000x1 .f32 :=
  let v61 : FVec F S100000x1 .f32 := (extractStridedSlice S100000x1 ![0, 2] v31 slices_S100000x3_S100000x1_0_2)
  let v62 : FVec F S100000 .f32 := shapeCast S100000 v61 shapeCasts_S100000x1_S100000
  let v64 : FVec F S100000 .f32 := Host.negf v62
  broadcastInDim S100000x1 ![0] bcast_S100000_S100000x1_0 v64

/-- Third entry. -/
def rRow0c (v31 : FVec F S100000x3 .f32) : FVec F S100000x1 .f32 :=
  let v59 : FVec F S100000x1 .f32 := (extractStridedSlice S100000x1 ![0, 1] v31 slices_S100000x3_S100000x1_0_1)
  let v60 : FVec F S100000 .f32 := shapeCast S100000 v59 shapeCasts_S100000x1_S100000
  broadcastInDim S100000x1 ![0] bcast_S100000_S100000x1_0 v60

/-- The first row. -/
def rRow0 (v65 : FVec F S100000x1 .f32) (v66 : FVec F S100000x1 .f32) (v67 : FVec F S100000x1 .f32) : FVec F S100000x3 .f32 :=
  (concatenate S100000x3 1 [⟨S100000x1, v65⟩, ⟨S100000x1, v66⟩, ⟨S100000x1, v67⟩] concatenates_S100000x1_S100000x1_S100000x1_S100000x3_d1)

/-- The second row, first entry. -/
def rRow1a (v62 : FVec F S100000 .f32) : FVec F S100000x1 .f32 :=
  broadcastInDim S100000x1 ![0] bcast_S100000_S100000x1_0 v62

/-- Second entry. -/
def rRow1b (v63 : FVec F S100000 .f32) : FVec F S100000x1 .f32 :=
  broadcastInDim S100000x1 ![0] bcast_S100000_S100000x1_0 v63

/-- Third entry. -/
def rRow1c (v58 : FVec F S100000 .f32) : FVec F S100000x1 .f32 :=
  let v69 : FVec F S100000 .f32 := Host.negf v58
  broadcastInDim S100000x1 ![0] bcast_S100000_S100000x1_0 v69

/-- The second row. -/
def rRow1 (v70 : FVec F S100000x1 .f32) (v71 : FVec F S100000x1 .f32) (v72 : FVec F S100000x1 .f32) : FVec F S100000x3 .f32 :=
  (concatenate S100000x3 1 [⟨S100000x1, v70⟩, ⟨S100000x1, v71⟩, ⟨S100000x1, v72⟩] concatenates_S100000x1_S100000x1_S100000x1_S100000x3_d1)

/-- The third row, first entry. -/
def rRow2a (v60 : FVec F S100000 .f32) : FVec F S100000x1 .f32 :=
  let v74 : FVec F S100000 .f32 := Host.negf v60
  broadcastInDim S100000x1 ![0] bcast_S100000_S100000x1_0 v74

/-- Second entry. -/
def rRow2b (v58 : FVec F S100000 .f32) : FVec F S100000x1 .f32 :=
  broadcastInDim S100000x1 ![0] bcast_S100000_S100000x1_0 v58

/-- Third entry. -/
def rRow2c (v63 : FVec F S100000 .f32) : FVec F S100000x1 .f32 :=
  broadcastInDim S100000x1 ![0] bcast_S100000_S100000x1_0 v63

/-- The third row. -/
def rRow2 (v75 : FVec F S100000x1 .f32) (v76 : FVec F S100000x1 .f32) (v77 : FVec F S100000x1 .f32) : FVec F S100000x3 .f32 :=
  (concatenate S100000x3 1 [⟨S100000x1, v75⟩, ⟨S100000x1, v76⟩, ⟨S100000x1, v77⟩] concatenates_S100000x1_S100000x1_S100000x1_S100000x3_d1)

/-- The first row, as a slab. -/
def rSlab0 (v68 : FVec F S100000x3 .f32) : FVec F S100000x1x3 .f32 :=
  broadcastInDim S100000x1x3 ![0, 2] bcast_S100000x3_S100000x1x3_0_2 v68

/-- The second row. -/
def rSlab1 (v73 : FVec F S100000x3 .f32) : FVec F S100000x1x3 .f32 :=
  broadcastInDim S100000x1x3 ![0, 2] bcast_S100000x3_S100000x1x3_0_2 v73

/-- The third row. -/
def rSlab2 (v78 : FVec F S100000x3 .f32) : FVec F S100000x1x3 .f32 :=
  broadcastInDim S100000x1x3 ![0, 2] bcast_S100000x3_S100000x1x3_0_2 v78

/-- The skew matrix. -/
def rSkew (v79 : FVec F S100000x1x3 .f32) (v80 : FVec F S100000x1x3 .f32) (v81 : FVec F S100000x1x3 .f32) : FVec F S100000x3x3 .f32 :=
  (concatenate S100000x3x3 1 [⟨S100000x1x3, v79⟩, ⟨S100000x1x3, v80⟩, ⟨S100000x1x3, v81⟩] concatenates_S100000x1x3_S100000x1x3_S100000x1x3_S100000x3x3_d1)

/-- Each point's rotation matrix. -/
def rRot (v82 : FVec F S100000x3x3 .f32) (v46 : FVec F S100000 .f32) (v56 : FVec F S100000 .f32) : FVec F S100000x3x3 .f32 :=
  let v83 : IVec S3x3 32 := (iotaInDim S3x3 32 0)
  let v84 : IVec S3x3 32 := (iotaInDim S3x3 32 1)
  let c : IVec S_ 32 := (constantI S_ 32 0#32)
  let v85 : IVec S3x3 32 := broadcastInDim S3x3 ![] bcast_S_S3x3 c
  let v86 : IVec S3x3 32 := addi v83 v85
  let v87 : IVec S3x3 1 := cmpi .eq v86 v84
  let v88 : FVec F S3x3 .f32 := uitofp .f32 v87
  let v89 : FVec F S100000x1x1 .f32 := broadcastInDim S100000x1x1 ![0] bcast_S100000_S100000x1x1_0 v46
  let v90 : FVec F S100000x3x3 .f32 := broadcastInDim S100000x3x3 ![0, 1, 2] bcast_S100000x1x1_S100000x3x3_0_1_2 v89
  let v91 : FVec F S100000x3x3 .f32 := mulf v90 v82
  let v92 : FVec F S1x3x3 .f32 := broadcastInDim S1x3x3 ![1, 2] bcast_S3x3_S1x3x3_1_2 v88
  let v93 : FVec F S100000x3x3 .f32 := broadcastInDim S100000x3x3 ![0, 1, 2] bcast_S1x3x3_S100000x3x3_0_1_2 v92
  let v94 : FVec F S100000x3x3 .f32 := addf v93 v91
  let v95 : FVec F S100000x1x1 .f32 := broadcastInDim S100000x1x1 ![0] bcast_S100000_S100000x1x1_0 v56
  let v96 : FVec F S100000x3x3 .f32 := Host.dotGeneral dot_S100000x3x3_S100000x3x3_S100000x3x3_2_1_1_2_0_0 none v82 v82
  let v97 : FVec F S100000x3x3 .f32 := broadcastInDim S100000x3x3 ![0, 1, 2] bcast_S100000x1x1_S100000x3x3_0_1_2 v95
  let v98 : FVec F S100000x3x3 .f32 := mulf v97 v96
  addf v94 v98

/-- Each point's class. -/
def rLab (v26 : FVec F S1x100000x10 .f32) : IVec S100000 32 :=
  let call3_v0 : IVec S1x100000x10 32 := (iotaInDim S1x100000x10 32 2)
  let call3_cst : FVec F S_ .f32 := (constant S_ .f32 0xFF800000#32)
  let call3_c : IVec S_ 32 := (constantI S_ 32 0#32)
  let v100 : IVec S1x100000 32 := (fun j => (Host.argReduce reducer_argmax_f32_i32 v26 call3_v0 call3_cst call3_c reducesTo_S1x100000x10_S1x100000_d2 h_S_ j).2)
  shapeCast S100000 v100 shapeCasts_S1x100000_S100000

/-- The points as a matrix. -/
def rPts (arg0 : FVec F S1x100000x3 .f32) : FVec F S100000x3 .f32 :=
  shapeCast S100000x3 arg0 shapeCasts_S1x100000x3_S100000x3

/-- Each class's greatest coordinates. -/
def rMax (v101 : IVec S100000 32) (v102 : FVec F S100000x3 .f32) : FVec F S10x3 .f32 :=
  let v103 : IVec S100000x1 32 := broadcastInDim S100000x1 ![0] bcast_S100000_S100000x1_0 v101
  let v104 : IVec S10 32 := (iotaInDim S10 32 0)
  let v105 : IVec S1x10 32 := broadcastInDim S1x10 ![1] bcast_S10_S1x10_1 v104
  let v106 : IVec S100000x10 32 := broadcastInDim S100000x10 ![0, 1] bcast_S100000x1_S100000x10_0_1 v103
  let v107 : IVec S100000x10 32 := broadcastInDim S100000x10 ![0, 1] bcast_S1x10_S100000x10_0_1 v105
  let v108 : IVec S100000x10 1 := cmpi .eq v106 v107
  let v109 : IVec S100000x10x1 1 := broadcastInDim S100000x10x1 ![0, 1] bcast_S100000x10_S100000x10x1_0_1 v108
  let v110 : FVec F S100000x1x3 .f32 := broadcastInDim S100000x1x3 ![0, 2] bcast_S100000x3_S100000x1x3_0_2 v102
  let cst_15 : FVec F S_ .f32 := (constant S_ .f32 0xFF800000#32)
  let call4_v0 : FVec F S_ .f32 := cst_15
  let call4_v1 : IVec S100000x10x3 1 := broadcastInDim S100000x10x3 ![0, 1, 2] bcast_S100000x10x1_S100000x10x3_0_1_2 v109
  let call4_v2 : FVec F S100000x10x3 .f32 := broadcastInDim S100000x10x3 ![0, 1, 2] bcast_S100000x1x3_S100000x10x3_0_1_2 v110
  let call4_v3 : FVec F S100000x10x3 .f32 := broadcastInDim S100000x10x3 ![] bcast_S_S100000x10x3 call4_v0
  let v111 : FVec F S100000x10x3 .f32 := select call4_v1 call4_v2 call4_v3
  let cst_16 : FVec F S_ .f32 := (constant S_ .f32 0xFF800000#32)
  Host.reduce FloatOps.maximumf v111 cst_16 reducesTo_S100000x10x3_S10x3_d0 h_S_

/-- Each class's least coordinates. -/
def rMin (arg0 : FVec F S1x100000x3 .f32) (v101 : IVec S100000 32) : FVec F S10x3 .f32 :=
  let v113 : FVec F S100000x3 .f32 := shapeCast S100000x3 arg0 shapeCasts_S1x100000x3_S100000x3
  let v114 : IVec S100000x1 32 := broadcastInDim S100000x1 ![0] bcast_S100000_S100000x1_0 v101
  let v115 : IVec S10 32 := (iotaInDim S10 32 0)
  let v116 : IVec S1x10 32 := broadcastInDim S1x10 ![1] bcast_S10_S1x10_1 v115
  let v117 : IVec S100000x10 32 := broadcastInDim S100000x10 ![0, 1] bcast_S100000x1_S100000x10_0_1 v114
  let v118 : IVec S100000x10 32 := broadcastInDim S100000x10 ![0, 1] bcast_S1x10_S100000x10_0_1 v116
  let v119 : IVec S100000x10 1 := cmpi .eq v117 v118
  let v120 : IVec S100000x10x1 1 := broadcastInDim S100000x10x1 ![0, 1] bcast_S100000x10_S100000x10x1_0_1 v119
  let v121 : FVec F S100000x1x3 .f32 := broadcastInDim S100000x1x3 ![0, 2] bcast_S100000x3_S100000x1x3_0_2 v113
  let cst_17 : FVec F S_ .f32 := (constant S_ .f32 0x7F800000#32)
  let call5_v0 : FVec F S_ .f32 := cst_17
  let call5_v1 : IVec S100000x10x3 1 := broadcastInDim S100000x10x3 ![0, 1, 2] bcast_S100000x10x1_S100000x10x3_0_1_2 v120
  let call5_v2 : FVec F S100000x10x3 .f32 := broadcastInDim S100000x10x3 ![0, 1, 2] bcast_S100000x1x3_S100000x10x3_0_1_2 v121
  let call5_v3 : FVec F S100000x10x3 .f32 := broadcastInDim S100000x10x3 ![] bcast_S_S100000x10x3 call5_v0
  let v122 : FVec F S100000x10x3 .f32 := select call5_v1 call5_v2 call5_v3
  let cst_18 : FVec F S_ .f32 := (constant S_ .f32 0x7F800000#32)
  Host.reduce FloatOps.minimumf v122 cst_18 reducesTo_S100000x10x3_S10x3_d0 h_S_

/-- Each class's centre. -/
def rMid (v112 : FVec F S10x3 .f32) (v123 : FVec F S10x3 .f32) : FVec F S10x3 .f32 :=
  let v124 : FVec F S10x3 .f32 := addf v112 v123
  let cst_19 : FVec F S_ .f32 := (constant S_ .f32 0x40000000#32)
  let v125 : FVec F S10x3 .f32 := broadcastInDim S10x3 ![] bcast_S_S10x3 cst_19
  Host.divf v124 v125

/-- Each point's class centre. -/
def rCen (v126 : FVec F S10x3 .f32) (v101 : IVec S100000 32) : FVec F S100000x3 .f32 :=
  let c_20 : IVec S_ 32 := (constantI S_ 32 0#32)
  let v127 : IVec S100000 32 := broadcastInDim S100000 ![] bcast_S_S100000 c_20
  let v128 : IVec S100000 1 := cmpi .slt v101 v127
  let c_21 : IVec S_ 32 := (constantI S_ 32 10#32)
  let v129 : IVec S100000 32 := broadcastInDim S100000 ![] bcast_S_S100000 c_21
  let v130 : IVec S100000 32 := addi v101 v129
  let v131 : IVec S100000 32 := select v128 v130 v101
  let v132 : IVec S100000x1 32 := broadcastInDim S100000x1 ![0] bcast_S100000_S100000x1_0 v131
  Host.gather gather_S10x3_S100000x1_S100000x3_1_0_n_n_0_1_13 v126 v132

/-- Each point's displacement. -/
def rFlow (arg0 : FVec F S1x100000x3 .f32) (v99 : FVec F S100000x3x3 .f32) (v133 : FVec F S100000x3 .f32) (v27 : FVec F S1x100000x3 .f32) : FVec F S1x100000x3 .f32 :=
  let v134 : FVec F S1x100000x3 .f32 := broadcastInDim S1x100000x3 ![1, 2] bcast_S100000x3_S1x100000x3_1_2 v133
  let v135 : FVec F S1x100000x3 .f32 := subf arg0 v134
  let v136 : FVec F S100000x3 .f32 := shapeCast S100000x3 v135 shapeCasts_S1x100000x3_S100000x3
  let v137 : FVec F S100000x3 .f32 := Host.dotGeneral dot_S100000x3x3_S100000x3_S100000x3_2_1_1_n_0_0 none v99 v136
  let v138 : FVec F S1x100000x3 .f32 := broadcastInDim S1x100000x3 ![1, 2] bcast_S100000x3_S1x100000x3_1_2 v137
  let v139 : FVec F S1x100000x3 .f32 := broadcastInDim S1x100000x3 ![1, 2] bcast_S100000x3_S1x100000x3_1_2 v133
  let v140 : FVec F S1x100000x3 .f32 := addf v138 v139
  let v141 : FVec F S1x100000x3 .f32 := addf v140 v27
  subf v141 arg0

variable (W : Valuation τ sig (Elt F))

theorem read_rMlp : after segA W ((Proc.devRef .tc main_v15) : DevRef τ sig) = rMlp (W (Proc.devRef .tc main_arg0)) (W (Proc.devRef .tc main_arg2)) (W (Proc.devRef .tc main_arg3)) (W (Proc.devRef .tc main_arg4)) (W (Proc.devRef .tc main_arg5)) (W (Proc.devRef .tc main_arg6)) (W (Proc.devRef .tc main_arg7)) := by
  unfold segA
  after_reads_simp
  try rfl

theorem read_rMask : after segB W ((Proc.devRef .tc main_v26) : DevRef τ sig) = rMask (W (Proc.devRef .tc main_arg1)) := by
  unfold segB
  after_reads_simp
  try rfl

theorem read_rT : after segB2 W ((Proc.devRef .tc main_v27) : DevRef τ sig) = rT (W (Proc.devRef .tc main_v15)) := by
  unfold segB2
  after_reads_simp
  try rfl

theorem read_rYaw : after segB2 W ((Proc.devRef .tc main_v28) : DevRef τ sig) = rYaw (W (Proc.devRef .tc main_v15)) := by
  unfold segB2
  after_reads_simp
  try rfl

theorem read_rVec : after segC0 W ((Proc.devRef .tc main_v31) : DevRef τ sig) = rVec (W (Proc.devRef .tc main_v28)) := by
  unfold segC0
  after_reads_simp
  try rfl

theorem read_rSq : after segC0 W ((Proc.devRef .tc main_v33) : DevRef τ sig) = rSq (W (Proc.devRef .tc main_v28)) := by
  unfold segC0
  after_reads_simp
  try rfl

theorem read_rSmall : after segC0 W ((Proc.devRef .tc main_v38) : DevRef τ sig) = rSmall (W (Proc.devRef .tc main_v28)) := by
  unfold segC0
  after_reads_simp
  try rfl

theorem read_rAng : after segC0 W ((Proc.devRef .tc main_v39) : DevRef τ sig) = rAng (W (Proc.devRef .tc main_v28)) := by
  unfold segC0
  after_reads_simp
  try rfl

theorem read_rSin : after segC0 W ((Proc.devRef .tc main_v46) : DevRef τ sig) = rSin (W (Proc.devRef .tc main_v28)) := by
  unfold segC0
  after_reads_simp
  try rfl

theorem read_r24 : after segC0 W ((Proc.devRef .tc main_cst_11) : DevRef τ sig) = r24  := by
  unfold segC0
  after_reads_simp
  try rfl

theorem read_rCos : after segC1 W ((Proc.devRef .tc main_v56) : DevRef τ sig) = rCos (W (Proc.devRef .tc main_v33)) (W (Proc.devRef .tc main_v38)) (W (Proc.devRef .tc main_v39)) (W (Proc.devRef .tc main_cst_11)) := by
  unfold segC1
  after_reads_simp
  try rfl

theorem read_rX : after segD1 W ((Proc.devRef .tc main_v58) : DevRef τ sig) = rX (W (Proc.devRef .tc main_v31)) := by
  unfold segD1
  after_reads_simp
  try rfl

theorem read_rY : after segD1 W ((Proc.devRef .tc main_v60) : DevRef τ sig) = rY (W (Proc.devRef .tc main_v31)) := by
  unfold segD1
  after_reads_simp
  try rfl

theorem read_rZ : after segD1 W ((Proc.devRef .tc main_v62) : DevRef τ sig) = rZ (W (Proc.devRef .tc main_v31)) := by
  unfold segD1
  after_reads_simp
  try rfl

theorem read_rO : after segD1 W ((Proc.devRef .tc main_v63) : DevRef τ sig) = rO  := by
  unfold segD1
  after_reads_simp
  try rfl

theorem read_rRow0a : after segD1 W ((Proc.devRef .tc main_v65) : DevRef τ sig) = rRow0a  := by
  unfold segD1
  after_reads_simp
  try rfl

theorem read_rRow0b : after segD1 W ((Proc.devRef .tc main_v66) : DevRef τ sig) = rRow0b (W (Proc.devRef .tc main_v31)) := by
  unfold segD1
  after_reads_simp
  try rfl

theorem read_rRow0c : after segD1 W ((Proc.devRef .tc main_v67) : DevRef τ sig) = rRow0c (W (Proc.devRef .tc main_v31)) := by
  unfold segD1
  after_reads_simp
  try rfl

theorem read_rRow0 : after segN1 W ((Proc.devRef .tc main_v68) : DevRef τ sig) = rRow0 (W (Proc.devRef .tc main_v65)) (W (Proc.devRef .tc main_v66)) (W (Proc.devRef .tc main_v67)) := by
  unfold segN1
  after_results
  rfl

theorem read_rRow1a : after segD2 W ((Proc.devRef .tc main_v70) : DevRef τ sig) = rRow1a (W (Proc.devRef .tc main_v62)) := by
  unfold segD2
  after_reads_simp
  try rfl

theorem read_rRow1b : after segD2 W ((Proc.devRef .tc main_v71) : DevRef τ sig) = rRow1b (W (Proc.devRef .tc main_v63)) := by
  unfold segD2
  after_reads_simp
  try rfl

theorem read_rRow1c : after segD2 W ((Proc.devRef .tc main_v72) : DevRef τ sig) = rRow1c (W (Proc.devRef .tc main_v58)) := by
  unfold segD2
  after_reads_simp
  try rfl

theorem read_rRow1 : after segN2 W ((Proc.devRef .tc main_v73) : DevRef τ sig) = rRow1 (W (Proc.devRef .tc main_v70)) (W (Proc.devRef .tc main_v71)) (W (Proc.devRef .tc main_v72)) := by
  unfold segN2
  after_results
  rfl

theorem read_rRow2a : after segD3 W ((Proc.devRef .tc main_v75) : DevRef τ sig) = rRow2a (W (Proc.devRef .tc main_v60)) := by
  unfold segD3
  after_reads_simp
  try rfl

theorem read_rRow2b : after segD3 W ((Proc.devRef .tc main_v76) : DevRef τ sig) = rRow2b (W (Proc.devRef .tc main_v58)) := by
  unfold segD3
  after_reads_simp
  try rfl

theorem read_rRow2c : after segD3 W ((Proc.devRef .tc main_v77) : DevRef τ sig) = rRow2c (W (Proc.devRef .tc main_v63)) := by
  unfold segD3
  after_reads_simp
  try rfl

theorem read_rRow2 : after segN3 W ((Proc.devRef .tc main_v78) : DevRef τ sig) = rRow2 (W (Proc.devRef .tc main_v75)) (W (Proc.devRef .tc main_v76)) (W (Proc.devRef .tc main_v77)) := by
  unfold segN3
  after_results
  rfl

theorem read_rSlab0 : after segD4 W ((Proc.devRef .tc main_v79) : DevRef τ sig) = rSlab0 (W (Proc.devRef .tc main_v68)) := by
  unfold segD4
  after_reads_simp
  try rfl

theorem read_rSlab1 : after segD4 W ((Proc.devRef .tc main_v80) : DevRef τ sig) = rSlab1 (W (Proc.devRef .tc main_v73)) := by
  unfold segD4
  after_reads_simp
  try rfl

theorem read_rSlab2 : after segD4 W ((Proc.devRef .tc main_v81) : DevRef τ sig) = rSlab2 (W (Proc.devRef .tc main_v78)) := by
  unfold segD4
  after_reads_simp
  try rfl

theorem read_rSkew : after segN4 W ((Proc.devRef .tc main_v82) : DevRef τ sig) = rSkew (W (Proc.devRef .tc main_v79)) (W (Proc.devRef .tc main_v80)) (W (Proc.devRef .tc main_v81)) := by
  unfold segN4
  after_results
  rfl

theorem read_rRot : after segD5 W ((Proc.devRef .tc main_v99) : DevRef τ sig) = rRot (W (Proc.devRef .tc main_v82)) (W (Proc.devRef .tc main_v46)) (W (Proc.devRef .tc main_v56)) := by
  unfold segD5
  after_reads_simp
  try rfl

theorem read_rLab : after segE W ((Proc.devRef .tc main_v101) : DevRef τ sig) = rLab (W (Proc.devRef .tc main_v26)) := by
  unfold segE
  after_reads_simp
  try rfl

theorem read_rPts : after segE W ((Proc.devRef .tc main_v102) : DevRef τ sig) = rPts (W (Proc.devRef .tc main_arg0)) := by
  unfold segE
  after_reads_simp
  try rfl

theorem read_rMax : after segF1 W ((Proc.devRef .tc main_v112) : DevRef τ sig) = rMax (W (Proc.devRef .tc main_v101)) (W (Proc.devRef .tc main_v102)) := by
  unfold segF1
  after_reads_simp
  try rfl

theorem read_rMin : after segF2 W ((Proc.devRef .tc main_v123) : DevRef τ sig) = rMin (W (Proc.devRef .tc main_arg0)) (W (Proc.devRef .tc main_v101)) := by
  unfold segF2
  after_reads_simp
  try rfl

theorem read_rMid : after segF3 W ((Proc.devRef .tc main_v126) : DevRef τ sig) = rMid (W (Proc.devRef .tc main_v112)) (W (Proc.devRef .tc main_v123)) := by
  unfold segF3
  after_reads_simp
  try rfl

theorem read_rCen : after segF4 W ((Proc.devRef .tc main_v133) : DevRef τ sig) = rCen (W (Proc.devRef .tc main_v126)) (W (Proc.devRef .tc main_v101)) := by
  unfold segF4
  after_reads_simp
  try rfl

theorem read_rFlow : after segG W ((Proc.devRef .tc main_v142) : DevRef τ sig) = rFlow (W (Proc.devRef .tc main_arg0)) (W (Proc.devRef .tc main_v99)) (W (Proc.devRef .tc main_v133)) (W (Proc.devRef .tc main_v27)) := by
  unfold segG
  after_reads_simp
  try rfl

end Cert.ReferenceIdeal.Prf

end
-- ==== Proof.RefAt.lean ====
/-
  The reference's arrays at the end of its run, as functions of its arguments.
-/
module

public import proofs.«01_k».proof.Defs
public import proofs.«01_k».proof.Proof.Gen.ReferenceIdeal
public import proofs.«01_k».proof.Proof.RefVals
public import Idealize.ShloMosaic.Lib.Quiescent
public import Idealize.ShloMosaic.Lib.StableHlo.RunRead

@[expose] public section

set_option maxRecDepth 16384

noncomputable section

namespace Cert.ReferenceIdeal.Prf

open Cert.ReferenceIdeal Cert.ReferenceIdeal.Gen
open Idealize.ShloMosaic Idealize.ShloMosaic.TcCoe
open Idealize.SL.Sem
open Idealize.ShloMosaic.StableHlo (after seq)

variable {F : FTy → Type} [FloatOps F]

variable (W : Valuation τ sig (Elt F))

/-- What stretch 1 writes. -/
def wroteA : List (Ref sig .tc) := [main_v0, main_v1, main_v2, main_v3, main_cst, main_v4, main_v5, main_v6, main_v7, main_v8, main_v9, main_cst_0, main_v10, main_v11, main_v12, main_v13, main_v14, main_v15]
/-- The arrays after stretch 1. -/
def valA : Valuation τ sig (Elt F) := after segA W
theorem valA_kept {r : Ref sig .tc} (h : r ∉ wroteA) : valA W (Proc.devRef .tc r) = W (Proc.devRef .tc r) :=
  StableHlo.after_unwritten wroteA rfl h _

/-- What stretch 2 writes. -/
def wroteB : List (Ref sig .tc) := [main_cst_1, main_v16, main_cst_2, main_v17, main_v18, main_v19, main_v20, main_v21, main_v22, main_cst_3, main_v23, main_v24, main_v25, main_v26]
/-- The arrays after stretch 2. -/
def valB : Valuation τ sig (Elt F) := after segB (valA W)
theorem valB_kept {r : Ref sig .tc} (h : r ∉ wroteB) : valB W (Proc.devRef .tc r) = valA W (Proc.devRef .tc r) :=
  StableHlo.after_unwritten wroteB rfl h _

/-- What stretch 3 writes. -/
def wroteB2 : List (Ref sig .tc) := [main_v27, main_v28]
/-- The arrays after stretch 3. -/
def valB2 : Valuation τ sig (Elt F) := after segB2 (valB W)
theorem valB2_kept {r : Ref sig .tc} (h : r ∉ wroteB2) : valB2 W (Proc.devRef .tc r) = valB W (Proc.devRef .tc r) :=
  StableHlo.after_unwritten wroteB2 rfl h _

/-- What stretch 4 writes. -/
def wroteC0 : List (Ref sig .tc) := [main_cst_4, main_v29, main_v30, main_v31, main_v32, main_cst_5, main_v33, main_cst_6, main_v34, main_v35, main_v36, main_cst_7, main_v37, main_v38, main_cst_8, main_call0_v0, main_call0_v1, main_v39, main_cst_9, main_v40, main_v41, main_cst_10, main_v42, main_v43, main_v44, main_v45, main_v46, main_cst_11]
/-- The arrays after stretch 4. -/
def valC0 : Valuation τ sig (Elt F) := after segC0 (valB2 W)
theorem valC0_kept {r : Ref sig .tc} (h : r ∉ wroteC0) : valC0 W (Proc.devRef .tc r) = valB2 W (Proc.devRef .tc r) :=
  StableHlo.after_unwritten wroteC0 rfl h _

/-- What stretch 5 writes. -/
def wroteC1 : List (Ref sig .tc) := [main_v47, main_v48, main_cst_12, main_v49, main_v50, main_v51, main_cst_13, main_v52, main_v53, main_v54, main_v55, main_v56]
/-- The arrays after stretch 5. -/
def valC1 : Valuation τ sig (Elt F) := after segC1 (valC0 W)
theorem valC1_kept {r : Ref sig .tc} (h : r ∉ wroteC1) : valC1 W (Proc.devRef .tc r) = valC0 W (Proc.devRef .tc r) :=
  StableHlo.after_unwritten wroteC1 rfl h _

/-- What stretch 6 writes. -/
def wroteD1 : List (Ref sig .tc) := [main_v57, main_v58, main_v59, main_v60, main_v61, main_v62, main_cst_14, main_v63, main_v64, main_v65, main_v66, main_v67]
/-- The arrays after stretch 6. -/
def valD1 : Valuation τ sig (Elt F) := after segD1 (valC1 W)
theorem valD1_kept {r : Ref sig .tc} (h : r ∉ wroteD1) : valD1 W (Proc.devRef .tc r) = valC1 W (Proc.devRef .tc r) :=
  StableHlo.after_unwritten wroteD1 rfl h _

/-- What stretch 7 writes. -/
def wroteN1 : List (Ref sig .tc) := [main_v68]
/-- The arrays after stretch 7. -/
def valN1 : Valuation τ sig (Elt F) := after segN1 (valD1 W)
theorem valN1_kept {r : Ref sig .tc} (h : r ∉ wroteN1) : valN1 W (Proc.devRef .tc r) = valD1 W (Proc.devRef .tc r) :=
  StableHlo.after_unwritten wroteN1 rfl h _

/-- What stretch 8 writes. -/
def wroteD2 : List (Ref sig .tc) := [main_v69, main_v70, main_v71, main_v72]
/-- The arrays after stretch 8. -/
def valD2 : Valuation τ sig (Elt F) := after segD2 (valN1 W)
theorem valD2_kept {r : Ref sig .tc} (h : r ∉ wroteD2) : valD2 W (Proc.devRef .tc r) = valN1 W (Proc.devRef .tc r) :=
  StableHlo.after_unwritten wroteD2 rfl h _

/-- What stretch 9 writes. -/
def wroteN2 : List (Ref sig .tc) := [main_v73]
/-- The arrays after stretch 9. -/
def valN2 : Valuation τ sig (Elt F) := after segN2 (valD2 W)
theorem valN2_kept {r : Ref sig .tc} (h : r ∉ wroteN2) : valN2 W (Proc.devRef .tc r) = valD2 W (Proc.devRef .tc r) :=
  StableHlo.after_unwritten wroteN2 rfl h _

/-- What stretch 10 writes. -/
def wroteD3 : List (Ref sig .tc) := [main_v74, main_v75, main_v76, main_v77]
/-- The arrays after stretch 10. -/
def valD3 : Valuation τ sig (Elt F) := after segD3 (valN2 W)
theorem valD3_kept {r : Ref sig .tc} (h : r ∉ wroteD3) : valD3 W (Proc.devRef .tc r) = valN2 W (Proc.devRef .tc r) :=
  StableHlo.after_unwritten wroteD3 rfl h _

/-- What stretch 11 writes. -/
def wroteN3 : List (Ref sig .tc) := [main_v78]
/-- The arrays after stretch 11. -/
def valN3 : Valuation τ sig (Elt F) := after segN3 (valD3 W)
theorem valN3_kept {r : Ref sig .tc} (h : r ∉ wroteN3) : valN3 W (Proc.devRef .tc r) = valD3 W (Proc.devRef .tc r) :=
  StableHlo.after_unwritten wroteN3 rfl h _

/-- What stretch 12 writes. -/
def wroteD4 : List (Ref sig .tc) := [main_v79, main_v80, main_v81]
/-- The arrays after stretch 12. -/
def valD4 : Valuation τ sig (Elt F) := after segD4 (valN3 W)
theorem valD4_kept {r : Ref sig .tc} (h : r ∉ wroteD4) : valD4 W (Proc.devRef .tc r) = valN3 W (Proc.devRef .tc r) :=
  StableHlo.after_unwritten wroteD4 rfl h _

/-- What stretch 13 writes. -/
def wroteN4 : List (Ref sig .tc) := [main_v82]
/-- The arrays after stretch 13. -/
def valN4 : Valuation τ sig (Elt F) := after segN4 (valD4 W)
theorem valN4_kept {r : Ref sig .tc} (h : r ∉ wroteN4) : valN4 W (Proc.devRef .tc r) = valD4 W (Proc.devRef .tc r) :=
  StableHlo.after_unwritten wroteN4 rfl h _

/-- What stretch 14 writes. -/
def wroteD5 : List (Ref sig .tc) := [main_v83, main_v84, main_c, main_v85, main_v86, main_v87, main_v88, main_v89, main_v90, main_v91, main_v92, main_v93, main_v94, main_v95, main_v96, main_v97, main_v98, main_v99]
/-- The arrays after stretch 14. -/
def valD5 : Valuation τ sig (Elt F) := after segD5 (valN4 W)
theorem valD5_kept {r : Ref sig .tc} (h : r ∉ wroteD5) : valD5 W (Proc.devRef .tc r) = valN4 W (Proc.devRef .tc r) :=
  StableHlo.after_unwritten wroteD5 rfl h _

/-- What stretch 15 writes. -/
def wroteE : List (Ref sig .tc) := [main_call3_v0, main_call3_cst, main_call3_c, main_call3_v1_0, main_v100, main_v101, main_v102]
/-- The arrays after stretch 15. -/
def valE : Valuation τ sig (Elt F) := after segE (valD5 W)
theorem valE_kept {r : Ref sig .tc} (h : r ∉ wroteE) : valE W (Proc.devRef .tc r) = valD5 W (Proc.devRef .tc r) :=
  StableHlo.after_unwritten wroteE rfl h _

/-- What stretch 16 writes. -/
def wroteF1 : List (Ref sig .tc) := [main_v103, main_v104, main_v105, main_v106, main_v107, main_v108, main_v109, main_v110, main_cst_15, main_call4_v0, main_call4_v1, main_call4_v2, main_call4_v3, main_v111, main_cst_16, main_v112]
/-- The arrays after stretch 16. -/
def valF1 : Valuation τ sig (Elt F) := after segF1 (valE W)
theorem valF1_kept {r : Ref sig .tc} (h : r ∉ wroteF1) : valF1 W (Proc.devRef .tc r) = valE W (Proc.devRef .tc r) :=
  StableHlo.after_unwritten wroteF1 rfl h _

/-- What stretch 17 writes. -/
def wroteF2 : List (Ref sig .tc) := [main_v113, main_v114, main_v115, main_v116, main_v117, main_v118, main_v119, main_v120, main_v121, main_cst_17, main_call5_v0, main_call5_v1, main_call5_v2, main_call5_v3, main_v122, main_cst_18, main_v123]
/-- The arrays after stretch 17. -/
def valF2 : Valuation τ sig (Elt F) := after segF2 (valF1 W)
theorem valF2_kept {r : Ref sig .tc} (h : r ∉ wroteF2) : valF2 W (Proc.devRef .tc r) = valF1 W (Proc.devRef .tc r) :=
  StableHlo.after_unwritten wroteF2 rfl h _

/-- What stretch 18 writes. -/
def wroteF3 : List (Ref sig .tc) := [main_v124, main_cst_19, main_v125, main_v126]
/-- The arrays after stretch 18. -/
def valF3 : Valuation τ sig (Elt F) := after segF3 (valF2 W)
theorem valF3_kept {r : Ref sig .tc} (h : r ∉ wroteF3) : valF3 W (Proc.devRef .tc r) = valF2 W (Proc.devRef .tc r) :=
  StableHlo.after_unwritten wroteF3 rfl h _

/-- What stretch 19 writes. -/
def wroteF4 : List (Ref sig .tc) := [main_c_20, main_v127, main_v128, main_c_21, main_v129, main_v130, main_v131, main_v132, main_v133]
/-- The arrays after stretch 19. -/
def valF4 : Valuation τ sig (Elt F) := after segF4 (valF3 W)
theorem valF4_kept {r : Ref sig .tc} (h : r ∉ wroteF4) : valF4 W (Proc.devRef .tc r) = valF3 W (Proc.devRef .tc r) :=
  StableHlo.after_unwritten wroteF4 rfl h _

/-- What stretch 20 writes. -/
def wroteG : List (Ref sig .tc) := [main_v134, main_v135, main_v136, main_v137, main_v138, main_v139, main_v140, main_v141, main_v142]
/-- The arrays after stretch 20. -/
def valG : Valuation τ sig (Elt F) := after segG (valF4 W)
theorem valG_kept {r : Ref sig .tc} (h : r ∉ wroteG) : valG W (Proc.devRef .tc r) = valF4 W (Proc.devRef .tc r) :=
  StableHlo.after_unwritten wroteG rfl h _

theorem after_ops : after (ops (F := F)) W = valG W := by
  unfold ops
  simp only [StableHlo.after_append]
  rfl

/-- The four features of each point, before any use. -/
def at_v15 : FVec F S1x100000x4 .f32 := rMlp (W (Proc.devRef .tc main_arg0)) (W (Proc.devRef .tc main_arg2)) (W (Proc.devRef .tc main_arg3)) (W (Proc.devRef .tc main_arg4)) (W (Proc.devRef .tc main_arg5)) (W (Proc.devRef .tc main_arg6)) (W (Proc.devRef .tc main_arg7))
theorem val_v15 : valA W (Proc.devRef .tc main_v15) = (at_v15 W) := by
  refine (read_rMlp W).trans ?_
  unfold at_v15
  rfl

/-- The class weights of each point. -/
def at_v26 : FVec F S1x100000x10 .f32 := rMask (W (Proc.devRef .tc main_arg1))
theorem val_v26 : valB W (Proc.devRef .tc main_v26) = (at_v26 W) := by
  refine (read_rMask (valA W)).trans ?_
  unfold at_v26
  rw [valA_kept W (by decide)]

/-- Each point's translation. -/
def at_v27 : FVec F S1x100000x3 .f32 := rT (at_v15 W)
theorem val_v27 : valB2 W (Proc.devRef .tc main_v27) = (at_v27 W) := by
  refine (read_rT (valB W)).trans ?_
  unfold at_v27
  rw [valB_kept W (by decide), val_v15 W]

/-- Each point's yaw. -/
def at_v28 : FVec F S1x100000x1 .f32 := rYaw (at_v15 W)
theorem val_v28 : valB2 W (Proc.devRef .tc main_v28) = (at_v28 W) := by
  refine (read_rYaw (valB W)).trans ?_
  unfold at_v28
  rw [valB_kept W (by decide), val_v15 W]

/-- Each point's rotation vector. -/
def at_v31 : FVec F S100000x3 .f32 := rVec (at_v28 W)
theorem val_v31 : valC0 W (Proc.devRef .tc main_v31) = (at_v31 W) := by
  refine (read_rVec (valB2 W)).trans ?_
  unfold at_v31
  rw [val_v28 W]

/-- The rotation vector's squared length. -/
def at_v33 : FVec F S100000 .f32 := rSq (at_v28 W)
theorem val_v33 : valC0 W (Proc.devRef .tc main_v33) = (at_v33 W) := by
  refine (read_rSq (valB2 W)).trans ?_
  unfold at_v33
  rw [val_v28 W]

/-- Where the angle is small. -/
def at_v38 : IVec S100000 1 := rSmall (at_v28 W)
theorem val_v38 : valC0 W (Proc.devRef .tc main_v38) = (at_v38 W) := by
  refine (read_rSmall (valB2 W)).trans ?_
  unfold at_v38
  rw [val_v28 W]

/-- The angle, one where it is small. -/
def at_v39 : FVec F S100000 .f32 := rAng (at_v28 W)
theorem val_v39 : valC0 W (Proc.devRef .tc main_v39) = (at_v39 W) := by
  refine (read_rAng (valB2 W)).trans ?_
  unfold at_v39
  rw [val_v28 W]

/-- The factor of the skew matrix. -/
def at_v46 : FVec F S100000 .f32 := rSin (at_v28 W)
theorem val_v46 : valC0 W (Proc.devRef .tc main_v46) = (at_v46 W) := by
  refine (read_rSin (valB2 W)).trans ?_
  unfold at_v46
  rw [val_v28 W]

/-- The constant twenty-four. -/
def at_cst_11 : FVec F S_ .f32 := r24
theorem val_cst_11 : valC0 W (Proc.devRef .tc main_cst_11) = at_cst_11 := by
  refine (read_r24 (valB2 W)).trans ?_
  unfold at_cst_11
  rfl

/-- The factor of the skew matrix squared. -/
def at_v56 : FVec F S100000 .f32 := rCos (at_v33 W) (at_v38 W) (at_v39 W) at_cst_11
theorem val_v56 : valC1 W (Proc.devRef .tc main_v56) = (at_v56 W) := by
  refine (read_rCos (valC0 W)).trans ?_
  unfold at_v56
  rw [val_v33 W]
  rw [val_v38 W]
  rw [val_v39 W]
  rw [val_cst_11 W]

/-- The rotation vector's first coordinate. -/
def at_v58 : FVec F S100000 .f32 := rX (at_v31 W)
theorem val_v58 : valD1 W (Proc.devRef .tc main_v58) = (at_v58 W) := by
  refine (read_rX (valC1 W)).trans ?_
  unfold at_v58
  rw [valC1_kept W (by decide), val_v31 W]

/-- Its second. -/
def at_v60 : FVec F S100000 .f32 := rY (at_v31 W)
theorem val_v60 : valD1 W (Proc.devRef .tc main_v60) = (at_v60 W) := by
  refine (read_rY (valC1 W)).trans ?_
  unfold at_v60
  rw [valC1_kept W (by decide), val_v31 W]

/-- Its third. -/
def at_v62 : FVec F S100000 .f32 := rZ (at_v31 W)
theorem val_v62 : valD1 W (Proc.devRef .tc main_v62) = (at_v62 W) := by
  refine (read_rZ (valC1 W)).trans ?_
  unfold at_v62
  rw [valC1_kept W (by decide), val_v31 W]

/-- Zeros. -/
def at_v63 : FVec F S100000 .f32 := rO
theorem val_v63 : valD1 W (Proc.devRef .tc main_v63) = at_v63 := by
  refine (read_rO (valC1 W)).trans ?_
  unfold at_v63
  rfl

/-- The skew matrix's first row, first entry. -/
def at_v65 : FVec F S100000x1 .f32 := rRow0a
theorem val_v65 : valD1 W (Proc.devRef .tc main_v65) = at_v65 := by
  refine (read_rRow0a (valC1 W)).trans ?_
  unfold at_v65
  rfl

/-- Second entry. -/
def at_v66 : FVec F S100000x1 .f32 := rRow0b (at_v31 W)
theorem val_v66 : valD1 W (Proc.devRef .tc main_v66) = (at_v66 W) := by
  refine (read_rRow0b (valC1 W)).trans ?_
  unfold at_v66
  rw [valC1_kept W (by decide), val_v31 W]

/-- Third entry. -/
def at_v67 : FVec F S100000x1 .f32 := rRow0c (at_v31 W)
theorem val_v67 : valD1 W (Proc.devRef .tc main_v67) = (at_v67 W) := by
  refine (read_rRow0c (valC1 W)).trans ?_
  unfold at_v67
  rw [valC1_kept W (by decide), val_v31 W]

/-- The first row. -/
def at_v68 : FVec F S100000x3 .f32 := rRow0 at_v65 (at_v66 W) (at_v67 W)
theorem val_v68 : valN1 W (Proc.devRef .tc main_v68) = (at_v68 W) := by
  refine (read_rRow0 (valD1 W)).trans ?_
  unfold at_v68
  rw [val_v65 W]
  rw [val_v66 W]
  rw [val_v67 W]

/-- The second row, first entry. -/
def at_v70 : FVec F S100000x1 .f32 := rRow1a (at_v62 W)
theorem val_v70 : valD2 W (Proc.devRef .tc main_v70) = (at_v70 W) := by
  refine (read_rRow1a (valN1 W)).trans ?_
  unfold at_v70
  rw [valN1_kept W (by decide), val_v62 W]

/-- Second entry. -/
def at_v71 : FVec F S100000x1 .f32 := rRow1b at_v63
theorem val_v71 : valD2 W (Proc.devRef .tc main_v71) = at_v71 := by
  refine (read_rRow1b (valN1 W)).trans ?_
  unfold at_v71
  rw [valN1_kept W (by decide), val_v63 W]

/-- Third entry. -/
def at_v72 : FVec F S100000x1 .f32 := rRow1c (at_v58 W)
theorem val_v72 : valD2 W (Proc.devRef .tc main_v72) = (at_v72 W) := by
  refine (read_rRow1c (valN1 W)).trans ?_
  unfold at_v72
  rw [valN1_kept W (by decide), val_v58 W]

/-- The second row. -/
def at_v73 : FVec F S100000x3 .f32 := rRow1 (at_v70 W) at_v71 (at_v72 W)
theorem val_v73 : valN2 W (Proc.devRef .tc main_v73) = (at_v73 W) := by
  refine (read_rRow1 (valD2 W)).trans ?_
  unfold at_v73
  rw [val_v70 W]
  rw [val_v71 W]
  rw [val_v72 W]

/-- The third row, first entry. -/
def at_v75 : FVec F S100000x1 .f32 := rRow2a (at_v60 W)
theorem val_v75 : valD3 W (Proc.devRef .tc main_v75) = (at_v75 W) := by
  refine (read_rRow2a (valN2 W)).trans ?_
  unfold at_v75
  rw [valN2_kept W (by decide), valD2_kept W (by decide), valN1_kept W (by decide), val_v60 W]

/-- Second entry. -/
def at_v76 : FVec F S100000x1 .f32 := rRow2b (at_v58 W)
theorem val_v76 : valD3 W (Proc.devRef .tc main_v76) = (at_v76 W) := by
  refine (read_rRow2b (valN2 W)).trans ?_
  unfold at_v76
  rw [valN2_kept W (by decide), valD2_kept W (by decide), valN1_kept W (by decide), val_v58 W]

/-- Third entry. -/
def at_v77 : FVec F S100000x1 .f32 := rRow2c at_v63
theorem val_v77 : valD3 W (Proc.devRef .tc main_v77) = at_v77 := by
  refine (read_rRow2c (valN2 W)).trans ?_
  unfold at_v77
  rw [valN2_kept W (by decide), valD2_kept W (by decide), valN1_kept W (by decide), val_v63 W]

/-- The third row. -/
def at_v78 : FVec F S100000x3 .f32 := rRow2 (at_v75 W) (at_v76 W) at_v77
theorem val_v78 : valN3 W (Proc.devRef .tc main_v78) = (at_v78 W) := by
  refine (read_rRow2 (valD3 W)).trans ?_
  unfold at_v78
  rw [val_v75 W]
  rw [val_v76 W]
  rw [val_v77 W]

/-- The first row, as a slab. -/
def at_v79 : FVec F S100000x1x3 .f32 := rSlab0 (at_v68 W)
theorem val_v79 : valD4 W (Proc.devRef .tc main_v79) = (at_v79 W) := by
  refine (read_rSlab0 (valN3 W)).trans ?_
  unfold at_v79
  rw [valN3_kept W (by decide), valD3_kept W (by decide), valN2_kept W (by decide), valD2_kept W (by decide), val_v68 W]

/-- The second row. -/
def at_v80 : FVec F S100000x1x3 .f32 := rSlab1 (at_v73 W)
theorem val_v80 : valD4 W (Proc.devRef .tc main_v80) = (at_v80 W) := by
  refine (read_rSlab1 (valN3 W)).trans ?_
  unfold at_v80
  rw [valN3_kept W (by decide), valD3_kept W (by decide), val_v73 W]

/-- The third row. -/
def at_v81 : FVec F S100000x1x3 .f32 := rSlab2 (at_v78 W)
theorem val_v81 : valD4 W (Proc.devRef .tc main_v81) = (at_v81 W) := by
  refine (read_rSlab2 (valN3 W)).trans ?_
  unfold at_v81
  rw [val_v78 W]

/-- The skew matrix. -/
def at_v82 : FVec F S100000x3x3 .f32 := rSkew (at_v79 W) (at_v80 W) (at_v81 W)
theorem val_v82 : valN4 W (Proc.devRef .tc main_v82) = (at_v82 W) := by
  refine (read_rSkew (valD4 W)).trans ?_
  unfold at_v82
  rw [val_v79 W]
  rw [val_v80 W]
  rw [val_v81 W]

/-- Each point's rotation matrix. -/
def at_v99 : FVec F S100000x3x3 .f32 := rRot (at_v82 W) (at_v46 W) (at_v56 W)
theorem val_v99 : valD5 W (Proc.devRef .tc main_v99) = (at_v99 W) := by
  refine (read_rRot (valN4 W)).trans ?_
  unfold at_v99
  rw [val_v82 W]
  rw [valN4_kept W (by decide), valD4_kept W (by decide), valN3_kept W (by decide), valD3_kept W (by decide), valN2_kept W (by decide), valD2_kept W (by decide), valN1_kept W (by decide), valD1_kept W (by decide), valC1_kept W (by decide), val_v46 W]
  rw [valN4_kept W (by decide), valD4_kept W (by decide), valN3_kept W (by decide), valD3_kept W (by decide), valN2_kept W (by decide), valD2_kept W (by decide), valN1_kept W (by decide), valD1_kept W (by decide), val_v56 W]

/-- Each point's class. -/
def at_v101 : IVec S100000 32 := rLab (at_v26 W)
theorem val_v101 : valE W (Proc.devRef .tc main_v101) = (at_v101 W) := by
  refine (read_rLab (valD5 W)).trans ?_
  unfold at_v101
  rw [valD5_kept W (by decide), valN4_kept W (by decide), valD4_kept W (by decide), valN3_kept W (by decide), valD3_kept W (by decide), valN2_kept W (by decide), valD2_kept W (by decide), valN1_kept W (by decide), valD1_kept W (by decide), valC1_kept W (by decide), valC0_kept W (by decide), valB2_kept W (by decide), val_v26 W]

/-- The points as a matrix. -/
def at_v102 : FVec F S100000x3 .f32 := rPts (W (Proc.devRef .tc main_arg0))
theorem val_v102 : valE W (Proc.devRef .tc main_v102) = (at_v102 W) := by
  refine (read_rPts (valD5 W)).trans ?_
  unfold at_v102
  rw [valD5_kept W (by decide), valN4_kept W (by decide), valD4_kept W (by decide), valN3_kept W (by decide), valD3_kept W (by decide), valN2_kept W (by decide), valD2_kept W (by decide), valN1_kept W (by decide), valD1_kept W (by decide), valC1_kept W (by decide), valC0_kept W (by decide), valB2_kept W (by decide), valB_kept W (by decide), valA_kept W (by decide)]

/-- Each class's greatest coordinates. -/
def at_v112 : FVec F S10x3 .f32 := rMax (at_v101 W) (at_v102 W)
theorem val_v112 : valF1 W (Proc.devRef .tc main_v112) = (at_v112 W) := by
  refine (read_rMax (valE W)).trans ?_
  unfold at_v112
  rw [val_v101 W]
  rw [val_v102 W]

/-- Each class's least coordinates. -/
def at_v123 : FVec F S10x3 .f32 := rMin (W (Proc.devRef .tc main_arg0)) (at_v101 W)
theorem val_v123 : valF2 W (Proc.devRef .tc main_v123) = (at_v123 W) := by
  refine (read_rMin (valF1 W)).trans ?_
  unfold at_v123
  rw [valF1_kept W (by decide), valE_kept W (by decide), valD5_kept W (by decide), valN4_kept W (by decide), valD4_kept W (by decide), valN3_kept W (by decide), valD3_kept W (by decide), valN2_kept W (by decide), valD2_kept W (by decide), valN1_kept W (by decide), valD1_kept W (by decide), valC1_kept W (by decide), valC0_kept W (by decide), valB2_kept W (by decide), valB_kept W (by decide), valA_kept W (by decide)]
  rw [valF1_kept W (by decide), val_v101 W]

/-- Each class's centre. -/
def at_v126 : FVec F S10x3 .f32 := rMid (at_v112 W) (at_v123 W)
theorem val_v126 : valF3 W (Proc.devRef .tc main_v126) = (at_v126 W) := by
  refine (read_rMid (valF2 W)).trans ?_
  unfold at_v126
  rw [valF2_kept W (by decide), val_v112 W]
  rw [val_v123 W]

/-- Each point's class centre. -/
def at_v133 : FVec F S100000x3 .f32 := rCen (at_v126 W) (at_v101 W)
theorem val_v133 : valF4 W (Proc.devRef .tc main_v133) = (at_v133 W) := by
  refine (read_rCen (valF3 W)).trans ?_
  unfold at_v133
  rw [val_v126 W]
  rw [valF3_kept W (by decide), valF2_kept W (by decide), valF1_kept W (by decide), val_v101 W]

/-- Each point's displacement. -/
def at_v142 : FVec F S1x100000x3 .f32 := rFlow (W (Proc.devRef .tc main_arg0)) (at_v99 W) (at_v133 W) (at_v27 W)
theorem val_v142 : valG W (Proc.devRef .tc main_v142) = (at_v142 W) := by
  refine (read_rFlow (valF4 W)).trans ?_
  unfold at_v142
  rw [valF4_kept W (by decide), valF3_kept W (by decide), valF2_kept W (by decide), valF1_kept W (by decide), valE_kept W (by decide), valD5_kept W (by decide), valN4_kept W (by decide), valD4_kept W (by decide), valN3_kept W (by decide), valD3_kept W (by decide), valN2_kept W (by decide), valD2_kept W (by decide), valN1_kept W (by decide), valD1_kept W (by decide), valC1_kept W (by decide), valC0_kept W (by decide), valB2_kept W (by decide), valB_kept W (by decide), valA_kept W (by decide)]
  rw [valF4_kept W (by decide), valF3_kept W (by decide), valF2_kept W (by decide), valF1_kept W (by decide), valE_kept W (by decide), val_v99 W]
  rw [val_v133 W]
  rw [valF4_kept W (by decide), valF3_kept W (by decide), valF2_kept W (by decide), valF1_kept W (by decide), valE_kept W (by decide), valD5_kept W (by decide), valN4_kept W (by decide), valD4_kept W (by decide), valN3_kept W (by decide), valD3_kept W (by decide), valN2_kept W (by decide), valD2_kept W (by decide), valN1_kept W (by decide), valD1_kept W (by decide), valC1_kept W (by decide), valC0_kept W (by decide), val_v27 W]

theorem ops_v142 : after (ops (F := F)) W (Proc.devRef .tc main_v142) = (at_v142 W) := by
  rw [after_ops, val_v142 W]

theorem ops_v26 : after (ops (F := F)) W (Proc.devRef .tc main_v26) = (at_v26 W) := by
  rw [after_ops, valG_kept W (by decide), valF4_kept W (by decide), valF3_kept W (by decide), valF2_kept W (by decide), valF1_kept W (by decide), valE_kept W (by decide), valD5_kept W (by decide), valN4_kept W (by decide), valD4_kept W (by decide), valN3_kept W (by decide), valD3_kept W (by decide), valN2_kept W (by decide), valD2_kept W (by decide), valN1_kept W (by decide), valD1_kept W (by decide), valC1_kept W (by decide), valC0_kept W (by decide), valB2_kept W (by decide), val_v26 W]

theorem ops_v27 : after (ops (F := F)) W (Proc.devRef .tc main_v27) = (at_v27 W) := by
  rw [after_ops, valG_kept W (by decide), valF4_kept W (by decide), valF3_kept W (by decide), valF2_kept W (by decide), valF1_kept W (by decide), valE_kept W (by decide), valD5_kept W (by decide), valN4_kept W (by decide), valD4_kept W (by decide), valN3_kept W (by decide), valD3_kept W (by decide), valN2_kept W (by decide), valD2_kept W (by decide), valN1_kept W (by decide), valD1_kept W (by decide), valC1_kept W (by decide), valC0_kept W (by decide), val_v27 W]

theorem ops_v28 : after (ops (F := F)) W (Proc.devRef .tc main_v28) = (at_v28 W) := by
  rw [after_ops, valG_kept W (by decide), valF4_kept W (by decide), valF3_kept W (by decide), valF2_kept W (by decide), valF1_kept W (by decide), valE_kept W (by decide), valD5_kept W (by decide), valN4_kept W (by decide), valD4_kept W (by decide), valN3_kept W (by decide), valD3_kept W (by decide), valN2_kept W (by decide), valD2_kept W (by decide), valN1_kept W (by decide), valD1_kept W (by decide), valC1_kept W (by decide), valC0_kept W (by decide), val_v28 W]

theorem ops_arg0 : after (ops (F := F)) W (Proc.devRef .tc main_arg0) = W (Proc.devRef .tc main_arg0) := by
  rw [after_ops, valG_kept W (by decide), valF4_kept W (by decide), valF3_kept W (by decide), valF2_kept W (by decide), valF1_kept W (by decide), valE_kept W (by decide), valD5_kept W (by decide), valN4_kept W (by decide), valD4_kept W (by decide), valN3_kept W (by decide), valD3_kept W (by decide), valN2_kept W (by decide), valD2_kept W (by decide), valN1_kept W (by decide), valD1_kept W (by decide), valC1_kept W (by decide), valC0_kept W (by decide), valB2_kept W (by decide), valB_kept W (by decide), valA_kept W (by decide)]

theorem ops_arg1 : after (ops (F := F)) W (Proc.devRef .tc main_arg1) = W (Proc.devRef .tc main_arg1) := by
  rw [after_ops, valG_kept W (by decide), valF4_kept W (by decide), valF3_kept W (by decide), valF2_kept W (by decide), valF1_kept W (by decide), valE_kept W (by decide), valD5_kept W (by decide), valN4_kept W (by decide), valD4_kept W (by decide), valN3_kept W (by decide), valD3_kept W (by decide), valN2_kept W (by decide), valD2_kept W (by decide), valN1_kept W (by decide), valD1_kept W (by decide), valC1_kept W (by decide), valC0_kept W (by decide), valB2_kept W (by decide), valB_kept W (by decide), valA_kept W (by decide)]

theorem ops_arg2 : after (ops (F := F)) W (Proc.devRef .tc main_arg2) = W (Proc.devRef .tc main_arg2) := by
  rw [after_ops, valG_kept W (by decide), valF4_kept W (by decide), valF3_kept W (by decide), valF2_kept W (by decide), valF1_kept W (by decide), valE_kept W (by decide), valD5_kept W (by decide), valN4_kept W (by decide), valD4_kept W (by decide), valN3_kept W (by decide), valD3_kept W (by decide), valN2_kept W (by decide), valD2_kept W (by decide), valN1_kept W (by decide), valD1_kept W (by decide), valC1_kept W (by decide), valC0_kept W (by decide), valB2_kept W (by decide), valB_kept W (by decide), valA_kept W (by decide)]

theorem ops_arg3 : after (ops (F := F)) W (Proc.devRef .tc main_arg3) = W (Proc.devRef .tc main_arg3) := by
  rw [after_ops, valG_kept W (by decide), valF4_kept W (by decide), valF3_kept W (by decide), valF2_kept W (by decide), valF1_kept W (by decide), valE_kept W (by decide), valD5_kept W (by decide), valN4_kept W (by decide), valD4_kept W (by decide), valN3_kept W (by decide), valD3_kept W (by decide), valN2_kept W (by decide), valD2_kept W (by decide), valN1_kept W (by decide), valD1_kept W (by decide), valC1_kept W (by decide), valC0_kept W (by decide), valB2_kept W (by decide), valB_kept W (by decide), valA_kept W (by decide)]

theorem ops_arg4 : after (ops (F := F)) W (Proc.devRef .tc main_arg4) = W (Proc.devRef .tc main_arg4) := by
  rw [after_ops, valG_kept W (by decide), valF4_kept W (by decide), valF3_kept W (by decide), valF2_kept W (by decide), valF1_kept W (by decide), valE_kept W (by decide), valD5_kept W (by decide), valN4_kept W (by decide), valD4_kept W (by decide), valN3_kept W (by decide), valD3_kept W (by decide), valN2_kept W (by decide), valD2_kept W (by decide), valN1_kept W (by decide), valD1_kept W (by decide), valC1_kept W (by decide), valC0_kept W (by decide), valB2_kept W (by decide), valB_kept W (by decide), valA_kept W (by decide)]

theorem ops_arg5 : after (ops (F := F)) W (Proc.devRef .tc main_arg5) = W (Proc.devRef .tc main_arg5) := by
  rw [after_ops, valG_kept W (by decide), valF4_kept W (by decide), valF3_kept W (by decide), valF2_kept W (by decide), valF1_kept W (by decide), valE_kept W (by decide), valD5_kept W (by decide), valN4_kept W (by decide), valD4_kept W (by decide), valN3_kept W (by decide), valD3_kept W (by decide), valN2_kept W (by decide), valD2_kept W (by decide), valN1_kept W (by decide), valD1_kept W (by decide), valC1_kept W (by decide), valC0_kept W (by decide), valB2_kept W (by decide), valB_kept W (by decide), valA_kept W (by decide)]

theorem ops_arg6 : after (ops (F := F)) W (Proc.devRef .tc main_arg6) = W (Proc.devRef .tc main_arg6) := by
  rw [after_ops, valG_kept W (by decide), valF4_kept W (by decide), valF3_kept W (by decide), valF2_kept W (by decide), valF1_kept W (by decide), valE_kept W (by decide), valD5_kept W (by decide), valN4_kept W (by decide), valD4_kept W (by decide), valN3_kept W (by decide), valD3_kept W (by decide), valN2_kept W (by decide), valD2_kept W (by decide), valN1_kept W (by decide), valD1_kept W (by decide), valC1_kept W (by decide), valC0_kept W (by decide), valB2_kept W (by decide), valB_kept W (by decide), valA_kept W (by decide)]

theorem ops_arg7 : after (ops (F := F)) W (Proc.devRef .tc main_arg7) = W (Proc.devRef .tc main_arg7) := by
  rw [after_ops, valG_kept W (by decide), valF4_kept W (by decide), valF3_kept W (by decide), valF2_kept W (by decide), valF1_kept W (by decide), valE_kept W (by decide), valD5_kept W (by decide), valN4_kept W (by decide), valD4_kept W (by decide), valN3_kept W (by decide), valD3_kept W (by decide), valN2_kept W (by decide), valD2_kept W (by decide), valN1_kept W (by decide), valD1_kept W (by decide), valC1_kept W (by decide), valC0_kept W (by decide), valB2_kept W (by decide), valB_kept W (by decide), valA_kept W (by decide)]

end Cert.ReferenceIdeal.Prf

end
-- ==== Proof.RefFrame.lean ====
/- The frame of the reference: its arguments keep their contents and no semaphore is left raised. -/
module

public import proofs.«01_k».proof.Proof.RefAt

@[expose] public section

noncomputable section

namespace Cert.ReferenceIdeal.Prf

open Idealize.ShloMosaic Idealize.SL.Sem Cert.ReferenceIdeal

variable {F : FTy → Type} [FloatOps F] [Named F]

/-- Every run of the reference ends with the eight arguments as they were and every semaphore at zero. -/
theorem run_frame (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) := by
  refine θ_run_mono (run m ρ) ?_
  rintro r ⟨h, hs⟩
  refine ⟨fun c => ⟨?_, ?_, ?_, ?_, ?_, ?_, ?_, ?_⟩, hs⟩
  · exact (h c _).trans (ops_arg0 _)
  · exact (h c _).trans (ops_arg1 _)
  · exact (h c _).trans (ops_arg2 _)
  · exact (h c _).trans (ops_arg3 _)
  · exact (h c _).trans (ops_arg4 _)
  · exact (h c _).trans (ops_arg5 _)
  · exact (h c _).trans (ops_arg6 _)
  · exact (h c _).trans (ops_arg7 _)

end Cert.ReferenceIdeal.Prf

end
-- ==== Proof.Model.lean ====
/-
  The mathematics of the problem over the extended reals, one point at a time: the point network, the softmax of the mask
  logits and the class of the largest one, the box of a class, and the rigid flow; with the laws both programs are read by.
-/
module

public import Idealize.ShloMosaic.Lib.IdealHost
public import Idealize.ShloMosaic.PureOps.Ideal.Laws

@[expose] public section

noncomputable section

namespace Cert.Model

open Idealize.ShloMosaic

/-! ## Constants -/

theorem ninf : Ideal.ofBits .f32 0xFF800000#32 = ⊥ := by simp [Ideal.ofBits, Ideal.ieee]
theorem pinf : Ideal.ofBits .f32 0x7F800000#32 = ⊤ := by simp [Ideal.ofBits, Ideal.ieee]
theorem half : Ideal.ofBits .f32 0x3F000000#32 = ((1 / 2 : ℝ) : EReal) := by
  simp [Ideal.ofBits, Ideal.ieee, -EReal.coe_mul]; norm_num
theorem two : Ideal.ofBits .f32 0x40000000#32 = ((2 : ℝ) : EReal) := by
  simp [Ideal.ofBits, Ideal.ieee, -EReal.coe_mul]; norm_num

/-! ## The softmax -/

/-- The largest logit. -/
def top (M : Fin 10 → EReal) : EReal := Finset.univ.fold max ⊥ M

theorem le_top' (M : Fin 10 → EReal) (i : Fin 10) : M i ≤ top M := Finset.le_sup (f := M) (Finset.mem_univ i)

theorem exists_top (M : Fin 10 → EReal) : ∃ i, M i = top M := by
  obtain ⟨i, -, h⟩ := Finset.exists_mem_eq_sup Finset.univ Finset.univ_nonempty M
  exact ⟨i, h.symm⟩

/-- The first class whose logit is the largest. -/
def cls (M : Fin 10 → EReal) : Fin 10 := (Finset.univ.filter fun i => M i = top M).min'
  ((exists_top M).elim fun i h => ⟨i, Finset.mem_filter.mpr ⟨Finset.mem_univ i, h⟩⟩)

theorem cls_top (M : Fin 10 → EReal) : M (cls M) = top M := by
  have h : cls M ∈ Finset.univ.filter fun i => M i = top M := Finset.min'_mem _ _
  exact (Finset.mem_filter.mp h).2
theorem cls_le (M : Fin 10 → EReal) {i : Fin 10} (h : M i = top M) : cls M ≤ i :=
  Finset.min'_le _ _ (Finset.mem_filter.mpr ⟨Finset.mem_univ i, h⟩)

/-- The softmax. -/
def soft (M : Fin 10 → EReal) (i : Fin 10) : EReal := Ideal.div (Ideal.exp (M i - top M)) (∑ j, Ideal.exp (M j - top M))

/-- Every logit a real. -/
def Fin' (M : Fin 10 → EReal) : Prop := ∀ i, M i ≠ ⊥ ∧ M i ≠ ⊤

theorem Fin'.real {M : Fin 10 → EReal} (h : Fin' M) : ∃ (m : Fin 10 → ℝ) (T : ℝ), (∀ i, M i = (m i : EReal)) ∧ top M = (T : EReal) := by
  obtain ⟨k, hk⟩ := exists_top M
  exact ⟨fun i => (M i).toReal, (M k).toReal, fun i => (EReal.coe_toReal (h i).2 (h i).1).symm, hk ▸ (EReal.coe_toReal (h k).2 (h k).1).symm⟩

theorem coe_sum (f : Fin 10 → ℝ) : (∑ j, (f j : EReal)) = ((∑ j, f j : ℝ) : EReal) := by
  induction (Finset.univ : Finset (Fin 10)) using Finset.induction_on with
  | empty => simp
  | insert a s ha ih => rw [Finset.sum_insert ha, Finset.sum_insert ha, ih, EReal.coe_add]

theorem sum_pos (m : Fin 10 → ℝ) (T : ℝ) : 0 < ∑ j, Real.exp (m j - T) := Finset.sum_pos (fun _ _ => Real.exp_pos _) Finset.univ_nonempty

theorem soft_real {M : Fin 10 → EReal} {m : Fin 10 → ℝ} {T : ℝ} (hm : ∀ i, M i = (m i : EReal)) (hT : top M = (T : EReal)) (i : Fin 10) :
    soft M i = ((Real.exp (m i - T) / ∑ j, Real.exp (m j - T) : ℝ) : EReal) := by
  unfold soft
  simp only [hm, hT, ← EReal.coe_sub, Ideal.exp_coe, coe_sum]
  rw [Ideal.div_coe (sum_pos m T).ne', ← EReal.coe_mul, mul_one_div]

/-- Subtracting the logarithm of the sum before the exponential divides by the sum. -/
theorem soft_log {M : Fin 10 → EReal} (h : Fin' M) (i : Fin 10) :
    Ideal.exp (M i - top M - Ideal.log (∑ j, Ideal.exp (M j - top M))) = soft M i := by
  obtain ⟨m, T, hm, hT⟩ := h.real
  rw [soft_real hm hT]
  simp only [hm, hT, ← EReal.coe_sub, Ideal.exp_coe, coe_sum]
  rw [Ideal.log_coe, if_neg (not_le.mpr (sum_pos m T)), ← EReal.coe_sub, Ideal.exp_coe, Real.exp_sub, Real.exp_log (sum_pos m T)]

theorem soft_le {M : Fin 10 → EReal} (h : Fin' M) (i j : Fin 10) : soft M i ≤ soft M j ↔ M i ≤ M j := by
  obtain ⟨m, T, hm, hT⟩ := h.real
  rw [soft_real hm hT, soft_real hm hT, hm i, hm j, EReal.coe_le_coe_iff, EReal.coe_le_coe_iff, div_le_div_iff_of_pos_right (sum_pos m T), Real.exp_le_exp]
  constructor <;> intro h <;> linarith

theorem soft_ne_bot {M : Fin 10 → EReal} (h : Fin' M) (i : Fin 10) : ⊥ < soft M i := by
  obtain ⟨m, T, hm, hT⟩ := h.real
  rw [soft_real hm hT]; exact EReal.bot_lt_coe _

/-- The class is also the first whose softmax is the largest. -/
theorem soft_cls {M : Fin 10 → EReal} (h : Fin' M) (j : Fin 10) : soft M j < soft M (cls M) ∨ (soft M j = soft M (cls M) ∧ (j = cls M ∨ cls M < j)) := by
  have hle : soft M j ≤ soft M (cls M) := (soft_le h _ _).mpr (cls_top M ▸ le_top' M j)
  refine hle.lt_or_eq.imp_right fun e => ⟨e, ?_⟩
  have : M j = top M := le_antisymm (le_top' M j) (cls_top M ▸ (soft_le h _ _).mp e.ge)
  exact (cls_le M this).eq_or_lt.imp_left Eq.symm

/-- The smallest index that holds the largest logit, as the kernel takes it. -/
theorem first_toInt (M : Fin 10 → EReal) :
    (Finset.univ.fold IntOp.minsi 2147483647#32 fun x : Fin 10 => if M x = top M then BitVec.ofNat 32 x.val else 1073741824#32).toInt = ((cls M : ℕ) : ℤ) := by
  have hom : ∀ a b : BitVec 32, (IntOp.minsi a b).toInt = min a.toInt b.toInt := fun a b => by
    simp only [IntOp.minsi, BitVec.slt, decide_eq_true_eq]
    split_ifs with h <;> omega
  rw [← Finset.fold_hom (op' := min) hom]
  have hx : ∀ x : Fin 10, (BitVec.ofNat 32 x.val).toInt = (x.val : ℤ) := by decide
  refine le_antisymm ?_ ?_
  · refine Finset.fold_min_le _ |>.mpr (.inr ⟨cls M, Finset.mem_univ _, ?_⟩)
    rw [if_pos (cls_top M), hx]
  · refine Finset.le_fold_min _ |>.mpr ⟨?_, fun x _ => ?_⟩
    · have := (cls M).isLt
      rw [show (2147483647#32).toInt = 2147483647 by decide]; omega
    · split_ifs with h
      · rw [hx]; exact_mod_cast cls_le M h
      · have := (cls M).isLt
        rw [show (1073741824#32).toInt = 1073741824 by decide]; omega

/-- A left fold that keeps the larger value, and the smaller index of equal values, ends at the pair that precedes all others. -/
theorem foldl_first (f : EReal × BitVec 32 → EReal × BitVec 32 → EReal × BitVec 32)
    (hf : ∀ a b, f a b = if b.1 < a.1 ∨ (a.1 = b.1 ∧ a.2.toInt < b.2.toInt) then a else b)
    (t : EReal × BitVec 32) (L : List (EReal × BitVec 32)) (a : EReal × BitVec 32)
    (hL : ∀ p ∈ L, p = t ∨ (p.1 < t.1 ∨ (p.1 = t.1 ∧ t.2.toInt < p.2.toInt)))
    (ha : a = t ∨ ((a.1 < t.1 ∨ (a.1 = t.1 ∧ t.2.toInt < a.2.toInt)) ∧ t ∈ L)) : L.foldl f a = t := by
  induction L generalizing a with
  | nil => rcases ha with h | ⟨_, h⟩; · exact h
           exact absurd h List.not_mem_nil
  | cons p L ih =>
    rw [List.foldl_cons]
    refine ih _ (fun q hq => hL q (List.mem_cons_of_mem _ hq)) ?_
    rw [hf]
    have hp := hL p List.mem_cons_self
    rcases ha with rfl | ⟨ha, hm⟩
    · left
      split_ifs with h
      · rfl
      · rcases hp with hp | hp | hp
        · exact hp
        · exact absurd (.inl hp) h
        · exact absurd (.inr ⟨hp.1.symm, hp.2⟩) h
    · rcases hp with rfl | hp
      · left
        rw [if_neg]
        rintro (h | ⟨h1, h2⟩)
        · rcases ha with ha | ha
          · exact absurd (h.trans ha) (lt_irrefl _)
          · exact absurd (ha.1 ▸ h) (lt_irrefl _)
        · rcases ha with ha | ha
          · exact absurd (h1 ▸ ha) (lt_irrefl _)
          · omega
      · right
        refine ⟨?_, ?_⟩
        · split_ifs
          · exact ha
          · exact hp
        · rcases List.mem_cons.mp hm with rfl | h
          · rcases hp with hp | hp
            · exact absurd hp (lt_irrefl _)
            · exact absurd hp.2 (lt_irrefl _)
          · exact h

/-! ## The point network -/

/-- Output `o` of the point network at a point with coordinates `x`. -/
def net (x : Fin 3 → EReal) (w1 : Fin 3 → Fin 128 → EReal) (b1 : Fin 128 → EReal) (w2 : Fin 128 → Fin 128 → EReal) (b2 : Fin 128 → EReal)
    (w3 : Fin 128 → Fin 4 → EReal) (b3 : Fin 4 → EReal) (o : Fin 4) : EReal :=
  ∑ a, max (∑ b, max (∑ k, x k * w1 k b + b1 b) 0 * w2 b a + b2 a) 0 * w3 a o + b3 o

/-! ## The box of a class -/

/-- The largest and the smallest coordinate over the points of class `i`, and half their sum. -/
def segHi (cl : Fin 100000 → Fin 10) (p : Fin 100000 → EReal) (i : Fin 10) : EReal := Finset.univ.fold max ⊥ fun n => if cl n = i then p n else ⊥
def segLo (cl : Fin 100000 → Fin 10) (p : Fin 100000 → EReal) (i : Fin 10) : EReal := Finset.univ.fold min ⊤ fun n => if cl n = i then p n else ⊤
def mid (cl : Fin 100000 → Fin 10) (p : Fin 100000 → EReal) (i : Fin 10) : EReal := (segHi cl p i + segLo cl p i) * ((1 / 2 : ℝ) : EReal)

theorem segHi_le {cl : Fin 100000 → Fin 10} {p : Fin 100000 → EReal} {i : Fin 10} {B : EReal} : segHi cl p i ≤ B ↔ ∀ n, cl n = i → p n ≤ B := by
  unfold segHi
  rw [Finset.fold_max_le]
  refine ⟨fun h n e => ?_, fun h => ⟨bot_le, fun n _ => ?_⟩⟩
  · have := h.2 n (Finset.mem_univ n); rwa [if_pos e] at this
  · split_ifs with e
    · exact h n e
    · exact bot_le

theorem le_segLo {cl : Fin 100000 → Fin 10} {p : Fin 100000 → EReal} {i : Fin 10} {B : EReal} : B ≤ segLo cl p i ↔ ∀ n, cl n = i → B ≤ p n := by
  unfold segLo
  rw [Finset.le_fold_min]
  refine ⟨fun h n e => ?_, fun h => ⟨le_top, fun n _ => ?_⟩⟩
  · have := h.2 n (Finset.mem_univ n); rwa [if_pos e] at this
  · split_ifs with e
    · exact h n e
    · exact le_top

/-- A class that holds a point has a box. -/
theorem segLo_le_segHi (cl : Fin 100000 → Fin 10) (p : Fin 100000 → EReal) (n : Fin 100000) : segLo cl p (cl n) ≤ segHi cl p (cl n) :=
  (le_segLo.mp le_rfl n rfl).trans (segHi_le.mp le_rfl n rfl)

/-! ## The flow -/

def ang (z : EReal) : EReal := Ideal.sqrt (z * z + Ideal.ofBits .f32 0x2B8CBCCC#32)
def safe (z : EReal) : EReal := if ang z < Ideal.ofBits .f32 0x38D1B717#32 then 1 else ang z
/-- `sin θ / θ`, and `(1 - cos θ) / θ²`, by their series near zero. -/
def sinT (z : EReal) : EReal :=
  if ang z < Ideal.ofBits .f32 0x38D1B717#32 then 1 - Ideal.div (z * z) (Ideal.ofBits .f32 0x40C00000#32) else Ideal.div (Ideal.sin (safe z)) (safe z)
def cosT (z : EReal) : EReal :=
  if ang z < Ideal.ofBits .f32 0x38D1B717#32 then Ideal.ofBits .f32 0x3F000000#32 - Ideal.div (z * z) (Ideal.ofBits .f32 0x41C00000#32)
  else Ideal.div (1 - Ideal.cos (safe z)) (safe z * safe z)

/-- The flow of a point at `x`: rotated about the centre `c` by the angle `z` around the third axis, moved by `t`, less `x`. -/
def flow (x c t : Fin 3 → EReal) (z : EReal) : Fin 3 → EReal :=
  ![(1 - cosT z * (z * z)) * (x 0 - c 0) - sinT z * z * (x 1 - c 1) + c 0 + t 0 - x 0,
    sinT z * z * (x 0 - c 0) + (1 - cosT z * (z * z)) * (x 1 - c 1) + c 1 + t 1 - x 1,
    x 2 - c 2 + c 2 + t 2 - x 2]

/-! ## The whole problem -/

/-- The arguments: the points' coordinates and mask logits, and the network's weights and biases. -/
structure Args where
  x : Fin 100000 → Fin 3 → EReal
  l : Fin 100000 → Fin 10 → EReal
  w1 : Fin 3 → Fin 128 → EReal
  b1 : Fin 128 → EReal
  w2 : Fin 128 → Fin 128 → EReal
  b2 : Fin 128 → EReal
  w3 : Fin 128 → Fin 4 → EReal
  b3 : Fin 4 → EReal

namespace Args

variable (a : Args)

/-- A point's three translations and its yaw. -/
def feat (n : Fin 100000) : Fin 4 → EReal := net (a.x n) a.w1 a.b1 a.w2 a.b2 a.w3 a.b3
/-- A point's class. -/
def cl (n : Fin 100000) : Fin 10 := cls (a.l n)
/-- The centre of the box of a point's class. -/
def centre (n : Fin 100000) (k : Fin 3) : EReal := mid a.cl (fun j => a.x j k) (a.cl n)
/-- A point's flow. -/
def flowAt (n : Fin 100000) : Fin 3 → EReal := flow (a.x n) (a.centre n) (fun k => a.feat n k.castSucc) (a.feat n 3)

end Args

end Cert.Model

end
-- ==== Proof.KerPoint.lean ====
/-
  What the two TensorCore calls leave at a point of a block, as the mathematics of the problem at the block's arrays.
-/
module

public import proofs.«01_k».proof.Proof.Stage1
public import proofs.«01_k».proof.Proof.Stage2
public import proofs.«01_k».proof.Proof.Model
public import Idealize.ShloMosaic.Lib.Pointwise

@[expose] public section

set_option maxRecDepth 16384

noncomputable section

namespace Cert.KernelIdeal.Prf

open Cert.KernelIdeal Cert.KernelIdeal.Gen
open Idealize.ShloMosaic
open Cert

theorem lo_eq : (lo : Ideal .f32) = (⊥ : EReal) := rfl
theorem hi_eq : (hi : Ideal .f32) = (⊤ : EReal) := rfl

/-- The float words of the labels are the labels. -/
theorem labBits_eq (i : Fin 10) : Ideal.ofBits .f32 (labBits i) = (((i : ℕ) : ℝ) : EReal) := by
  fin_cases i <;> simp [labBits, Ideal.ofBits, Ideal.ieee, -EReal.coe_mul] <;> norm_num

theorem label_inj (a i : Fin 10) : ((((a : ℕ) : ℝ) : EReal) = Ideal.ofBits .f32 (labBits i)) ↔ a = i := by
  rw [labBits_eq, EReal.coe_eq_coe_iff, Nat.cast_inj, Fin.val_inj]

theorem maskOut_apply (X : S1x10x4000.Idx → Ideal .f32) (c : Fin 4000) (h : Model.Fin' fun i => X (ix3 0 i c)) (i : Fin 10) :
    maskOut X (ix3 0 i c) = Model.soft (fun i => X (ix3 0 i c)) i := by
  unfold maskOut
  pointwise [k0_pay1, k0_pay7, k0_pay8, k0_pay4, k0_pay6]
  simp only [Model.ninf]
  exact Model.soft_log h i

section
variable (X0 : S1x3x4000.Idx → Ideal .f32) (X1 : S1x10x4000.Idx → Ideal .f32) (X2 : S128x3.Idx → Ideal .f32) (X3 : S128.Idx → Ideal .f32)
    (X4 : S128x128.Idx → Ideal .f32) (X5 : S128.Idx → Ideal .f32) (X6 : S4x128.Idx → Ideal .f32) (X7 : S4.Idx → Ideal .f32) (c : Fin 4000)

/-- Rows 0 to 3 of the table are the network's outputs. -/
theorem auxOut_feat (i : Fin 8) (h : i.val < 4) :
    auxOut (F := Ideal) X0 X1 X2 X3 X4 X5 X6 X7 (ix3 0 i c) =
      Model.net (fun k => X0 (ix3 0 k c)) (fun k b => X2 (ix2 b k)) (fun b => X3 (ix1 b)) (fun b a => X4 (ix2 a b)) (fun b => X5 (ix1 b))
        (fun a o => X6 (ix2 o a)) (fun o => X7 (ix1 o)) ⟨i.val, h⟩ := by
  unfold auxOut
  pointwise [k0_pay2, k0_pay3, k0_pay4, k0_pay5, k0_pay6]
  rw [dif_pos h]
  unfold Model.net
  refine congrArg₂ (· + ·) (Finset.sum_congr rfl fun a _ => (mul_comm _ _).trans (congrArg (· * _) ?_)) rfl
  refine congrArg (max · 0) (congrArg (· + _) (Finset.sum_congr rfl fun b _ => (mul_comm _ _).trans (congrArg (· * _) ?_)))
  exact congrArg (max · 0) (congrArg (· + _) (Finset.sum_congr rfl fun k _ => mul_comm _ _))

/-- Rows 4 to 6 are the coordinates. -/
theorem auxOut_pt (k : Fin 3) :
    auxOut (F := Ideal) X0 X1 X2 X3 X4 X5 X6 X7 (ix3 0 (crow k) c) = X0 (ix3 0 k c) := by
  fin_cases k
  all_goals
    unfold auxOut
    simp only [crow]
    pointwise [k0_pay2, k0_pay3, k0_pay4, k0_pay5, k0_pay6]

/-- Row 7 is the label. -/
theorem auxOut_cls :
    auxOut (F := Ideal) X0 X1 X2 X3 X4 X5 X6 X7 (ix3 0 7 c) = (((Model.cls fun i => X1 (ix3 0 i c) : ℕ) : ℝ) : EReal) := by
  have h := Model.first_toInt fun i => X1 (ix3 0 i c)
  unfold auxOut
  pointwise [k0_pay2, k0_pay3, k0_pay4, k0_pay5, k0_pay6]
  simp only [Model.ninf]
  refine (congrArg (fun z : ℤ => (((z : ℝ)) : EReal)) h).trans ?_
  push_cast
  rfl
end

theorem centre_apply (vm vn : S10x3.Idx → Ideal .f32) (i : Fin 10) (k : Fin 3) (h : vn (ix2 i k) ≤ vm (ix2 i k)) :
    centre vm vn i k = (vm (ix2 i k) + vn (ix2 i k)) * ((1 / 2 : ℝ) : EReal) := by
  pointwise [centre]
  rw [if_pos h, Model.half]

theorem centres_apply (vm vn : S10x3.Idx → Ideal .f32) (Y : FVec Ideal S1x4000 .f32) (k : Fin 3) (c : Fin 4000) (i : Fin 10)
    (hY : Y (ix2 0 c) = (((i : ℕ) : ℝ) : EReal)) :
    centres vm vn Y k (ix2 0 c) = centre vm vn i k := by
  unfold centres
  simp only [List.foldl]
  pointwise []
  rw [hY]
  simp only [label_inj]
  fin_cases i <;> simp

theorem tOut_apply (X : S1x8x4000.Idx → Ideal .f32) (k : Fin 3) (c : Fin 4000) : tOut X (ix3 0 k c) = X (ix3 0 (k.castLE (by decide)) c) := by
  unfold tOut
  unfold_payloads
  pointwise []
  rfl
theorem yawOut_apply (X : S1x8x4000.Idx → Ideal .f32) (c : Fin 4000) : yawOut X (ix3 0 0 c) = X (ix3 0 3 c) := by
  unfold yawOut
  unfold_payloads
  pointwise []

theorem pay23_apply (X : S1x8x4000.Idx → Ideal .f32) (c : Fin 4000) : k2_pay23 X (ix2 0 c) = X (ix3 0 7 c) := by
  unfold_payloads
  pointwise []

theorem flowOut_apply (X : S1x8x4000.Idx → Ideal .f32) (vm vn : S10x3.Idx → Ideal .f32) (c : Fin 4000) (i : Fin 10)
    (hi : X (ix3 0 7 c) = (((i : ℕ) : ℝ) : EReal)) (k : Fin 3) :
    flowOut X vm vn (ix3 0 k c) = Model.flow (fun k => X (ix3 0 (crow k) c)) (fun k => centre vm vn i k)
      (fun k => X (ix3 0 (k.castLE (by decide)) c)) (X (ix3 0 3 c)) k := by
  have h := fun k => centres_apply vm vn (k2_pay23 X) k c i ((pay23_apply X c).trans hi)
  have h0 := h 0
  have h1 := h 1
  have h2 := h 2
  unfold flowOut
  generalize centres vm vn (k2_pay23 X) 0 = C0 at h0 ⊢
  generalize centres vm vn (k2_pay23 X) 1 = C1 at h1 ⊢
  generalize centres vm vn (k2_pay23 X) 2 = C2 at h2 ⊢
  clear h
  fin_cases k
  · unfold_payloads
    pointwise []
    rw [h0, h1]
    rfl
  · unfold_payloads
    pointwise []
    rw [h0, h1]
    rfl
  · unfold_payloads
    pointwise []
    rw [h2]
    rfl

end Cert.KernelIdeal.Prf

end
-- ==== Proof.KerSeg.lean ====
/-
  The segment kernel's partial results and the last call's reduction of them: the box of each class over all points.
-/
module

public import proofs.«01_k».proof.Proof.KerPoint

@[expose] public section

set_option maxRecDepth 16384

noncomputable section

namespace Cert.KernelIdeal.Prf

open Cert.KernelIdeal Cert.KernelIdeal.Gen
open Idealize.ShloMosaic
open Cert

/-- The point in column `c` of block `w`. -/
def pt (w : Fin 25) (c : Fin 4000) : Fin 100000 := ⟨4000 * w.val + c.val, by omega⟩

theorem rows_or (w : Fin 32) : w = 0 ∨ w ∈ rows := by
  unfold rows
  revert w; decide

/-- Column `16 j + l` of a block. -/
def col (j : ℕ) (l : Fin 16) : Fin 4000 := ⟨(16 * j + l.val) % 4000, Nat.mod_lt _ (by decide)⟩

theorem exists_col (n : Fin 100000) : ∃ (w : Fin 25) (j : ℕ) (l : Fin 16), j < 250 ∧ pt w (col j l) = n :=
  ⟨⟨n.val / 4000, by omega⟩, n.val % 4000 / 16, ⟨n.val % 4000 % 16, by omega⟩, by omega, Fin.ext (by
    show 4000 * (n.val / 4000) + (16 * (n.val % 4000 / 16) + n.val % 4000 % 16) % 4000 = n.val
    omega)⟩

theorem exists_pt (n : Fin 100000) : ∃ (w : Fin 25) (c : Fin 4000), pt w c = n :=
  ⟨⟨n.val / 4000, by omega⟩, ⟨n.val % 4000, by omega⟩, Fin.ext (by show 4000 * (n.val / 4000) + n.val % 4000 = n.val; omega)⟩

theorem lanes_apply (A : S25x8x4000.Idx → Ideal .f32) (w : Fin 25) (r : Fin 8) (j : ℕ) (l : Fin 16) :
    lanes (blk A w) r j (ix1 l) = A (ix3 w r (col j l)) :=
  congrArg A (funext fun | 0 => rfl | 1 => rfl | 2 => rfl)

theorem partRow_apply (P : S32x10x3x16.Idx → Ideal .f32) (w : Fin 32) (i : Fin 10) (k : Fin 3) (l : Fin 16) :
    partRow P w (ix3 i k l) = P (ix4 w i k l) := by
  pointwise [partRow]

section
variable (A : S25x8x4000.Idx → Ideal .f32) (cl : Fin 100000 → Fin 10) (p : Fin 100000 → Fin 3 → EReal)
    (h7 : ∀ w c, A (ix3 w 7 c) = (((cl (pt w c) : ℕ) : ℝ) : EReal)) (hp : ∀ w k c, A (ix3 w (crow k) c) = p (pt w c) k)
include h7 hp

theorem pickMax_apply (w : Fin 25) (i : Fin 10) (k : Fin 3) (j : ℕ) (l : Fin 16) :
    pickMax (blk A w) i (crow k) j (ix1 l) = if cl (pt w (col j l)) = i then p (pt w (col j l)) k else (⊥ : EReal) := by
  have e : pickMax (blk A w) i (crow k) j (ix1 l)
      = if lanes (blk A w) 7 j (ix1 l) = Ideal.ofBits .f32 (labBits i) then lanes (blk A w) (crow k) j (ix1 l) else (⊥ : EReal) := by
    pointwise [pickMax]
    rfl
  rw [e, lanes_apply, lanes_apply, h7, hp]
  simp only [label_inj]

theorem accMax_LE (w : Fin 25) (i : Fin 10) (k : Fin 3) (l : Fin 16) (B : EReal) (n : ℕ) :
    accMax (blk A w) i (crow k) n (ix1 l) ≤ B ↔ ∀ j < n, cl (pt w (col j l)) = i → p (pt w (col j l)) k ≤ B := by
  induction n with
  | zero => exact ⟨fun _ j hj => absurd hj (Nat.not_lt_zero j), fun _ => (bot_le : (⊥ : EReal) ≤ B)⟩
  | succ n ih =>
    show max (accMax (blk A w) i (crow k) n (ix1 l) : EReal) (pickMax (blk A w) i (crow k) n (ix1 l)) ≤ B ↔ _
    rw [max_le_iff, ih, pickMax_apply A cl p h7 hp]
    constructor
    · rintro ⟨h, h'⟩ j hj e
      rcases Nat.lt_succ_iff_lt_or_eq.mp hj with hj | rfl
      · exact h j hj e
      · rwa [if_pos e] at h'
    · refine fun h => ⟨fun j hj => h j (Nat.lt_succ_of_lt hj), ?_⟩
      split_ifs with e
      · exact h n (Nat.lt_succ_self n) e
      · exact bot_le

theorem segMax_LE (w : Fin 32) (i : Fin 10) (k : Fin 3) (l : Fin 16) (B : EReal) :
    segMax A (ix4 w i k l) ≤ B ↔ ∀ h : w.val < 25, ∀ j < 250, cl (pt ⟨w.val, h⟩ (col j l)) = i → p (pt ⟨w.val, h⟩ (col j l)) k ≤ B := by
  have e : segMax A (ix4 w i k l) = if h : w.val < 25 then accMax (blk A ⟨w.val, h⟩) i (crow k) 250 (ix1 l) else (⊥ : EReal) := by
    show (if h : w.val < 25 then accMax (blk A ⟨w.val, h⟩) i (crow k) 250 _ else (⊥ : EReal)) = _
    split_ifs with h
    · exact congrArg _ (funext fun | 0 => rfl)
    · rfl
  rw [e]
  by_cases h : w.val < 25
  · rw [dif_pos h, accMax_LE A cl p h7 hp]
    exact ⟨fun H _ => H, fun H => H h⟩
  · rw [dif_neg h]
    exact ⟨fun _ h' => absurd h' h, fun _ => bot_le⟩

/-- The reduction's largest coordinate of a class is the largest over the class's points. -/
theorem maxAll_seg (i : Fin 10) (k : Fin 3) : maxAll (segMax A) (ix2 i k) = Model.segHi cl (fun n => p n k) i := by
  have e : maxAll (segMax A) (ix2 i k) = Finset.univ.fold max (Ideal.ofBits .f32 0xFF800000#32)
      (fun x : Fin 16 => (rows.foldl (fun a w => maximumf a (partRow (segMax A) w)) (partRow (segMax A) 0) (ix3 i k x) : EReal)) := by
    pointwise [maxAll]
  have hf : ∀ (L : List (Fin 32)) (a : FVec Ideal S10x3x16 .f32) (x : S10x3x16.Idx) (B : EReal),
      L.foldl (fun a w => maximumf a (partRow (segMax A) w)) a x ≤ B ↔ (a x ≤ B ∧ ∀ w ∈ L, partRow (segMax A) w x ≤ B) := by
    intro L
    induction L with
    | nil => intro a x B; simp
    | cons v L ih =>
      intro a x B
      rw [List.foldl_cons, ih]
      show max (a x : EReal) (partRow (segMax A) v x) ≤ B ∧ _ ↔ _
      rw [max_le_iff, List.forall_mem_cons, and_assoc]
  refine eq_of_forall_ge_iff fun B => ?_
  rw [e, Model.ninf, Finset.fold_max_le, Model.segHi_le]
  simp only [hf, partRow_apply, segMax_LE A cl p h7 hp]
  constructor
  · intro h n hn
    obtain ⟨w, j, l, hj, rfl⟩ := exists_col n
    have hw := h.2 l (Finset.mem_univ l)
    rcases rows_or (w.castLE (by decide)) with e0 | e0
    · have := hw.1 (by decide) j hj
      have ew : w = (⟨((0 : Fin 32) : ℕ), by decide⟩ : Fin 25) := Fin.ext (show w.val = 0 from Fin.ext_iff.mp e0)
      rw [← ew] at this
      exact this hn
    · exact hw.2 _ e0 w.isLt j hj hn
  · intro h
    exact ⟨bot_le, fun l _ => ⟨fun _ j _ e => h _ e, fun w _ _ j _ e => h _ e⟩⟩

theorem pickMin_apply (w : Fin 25) (i : Fin 10) (k : Fin 3) (j : ℕ) (l : Fin 16) :
    pickMin (blk A w) i (crow k) j (ix1 l) = if cl (pt w (col j l)) = i then p (pt w (col j l)) k else (⊤ : EReal) := by
  have e : pickMin (blk A w) i (crow k) j (ix1 l)
      = if lanes (blk A w) 7 j (ix1 l) = Ideal.ofBits .f32 (labBits i) then lanes (blk A w) (crow k) j (ix1 l) else (⊤ : EReal) := by
    pointwise [pickMin]
    rfl
  rw [e, lanes_apply, lanes_apply, h7, hp]
  simp only [label_inj]

theorem accMin_GE (w : Fin 25) (i : Fin 10) (k : Fin 3) (l : Fin 16) (B : EReal) (n : ℕ) :
    B ≤ accMin (blk A w) i (crow k) n (ix1 l) ↔ ∀ j < n, cl (pt w (col j l)) = i → B ≤ p (pt w (col j l)) k := by
  induction n with
  | zero => exact ⟨fun _ j hj => absurd hj (Nat.not_lt_zero j), fun _ => (le_top : B ≤ (⊤ : EReal))⟩
  | succ n ih =>
    show B ≤ min (accMin (blk A w) i (crow k) n (ix1 l) : EReal) (pickMin (blk A w) i (crow k) n (ix1 l)) ↔ _
    rw [le_min_iff, ih, pickMin_apply A cl p h7 hp]
    constructor
    · rintro ⟨h, h'⟩ j hj e
      rcases Nat.lt_succ_iff_lt_or_eq.mp hj with hj | rfl
      · exact h j hj e
      · rwa [if_pos e] at h'
    · refine fun h => ⟨fun j hj => h j (Nat.lt_succ_of_lt hj), ?_⟩
      split_ifs with e
      · exact h n (Nat.lt_succ_self n) e
      · exact le_top

theorem segMin_GE (w : Fin 32) (i : Fin 10) (k : Fin 3) (l : Fin 16) (B : EReal) :
    B ≤ segMin A (ix4 w i k l) ↔ ∀ h : w.val < 25, ∀ j < 250, cl (pt ⟨w.val, h⟩ (col j l)) = i → B ≤ p (pt ⟨w.val, h⟩ (col j l)) k := by
  have e : segMin A (ix4 w i k l) = if h : w.val < 25 then accMin (blk A ⟨w.val, h⟩) i (crow k) 250 (ix1 l) else (⊤ : EReal) := by
    show (if h : w.val < 25 then accMin (blk A ⟨w.val, h⟩) i (crow k) 250 _ else (⊤ : EReal)) = _
    split_ifs with h
    · exact congrArg _ (funext fun | 0 => rfl)
    · rfl
  rw [e]
  by_cases h : w.val < 25
  · rw [dif_pos h, accMin_GE A cl p h7 hp]
    exact ⟨fun H _ => H, fun H => H h⟩
  · rw [dif_neg h]
    exact ⟨fun _ h' => absurd h' h, fun _ => le_top⟩

/-- The reduction's smallest coordinate of a class is the smallest over the class's points. -/
theorem minAll_seg (i : Fin 10) (k : Fin 3) : minAll (segMin A) (ix2 i k) = Model.segLo cl (fun n => p n k) i := by
  have e : minAll (segMin A) (ix2 i k) = Finset.univ.fold min (Ideal.ofBits .f32 0x7F800000#32)
      (fun x : Fin 16 => (rows.foldl (fun a w => minimumf a (partRow (segMin A) w)) (partRow (segMin A) 0) (ix3 i k x) : EReal)) := by
    pointwise [minAll]
  have hf : ∀ (L : List (Fin 32)) (a : FVec Ideal S10x3x16 .f32) (x : S10x3x16.Idx) (B : EReal),
      B ≤ L.foldl (fun a w => minimumf a (partRow (segMin A) w)) a x ↔ (B ≤ a x ∧ ∀ w ∈ L, B ≤ partRow (segMin A) w x) := by
    intro L
    induction L with
    | nil => intro a x B; simp
    | cons v L ih =>
      intro a x B
      rw [List.foldl_cons, ih]
      show B ≤ min (a x : EReal) (partRow (segMin A) v x) ∧ _ ↔ _
      rw [le_min_iff, List.forall_mem_cons, and_assoc]
  refine eq_of_forall_le_iff fun B => ?_
  rw [e, Model.pinf, Finset.le_fold_min, Model.le_segLo]
  simp only [hf, partRow_apply, segMin_GE A cl p h7 hp]
  constructor
  · intro h n hn
    obtain ⟨w, j, l, hj, rfl⟩ := exists_col n
    have hw := h.2 l (Finset.mem_univ l)
    rcases rows_or (w.castLE (by decide)) with e0 | e0
    · have := hw.1 (by decide) j hj
      have ew : w = (⟨((0 : Fin 32) : ℕ), by decide⟩ : Fin 25) := Fin.ext (show w.val = 0 from Fin.ext_iff.mp e0)
      rw [← ew] at this
      exact this hn
    · exact hw.2 _ e0 w.isLt j hj hn
  · intro h
    exact ⟨le_top, fun l _ => ⟨fun _ j _ e => h _ e, fun w _ _ j _ e => h _ e⟩⟩
end

/-- The centre the last call computes for a point's class is the centre of the class's box. -/
theorem centre_seg (A : S25x8x4000.Idx → Ideal .f32) (cl : Fin 100000 → Fin 10) (p : Fin 100000 → Fin 3 → EReal)
    (h7 : ∀ w c, A (ix3 w 7 c) = (((cl (pt w c) : ℕ) : ℝ) : EReal)) (hp : ∀ w k c, A (ix3 w (crow k) c) = p (pt w c) k)
    (n : Fin 100000) (k : Fin 3) :
    centre (maxAll (segMax A)) (minAll (segMin A)) (cl n) k = Model.mid cl (fun n => p n k) (cl n) := by
  rw [centre_apply _ _ _ _ (by rw [maxAll_seg A cl p h7 hp, minAll_seg A cl p h7 hp]; exact Model.segLo_le_segHi cl (fun n => p n k) n),
    maxAll_seg A cl p h7 hp, minAll_seg A cl p h7 hp]
  rfl

end Cert.KernelIdeal.Prf

end
-- ==== Proof.KerArr.lean ====
/-
  The arrays the two TensorCore calls write: block `w` of a result is what the call's body makes of block `w` of its operands.
-/
module

public import proofs.«01_k».proof.Proof.KerSeg
public import proofs.«01_k».proof.Proof.Run
public import Idealize.ShloMosaic.Lib.Pipeline.ValueKit.Geometry

@[expose] public section

set_option maxRecDepth 16384

noncomputable section

namespace Cert.KernelIdeal.Prf

open Cert.KernelIdeal Cert.KernelIdeal.Gen
open Idealize.ShloMosaic Idealize.ShloMosaic.TcCoe
open Cert

/-- Block `w` of an array of 25 blocks. -/
def bl {n : ℕ} (w : Fin 25) (A : (⟨3, ![25, n, 4000]⟩ : Shape).Idx → Ideal .f32) : (⟨3, ![1, n, 4000]⟩ : Shape).Idx → Ideal .f32 :=
  fun y => A (ix3 w (y 1) (y 2))

variable (V : (c : Dev nD) → (b : Ref sig .tc) → Buf (Elt Ideal) ((c : Thread nD τ).loc b)) (d : Dev nD)

theorem e0_0 : ∀ t : Fin cfg0.N, win0_0.index t = ![(grid0.coords t 0).val, 0, 0] := (by decide +kernel : ∀ t : Fin grid0.N, _)
theorem e0_1 : ∀ t : Fin cfg0.N, win0_1.index t = ![(grid0.coords t 0).val, 0, 0] := (by decide +kernel : ∀ t : Fin grid0.N, _)
theorem e0_2 : ∀ t : Fin cfg0.N, win0_2.index t = ![0, 0] := (by decide +kernel : ∀ t : Fin grid0.N, _)
theorem e0_3 : ∀ t : Fin cfg0.N, win0_3.index t = ![0] := (by decide +kernel : ∀ t : Fin grid0.N, _)
theorem e0_4 : ∀ t : Fin cfg0.N, win0_4.index t = ![0, 0] := (by decide +kernel : ∀ t : Fin grid0.N, _)
theorem e0_5 : ∀ t : Fin cfg0.N, win0_5.index t = ![0] := (by decide +kernel : ∀ t : Fin grid0.N, _)
theorem e0_6 : ∀ t : Fin cfg0.N, win0_6.index t = ![0, 0] := (by decide +kernel : ∀ t : Fin grid0.N, _)
theorem e0_7 : ∀ t : Fin cfg0.N, win0_7.index t = ![0] := (by decide +kernel : ∀ t : Fin grid0.N, _)
theorem e0_8 : ∀ t : Fin cfg0.N, win0_8.index t = ![(grid0.coords t 0).val, 0, 0] := (by decide +kernel : ∀ t : Fin grid0.N, _)
theorem e0_9 : ∀ t : Fin cfg0.N, win0_9.index t = ![(grid0.coords t 0).val, 0, 0] := (by decide +kernel : ∀ t : Fin grid0.N, _)

/-- The grid's point as the number of a block. -/
def wv0 (t : Fin cfg0.N) : Fin 25 := ⟨(grid0.coords t 0).val, (by decide +kernel : ∀ t : Fin grid0.N, (grid0.coords t 0).val < 25) t⟩

theorem b0_0 (t : Fin cfg0.N) : blk0 V d 0 t = bl (wv0 t) (V d main_v1 : FVec Ideal S25x3x4000 .f32) := by
  funext y
  revert y
  show ∀ y : S1x3x4000.Idx, blk0 V d 0 t y = _
  intro y
  unfold blk0 bl
  blk_ext [e0_0]
  rfl
theorem b0_1 (t : Fin cfg0.N) : blk0 V d 1 t = bl (wv0 t) (V d main_v3 : FVec Ideal S25x10x4000 .f32) := by
  funext y
  revert y
  show ∀ y : S1x10x4000.Idx, blk0 V d 1 t y = _
  intro y
  unfold blk0 bl
  blk_ext [e0_1]
  rfl
theorem b0_2 (t : Fin cfg0.N) : blk0 V d 2 t = (V d main_v4 : FVec Ideal S128x3 .f32) := by
  funext y
  unfold blk0
  blk_ext [e0_2]
theorem b0_3 (t : Fin cfg0.N) : blk0 V d 3 t = (V d main_arg3 : FVec Ideal S128 .f32) := by
  funext y
  unfold blk0
  blk_ext [e0_3]
theorem b0_4 (t : Fin cfg0.N) : blk0 V d 4 t = (V d main_v5 : FVec Ideal S128x128 .f32) := by
  funext y
  unfold blk0
  blk_ext [e0_4]
theorem b0_5 (t : Fin cfg0.N) : blk0 V d 5 t = (V d main_arg5 : FVec Ideal S128 .f32) := by
  funext y
  unfold blk0
  blk_ext [e0_5]
theorem b0_6 (t : Fin cfg0.N) : blk0 V d 6 t = (V d main_v6 : FVec Ideal S4x128 .f32) := by
  funext y
  unfold blk0
  blk_ext [e0_6]
theorem b0_7 (t : Fin cfg0.N) : blk0 V d 7 t = (V d main_arg7 : FVec Ideal S4 .f32) := by
  funext y
  unfold blk0
  blk_ext [e0_7]

/-- The first call's mask. -/
def all0_8 : S25x10x4000.Idx → Ideal .f32 := fun x => maskOut (F := Ideal) (bl (x 0) (V d main_v3 : FVec Ideal S25x10x4000 .f32)) (ix3 (0 : Fin 1) (x 1) (x 2))

theorem arr0_8 : (dat0 V d).arrAt 8 cfg0.N = all0_8 V d := by
  refine (dat0 V d).arrAt_eq_of_covers 8 (all0_8 V d) (by decide +kernel) fun t hf y => ?_
  revert y
  show ∀ y : S1x10x4000.Idx, maskOut (F := Ideal) (blk0 V d 1 t) y = all0_8 V d ((win0_8.blk t).view.emb y)
  intro y
  have he : (win0_8.blk t).view.emb y = (ix3 (wv0 t) (y 1) (y 2) : S25x10x4000.Idx) := by
    blk_ext [e0_8, wv0]
  refine Eq.trans ?_ (congrArg (all0_8 V d) he).symm
  rw [b0_1]
  unfold all0_8
  exact congrArg _ (by blk_ext)

/-- The first call's table. -/
def all0_9 : S25x8x4000.Idx → Ideal .f32 := fun x => auxOut (F := Ideal) (bl (x 0) (V d main_v1 : FVec Ideal S25x3x4000 .f32)) (bl (x 0) (V d main_v3 : FVec Ideal S25x10x4000 .f32)) (V d main_v4) (V d main_arg3) (V d main_v5) (V d main_arg5) (V d main_v6) (V d main_arg7) (ix3 (0 : Fin 1) (x 1) (x 2))

theorem arr0_9 : (dat0 V d).arrAt 9 cfg0.N = all0_9 V d := by
  refine (dat0 V d).arrAt_eq_of_covers 9 (all0_9 V d) (by decide +kernel) fun t hf y => ?_
  revert y
  show ∀ y : S1x8x4000.Idx, auxOut (F := Ideal) (blk0 V d 0 t) (blk0 V d 1 t) (blk0 V d 2 t) (blk0 V d 3 t) (blk0 V d 4 t) (blk0 V d 5 t) (blk0 V d 6 t) (blk0 V d 7 t) y = all0_9 V d ((win0_9.blk t).view.emb y)
  intro y
  have he : (win0_9.blk t).view.emb y = (ix3 (wv0 t) (y 1) (y 2) : S25x8x4000.Idx) := by
    blk_ext [e0_9, wv0]
  refine Eq.trans ?_ (congrArg (all0_9 V d) he).symm
  rw [b0_0, b0_1, b0_2, b0_3, b0_4, b0_5, b0_6, b0_7]
  unfold all0_9
  exact congrArg _ (by blk_ext)
theorem e2_0 : ∀ t : Fin cfg2.N, win2_0.index t = ![(grid2.coords t 0).val, 0, 0] := (by decide +kernel : ∀ t : Fin grid2.N, _)
theorem e2_1 : ∀ t : Fin cfg2.N, win2_1.index t = ![0, 0, 0, 0] := (by decide +kernel : ∀ t : Fin grid2.N, _)
theorem e2_2 : ∀ t : Fin cfg2.N, win2_2.index t = ![0, 0, 0, 0] := (by decide +kernel : ∀ t : Fin grid2.N, _)
theorem e2_3 : ∀ t : Fin cfg2.N, win2_3.index t = ![(grid2.coords t 0).val, 0, 0] := (by decide +kernel : ∀ t : Fin grid2.N, _)
theorem e2_4 : ∀ t : Fin cfg2.N, win2_4.index t = ![(grid2.coords t 0).val, 0, 0] := (by decide +kernel : ∀ t : Fin grid2.N, _)
theorem e2_5 : ∀ t : Fin cfg2.N, win2_5.index t = ![(grid2.coords t 0).val, 0, 0] := (by decide +kernel : ∀ t : Fin grid2.N, _)

/-- The grid's point as the number of a block. -/
def wv2 (t : Fin cfg2.N) : Fin 25 := ⟨(grid2.coords t 0).val, (by decide +kernel : ∀ t : Fin grid2.N, (grid2.coords t 0).val < 25) t⟩

theorem b2_0 (t : Fin cfg2.N) : blk2 V d 0 t = bl (wv2 t) (V d main_v7_1 : FVec Ideal S25x8x4000 .f32) := by
  funext y
  revert y
  show ∀ y : S1x8x4000.Idx, blk2 V d 0 t y = _
  intro y
  unfold blk2 bl
  blk_ext [e2_0]
  rfl
theorem b2_1 (t : Fin cfg2.N) : blk2 V d 1 t = (V d main_v8_0 : FVec Ideal S32x10x3x16 .f32) := by
  funext y
  unfold blk2
  blk_ext [e2_1]
theorem b2_2 (t : Fin cfg2.N) : blk2 V d 2 t = (V d main_v8_1 : FVec Ideal S32x10x3x16 .f32) := by
  funext y
  unfold blk2
  blk_ext [e2_2]

/-- The last call's flow. -/
def all2_3 : S25x3x4000.Idx → Ideal .f32 := fun x => flowOut (F := Ideal) (bl (x 0) (V d main_v7_1 : FVec Ideal S25x8x4000 .f32)) (maxAll (V d main_v8_0 : FVec Ideal S32x10x3x16 .f32)) (minAll (V d main_v8_1 : FVec Ideal S32x10x3x16 .f32)) (ix3 (0 : Fin 1) (x 1) (x 2))

theorem arr2_3 : (dat2 V d).arrAt 3 cfg2.N = all2_3 V d := by
  refine (dat2 V d).arrAt_eq_of_covers 3 (all2_3 V d) (by decide +kernel) fun t hf y => ?_
  revert y
  show ∀ y : S1x3x4000.Idx, flowOut (F := Ideal) (blk2 V d 0 t) (vmx V d) (vmn V d) y = all2_3 V d ((win2_3.blk t).view.emb y)
  intro y
  have he : (win2_3.blk t).view.emb y = (ix3 (wv2 t) (y 1) (y 2) : S25x3x4000.Idx) := by
    blk_ext [e2_3, wv2]
  refine Eq.trans ?_ (congrArg (all2_3 V d) he).symm
  rw [vmx, vmn, b2_0, b2_1, b2_2]
  unfold all2_3
  exact congrArg _ (by blk_ext)

/-- The last call's translation. -/
def all2_4 : S25x3x4000.Idx → Ideal .f32 := fun x => tOut (F := Ideal) (bl (x 0) (V d main_v7_1 : FVec Ideal S25x8x4000 .f32)) (ix3 (0 : Fin 1) (x 1) (x 2))

theorem arr2_4 : (dat2 V d).arrAt 4 cfg2.N = all2_4 V d := by
  refine (dat2 V d).arrAt_eq_of_covers 4 (all2_4 V d) (by decide +kernel) fun t hf y => ?_
  revert y
  show ∀ y : S1x3x4000.Idx, tOut (F := Ideal) (blk2 V d 0 t) y = all2_4 V d ((win2_4.blk t).view.emb y)
  intro y
  have he : (win2_4.blk t).view.emb y = (ix3 (wv2 t) (y 1) (y 2) : S25x3x4000.Idx) := by
    blk_ext [e2_4, wv2]
  refine Eq.trans ?_ (congrArg (all2_4 V d) he).symm
  rw [b2_0]
  unfold all2_4
  exact congrArg _ (by blk_ext)

/-- The last call's yaw. -/
def all2_5 : S25x1x4000.Idx → Ideal .f32 := fun x => yawOut (F := Ideal) (bl (x 0) (V d main_v7_1 : FVec Ideal S25x8x4000 .f32)) (ix3 (0 : Fin 1) (x 1) (x 2))

theorem arr2_5 : (dat2 V d).arrAt 5 cfg2.N = all2_5 V d := by
  refine (dat2 V d).arrAt_eq_of_covers 5 (all2_5 V d) (by decide +kernel) fun t hf y => ?_
  revert y
  show ∀ y : S1x1x4000.Idx, yawOut (F := Ideal) (blk2 V d 0 t) y = all2_5 V d ((win2_5.blk t).view.emb y)
  intro y
  have he : (win2_5.blk t).view.emb y = (ix3 (wv2 t) (y 1) (y 2) : S25x1x4000.Idx) := by
    blk_ext [e2_5, wv2]
  refine Eq.trans ?_ (congrArg (all2_5 V d) he).symm
  rw [b2_0]
  unfold all2_5
  exact congrArg _ (by blk_ext)

end Cert.KernelIdeal.Prf

end
-- ==== Proof.KerAt.lean ====
/-
  The kernel's four results at a point, as functions of the arguments.
-/
module

public import proofs.«01_k».proof.Proof.KerArr
public import proofs.«01_k».proof.Proof.Frame

@[expose] public section

set_option maxRecDepth 16384

noncomputable section

namespace Cert.KernelIdeal.Prf

open Cert.KernelIdeal Cert.KernelIdeal.Gen
open Idealize.ShloMosaic Idealize.ShloMosaic.TcCoe
open Idealize.ShloMosaic.StableHlo (held after seq)
open Cert

/-! ## The layout operations -/

theorem in_apply_3 (f : FVec Ideal S1x100000x3 .f32) (w : Fin 25) (k : Fin 3) (c : Fin 4000) :
    transpose S25x3x4000 [0, 2, 1] (shapeCast S25x4000x3 f shapeCasts_S1x100000x3_S25x4000x3) transposes_S25x4000x3_S25x3x4000_0_2_1 (ix3 w k c) = f (ix3 0 (pt w c) k) := by
  pointwise []
  exact congrArg f (congrArg (fun n => ix3 (0 : Fin 1) n k) (Fin.ext (by simp only [pt]; omega)))

theorem in_apply_10 (f : FVec Ideal S1x100000x10 .f32) (w : Fin 25) (k : Fin 10) (c : Fin 4000) :
    transpose S25x10x4000 [0, 2, 1] (shapeCast S25x4000x10 f shapeCasts_S1x100000x10_S25x4000x10) transposes_S25x4000x10_S25x10x4000_0_2_1 (ix3 w k c) = f (ix3 0 (pt w c) k) := by
  pointwise []
  exact congrArg f (congrArg (fun n => ix3 (0 : Fin 1) n k) (Fin.ext (by simp only [pt]; omega)))

theorem out_apply_10 (f : FVec Ideal S25x10x4000 .f32) (w : Fin 25) (k : Fin 10) (c : Fin 4000) :
    shapeCast S1x100000x10 (transpose S25x4000x10 [0, 2, 1] f transposes_S25x10x4000_S25x4000x10_0_2_1) shapeCasts_S25x4000x10_S1x100000x10 (ix3 0 (pt w c) k) = f (ix3 w k c) := by
  pointwise []
  refine congrArg f ?_
  have h1 : (pt w c).val / 4000 = w.val := by simp only [pt]; omega
  have h2 : (pt w c).val % 4000 = c.val := by simp only [pt]; omega
  exact congrArg₂ (fun a b => ix3 a k b) (Fin.ext h1) (Fin.ext h2)

theorem out_apply_3 (f : FVec Ideal S25x3x4000 .f32) (w : Fin 25) (k : Fin 3) (c : Fin 4000) :
    shapeCast S1x100000x3 (transpose S25x4000x3 [0, 2, 1] f transposes_S25x3x4000_S25x4000x3_0_2_1) shapeCasts_S25x4000x3_S1x100000x3 (ix3 0 (pt w c) k) = f (ix3 w k c) := by
  pointwise []
  refine congrArg f ?_
  have h1 : (pt w c).val / 4000 = w.val := by simp only [pt]; omega
  have h2 : (pt w c).val % 4000 = c.val := by simp only [pt]; omega
  exact congrArg₂ (fun a b => ix3 a k b) (Fin.ext h1) (Fin.ext h2)

theorem out_apply_1 (f : FVec Ideal S25x1x4000 .f32) (w : Fin 25) (k : Fin 1) (c : Fin 4000) :
    shapeCast S1x100000x1 (transpose S25x4000x1 [0, 2, 1] f transposes_S25x1x4000_S25x4000x1_0_2_1) shapeCasts_S25x4000x1_S1x100000x1 (ix3 0 (pt w c) k) = f (ix3 w k c) := by
  pointwise []
  refine congrArg f ?_
  have h1 : (pt w c).val / 4000 = w.val := by simp only [pt]; omega
  have h2 : (pt w c).val % 4000 = c.val := by simp only [pt]; omega
  exact congrArg₂ (fun a b => ix3 a 0 b) (Fin.ext h1) (Fin.ext h2) |>.trans (by rw [Subsingleton.elim k 0])

variable (W : Valuation τ sig (Elt Ideal))

theorem in_v1 : after opsIn W (Proc.devRef .tc main_v1)
    = transpose S25x3x4000 [0, 2, 1] (shapeCast S25x4000x3 (W (Proc.devRef .tc main_arg0) : FVec Ideal S1x100000x3 .f32) shapeCasts_S1x100000x3_S25x4000x3) transposes_S25x4000x3_S25x3x4000_0_2_1 := by
  unfold opsIn
  simp only [StableHlo.after_cons, StableHlo.after_nil]
  rfl

theorem in_v3 : after opsIn W (Proc.devRef .tc main_v3)
    = transpose S25x10x4000 [0, 2, 1] (shapeCast S25x4000x10 (W (Proc.devRef .tc main_arg1) : FVec Ideal S1x100000x10 .f32) shapeCasts_S1x100000x10_S25x4000x10) transposes_S25x4000x10_S25x10x4000_0_2_1 := by
  unfold opsIn
  simp only [StableHlo.after_cons, StableHlo.after_nil]
  rfl

theorem in_v4 : after opsIn W (Proc.devRef .tc main_v4)
    = transpose S128x3 [1, 0] (W (Proc.devRef .tc main_arg2) : FVec Ideal S3x128 .f32) transposes_S3x128_S128x3_1_0 := by
  unfold opsIn
  simp only [StableHlo.after_cons, StableHlo.after_nil]
  rfl

theorem in_v5 : after opsIn W (Proc.devRef .tc main_v5)
    = transpose S128x128 [1, 0] (W (Proc.devRef .tc main_arg4) : FVec Ideal S128x128 .f32) transposes_S128x128_S128x128_1_0 := by
  unfold opsIn
  simp only [StableHlo.after_cons, StableHlo.after_nil]
  rfl

theorem in_v6 : after opsIn W (Proc.devRef .tc main_v6)
    = transpose S4x128 [1, 0] (W (Proc.devRef .tc main_arg6) : FVec Ideal S128x4 .f32) transposes_S128x4_S4x128_1_0 := by
  unfold opsIn
  simp only [StableHlo.after_cons, StableHlo.after_nil]
  rfl

theorem out_v11 : after opsOut W (Proc.devRef .tc main_v11)
    = shapeCast S1x100000x10 (transpose S25x4000x10 [0, 2, 1] (W (Proc.devRef .tc main_v7_0) : FVec Ideal S25x10x4000 .f32) transposes_S25x10x4000_S25x4000x10_0_2_1) shapeCasts_S25x4000x10_S1x100000x10 := by
  unfold opsOut
  simp only [StableHlo.after_cons, StableHlo.after_nil]
  rfl

theorem out_v13 : after opsOut W (Proc.devRef .tc main_v13)
    = shapeCast S1x100000x3 (transpose S25x4000x3 [0, 2, 1] (W (Proc.devRef .tc main_v9_0) : FVec Ideal S25x3x4000 .f32) transposes_S25x3x4000_S25x4000x3_0_2_1) shapeCasts_S25x4000x3_S1x100000x3 := by
  unfold opsOut
  simp only [StableHlo.after_cons, StableHlo.after_nil]
  rfl

theorem out_v15 : after opsOut W (Proc.devRef .tc main_v15)
    = shapeCast S1x100000x3 (transpose S25x4000x3 [0, 2, 1] (W (Proc.devRef .tc main_v9_1) : FVec Ideal S25x3x4000 .f32) transposes_S25x3x4000_S25x4000x3_0_2_1) shapeCasts_S25x4000x3_S1x100000x3 := by
  unfold opsOut
  simp only [StableHlo.after_cons, StableHlo.after_nil]
  rfl

theorem out_v17 : after opsOut W (Proc.devRef .tc main_v17)
    = shapeCast S1x100000x1 (transpose S25x4000x1 [0, 2, 1] (W (Proc.devRef .tc main_v9_2) : FVec Ideal S25x1x4000 .f32) transposes_S25x1x4000_S25x4000x1_0_2_1) shapeCasts_S25x4000x1_S1x100000x1 := by
  unfold opsOut
  simp only [StableHlo.after_cons, StableHlo.after_nil]
  rfl

/-! ## The arguments, and what the first call is handed -/

variable (m : (ℓ : Loc nD τ sig) → Buf (Elt Ideal) ℓ) (d : Dev nD)

/-- The arguments as the initial memory holds them. -/
def kargs : Model.Args where
  x n k := (m (d, Proc.devRef .tc main_arg0) : FVec Ideal S1x100000x3 .f32) (ix3 0 n k)
  l n i := (m (d, Proc.devRef .tc main_arg1) : FVec Ideal S1x100000x10 .f32) (ix3 0 n i)
  w1 k b := (m (d, Proc.devRef .tc main_arg2) : FVec Ideal S3x128 .f32) (ix2 k b)
  b1 b := (m (d, Proc.devRef .tc main_arg3) : FVec Ideal S128 .f32) (ix1 b)
  w2 b c := (m (d, Proc.devRef .tc main_arg4) : FVec Ideal S128x128 .f32) (ix2 b c)
  b2 b := (m (d, Proc.devRef .tc main_arg5) : FVec Ideal S128 .f32) (ix1 b)
  w3 b o := (m (d, Proc.devRef .tc main_arg6) : FVec Ideal S128x4 .f32) (ix2 b o)
  b3 o := (m (d, Proc.devRef .tc main_arg7) : FVec Ideal S4 .f32) (ix1 o)

theorem val1_v1 (w : Fin 25) (k : Fin 3) (c : Fin 4000) :
    (tcv (val1 m) d main_v1 : FVec Ideal S25x3x4000 .f32) (ix3 w k c) = (kargs m d).x (pt w c) k :=
  (congrFun (in_v1 (val0 m d)) _).trans (in_apply_3 _ w k c)
theorem val1_v3 (w : Fin 25) (i : Fin 10) (c : Fin 4000) :
    (tcv (val1 m) d main_v3 : FVec Ideal S25x10x4000 .f32) (ix3 w i c) = (kargs m d).l (pt w c) i :=
  (congrFun (in_v3 (val0 m d)) _).trans (in_apply_10 _ w i c)
theorem val1_v4 (b : Fin 128) (k : Fin 3) : (tcv (val1 m) d main_v4 : FVec Ideal S128x3 .f32) (ix2 b k) = (kargs m d).w1 k b :=
  (congrFun (in_v4 (val0 m d)) _).trans (by pointwise []; rfl)
theorem val1_v5 (a b : Fin 128) : (tcv (val1 m) d main_v5 : FVec Ideal S128x128 .f32) (ix2 a b) = (kargs m d).w2 b a :=
  (congrFun (in_v5 (val0 m d)) _).trans (by pointwise []; rfl)
theorem val1_v6 (o : Fin 4) (b : Fin 128) : (tcv (val1 m) d main_v6 : FVec Ideal S4x128 .f32) (ix2 o b) = (kargs m d).w3 b o :=
  (congrFun (in_v6 (val0 m d)) _).trans (by pointwise []; rfl)
theorem val1_arg3 (b : Fin 128) : (tcv (val1 m) d main_arg3 : FVec Ideal S128 .f32) (ix1 b) = (kargs m d).b1 b :=
  congrFun (StableHlo.after_unwritten wroteIn rfl (show main_arg3 ∉ wroteIn by decide) (val0 m d)) _
theorem val1_arg5 (b : Fin 128) : (tcv (val1 m) d main_arg5 : FVec Ideal S128 .f32) (ix1 b) = (kargs m d).b2 b :=
  congrFun (StableHlo.after_unwritten wroteIn rfl (show main_arg5 ∉ wroteIn by decide) (val0 m d)) _
theorem val1_arg7 (o : Fin 4) : (tcv (val1 m) d main_arg7 : FVec Ideal S4 .f32) (ix1 o) = (kargs m d).b3 o :=
  congrFun (StableHlo.after_unwritten wroteIn rfl (show main_arg7 ∉ wroteIn by decide) (val0 m d)) _

/-! ## The first call's results -/

/-- The mask is the softmax of the logits. -/
theorem mask_pt (hfin : ∀ n, Model.Fin' ((kargs m d).l n)) (w : Fin 25) (i : Fin 10) (c : Fin 4000) :
    (val2 m d r70 : FVec Ideal S25x10x4000 .f32) (ix3 w i c) = Model.soft ((kargs m d).l (pt w c)) i := by
  have e : (fun i => bl w (tcv (val1 m) d main_v3 : FVec Ideal S25x10x4000 .f32) (ix3 (0 : Fin 1) i c)) = (kargs m d).l (pt w c) :=
    funext fun i => val1_v3 m d w i c
  rw [val2_r70, arr0_8]
  refine (maskOut_apply (bl w (tcv (val1 m) d main_v3 : FVec Ideal S25x10x4000 .f32)) c ?_ i).trans ?_
  · rw [e]; exact hfin _
  · rw [e]

/-- A row of the table below 4 is a feature. -/
theorem tab_feat (w : Fin 25) (r : Fin 8) (c : Fin 4000) (h : r.val < 4) :
    tab m d (ix3 w r c) = (kargs m d).feat (pt w c) ⟨r.val, h⟩ := by
  unfold tab
  rw [val2_r71, arr0_9]
  refine (auxOut_feat _ _ _ _ _ _ _ _ c r h).trans ?_
  unfold Model.Args.feat
  congr 1 <;> (try funext a) <;> (try funext b)
  all_goals first
    | exact val1_v1 m d w _ c | exact val1_v4 m d _ _ | exact val1_v5 m d _ _ | exact val1_v6 m d _ _
    | exact val1_arg3 m d _ | exact val1_arg5 m d _ | exact val1_arg7 m d _ | rfl

/-- The table repeats the point's coordinates. -/
theorem tab_pt (w : Fin 25) (k : Fin 3) (c : Fin 4000) : tab m d (ix3 w (crow k) c) = (kargs m d).x (pt w c) k := by
  unfold tab
  rw [val2_r71, arr0_9]
  exact (auxOut_pt _ _ _ _ _ _ _ _ c k).trans (val1_v1 m d w k c)

/-- The table's last row is the point's class. -/
theorem tab_cls (w : Fin 25) (c : Fin 4000) : tab m d (ix3 w 7 c) = ((((kargs m d).cl (pt w c) : ℕ) : ℝ) : EReal) := by
  have e : (fun i => bl w (tcv (val1 m) d main_v3 : FVec Ideal S25x10x4000 .f32) (ix3 (0 : Fin 1) i c)) = (kargs m d).l (pt w c) :=
    funext fun i => val1_v3 m d w i c
  unfold tab
  rw [val2_r71, arr0_9]
  refine (auxOut_cls _ (bl w (tcv (val1 m) d main_v3 : FVec Ideal S25x10x4000 .f32)) _ _ _ _ _ _ c).trans ?_
  rw [e]
  rfl

/-! ## The last call's results -/

theorem val3_tab : (tcv (val3 m) d main_v7_1 : FVec Ideal S25x8x4000 .f32) = tab m d :=
  val3_ne m d (show r71 ≠ r80 by decide) (show r71 ≠ r81 by decide)

/-- The flow at a point. -/
theorem flow_pt (w : Fin 25) (k : Fin 3) (c : Fin 4000) :
    (val4 m d r90 : FVec Ideal S25x3x4000 .f32) (ix3 w k c) = (kargs m d).flowAt (pt w c) k := by
  rw [val4_r90, arr2_3]
  unfold all2_3
  rw [val3_tab, show tcv (val3 m) d main_v8_0 = segMax (tab m d) from val3_r80 m d, show tcv (val3 m) d main_v8_1 = segMin (tab m d) from val3_r81 m d]
  refine (flowOut_apply (bl w (tab m d)) _ _ c ((kargs m d).cl (pt w c)) (tab_cls m d w c) k).trans ?_
  unfold Model.Args.flowAt
  have h1 : (fun k => bl w (tab m d) (ix3 (0 : Fin 1) (crow k) c)) = (kargs m d).x (pt w c) := funext fun k => tab_pt m d w k c
  have h2 : (fun k => centre (maxAll (segMax (tab m d))) (minAll (segMin (tab m d))) ((kargs m d).cl (pt w c)) k) = (kargs m d).centre (pt w c) :=
    funext fun k => centre_seg (tab m d) (kargs m d).cl (kargs m d).x (tab_cls m d) (tab_pt m d) (pt w c) k
  have h3 : (fun k : Fin 3 => bl w (tab m d) (ix3 (0 : Fin 1) (k.castLE (by decide) : Fin 8) c)) = fun k => (kargs m d).feat (pt w c) k.castSucc :=
    funext fun k => tab_feat m d w (k.castLE (by decide)) c (by have := k.isLt; show k.val < 4; omega)
  have h4 : bl w (tab m d) (ix3 (0 : Fin 1) 3 c) = (kargs m d).feat (pt w c) 3 := tab_feat m d w 3 c (by decide)
  rw [h1, h2, h3, h4]

/-- The translation at a point. -/
theorem t_pt (w : Fin 25) (k : Fin 3) (c : Fin 4000) :
    (val4 m d r91 : FVec Ideal S25x3x4000 .f32) (ix3 w k c) = (kargs m d).feat (pt w c) k.castSucc := by
  rw [val4_r91, arr2_4]
  unfold all2_4
  rw [val3_tab]
  exact (tOut_apply (bl w (tab m d)) k c).trans (tab_feat m d w (k.castLE (by decide)) c (by have := k.isLt; show k.val < 4; omega))

/-- The yaw at a point. -/
theorem yaw_pt (w : Fin 25) (c : Fin 4000) :
    (val4 m d r92 : FVec Ideal S25x1x4000 .f32) (ix3 w 0 c) = (kargs m d).feat (pt w c) 3 := by
  rw [val4_r92, arr2_5]
  unfold all2_5
  rw [val3_tab]
  exact (yawOut_apply (bl w (tab m d)) c).trans (tab_feat m d w 3 c (by decide))

theorem val4_mask : val4 m d r70 = val2 m d r70 :=
  (val4_ne m d (show r70 ≠ r90 by decide) (show r70 ≠ r91 by decide) (show r70 ≠ r92 by decide)).trans
    (val3_ne m d (show r70 ≠ r80 by decide) (show r70 ≠ r81 by decide))

/-! ## The results at the end of the run -/

/-- The second result: the softmax of the point's logits. -/
theorem v11_apply (hfin : ∀ n, Model.Fin' ((kargs m d).l n)) (n : Fin 100000) (i : Fin 10) :
    (val5 m d (Proc.devRef .tc main_v11) : FVec Ideal S1x100000x10 .f32) (ix3 0 n i) = Model.soft ((kargs m d).l n) i := by
  obtain ⟨w, c, rfl⟩ := exists_pt n
  refine ((congrFun (out_v11 (val4 m d)) _).trans (out_apply_10 _ w i c)).trans ?_
  exact (congrFun (val4_mask m d) _).trans (mask_pt m d hfin w i c)

/-- The first result: the point's flow. -/
theorem v13_apply (n : Fin 100000) (k : Fin 3) :
    (val5 m d (Proc.devRef .tc main_v13) : FVec Ideal S1x100000x3 .f32) (ix3 0 n k) = (kargs m d).flowAt n k := by
  obtain ⟨w, c, rfl⟩ := exists_pt n
  exact ((congrFun (out_v13 (val4 m d)) _).trans (out_apply_3 _ w k c)).trans (flow_pt m d w k c)

/-- The third result: the point's translation. -/
theorem v15_apply (n : Fin 100000) (k : Fin 3) :
    (val5 m d (Proc.devRef .tc main_v15) : FVec Ideal S1x100000x3 .f32) (ix3 0 n k) = (kargs m d).feat n k.castSucc := by
  obtain ⟨w, c, rfl⟩ := exists_pt n
  exact ((congrFun (out_v15 (val4 m d)) _).trans (out_apply_3 _ w k c)).trans (t_pt m d w k c)

/-- The fourth result: the point's yaw. -/
theorem v17_apply (n : Fin 100000) :
    (val5 m d (Proc.devRef .tc main_v17) : FVec Ideal S1x100000x1 .f32) (ix3 0 n 0) = (kargs m d).feat n 3 := by
  obtain ⟨w, c, rfl⟩ := exists_pt n
  exact ((congrFun (out_v17 (val4 m d)) _).trans (out_apply_1 _ w 0 c)).trans (yaw_pt m d w c)

end Cert.KernelIdeal.Prf

end
-- ==== Proof.RefPoint.lean ====
module

public import proofs.«01_k».proof.Proof.RefVals
public import proofs.«01_k».proof.Proof.Model
public import Idealize.ShloMosaic.Lib.Pointwise

@[expose] public section

set_option maxRecDepth 16384

noncomputable section

namespace Cert.ReferenceIdeal.Prf

open Cert.ReferenceIdeal Cert.ReferenceIdeal.Gen
open Idealize.ShloMosaic
open Cert

theorem rMlp_apply (a0 : FVec Ideal S1x100000x3 .f32) (a2 : FVec Ideal S3x128 .f32) (a3 : FVec Ideal S128 .f32)
    (a4 : FVec Ideal S128x128 .f32) (a5 : FVec Ideal S128 .f32) (a6 : FVec Ideal S128x4 .f32) (a7 : FVec Ideal S4 .f32) (n : Fin 100000) (o : Fin 4) :
    rMlp (F := Ideal) a0 a2 a3 a4 a5 a6 a7 (ix3 0 n o) =
      Model.net (fun k => a0 (ix3 0 n k)) (fun k b => a2 (ix2 k b)) (fun b => a3 (ix1 b)) (fun b c => a4 (ix2 b c)) (fun b => a5 (ix1 b))
        (fun b c => a6 (ix2 b c)) (fun b => a7 (ix1 b)) o := by
  pointwise [rMlp]
  rfl

theorem rMask_apply (a : FVec Ideal S1x100000x10 .f32) (n : Fin 100000) (i : Fin 10) :
    rMask (F := Ideal) a (ix3 0 n i) = Model.soft (fun i => a (ix3 0 n i)) i := by
  pointwise [rMask]
  simp only [Model.ninf, bot_sup_eq]
  rfl

theorem rT_apply (y : FVec Ideal S1x100000x4 .f32) (n : Fin 100000) (k : Fin 3) :
    rT (F := Ideal) y (ix3 0 n k) = y (ix3 0 n k.castSucc) := by
  pointwise [rT]
  rfl

theorem rYaw_apply (y : FVec Ideal S1x100000x4 .f32) (n : Fin 100000) :
    rYaw (F := Ideal) y (ix3 0 n 0) = y (ix3 0 n 3) := by
  pointwise [rYaw]

theorem rSin_apply (y : FVec Ideal S1x100000x1 .f32) (n : Fin 100000) :
    rSin (F := Ideal) y (ix1 n) = Model.sinT (y (ix3 0 n 0)) := by
  pointwise [rSin]
  simp only [mul_zero, Finset.sum_const_zero, zero_add, Finset.univ_unique, Finset.sum_singleton]
  rfl

theorem rCos_apply (y : FVec Ideal S1x100000x1 .f32) (n : Fin 100000) :
    rCos (F := Ideal) (rSq y) (rSmall y) (rAng y) r24 (ix1 n) = Model.cosT (y (ix3 0 n 0)) := by
  pointwise [rCos, rSq, rSmall, rAng, r24]
  simp only [mul_zero, Finset.sum_const_zero, zero_add, Finset.univ_unique, Finset.sum_singleton]
  rfl

/-- The skew matrix of a rotation vector. -/
def rK (v31 : FVec Ideal S100000x3 .f32) : FVec Ideal S100000x3x3 .f32 :=
  rSkew (rSlab0 (rRow0 rRow0a (rRow0b v31) (rRow0c v31))) (rSlab1 (rRow1 (rRow1a (rZ v31)) (rRow1b rO) (rRow1c (rX v31))))
    (rSlab2 (rRow2 (rRow2a (rY v31)) (rRow2b (rX v31)) (rRow2c rO)))

theorem rVec_01 (y : FVec Ideal S1x100000x1 .f32) (n : Fin 100000) : rVec (F := Ideal) y (ix2 n 0) = 0 ∧ rVec (F := Ideal) y (ix2 n 1) = 0
    ∧ rVec (F := Ideal) y (ix2 n 2) = y (ix3 0 n 0) := by
  refine ⟨?_, ?_, ?_⟩
  · pointwise [rVec]
  · pointwise [rVec]
  · pointwise [rVec]

theorem rK_0 (v : FVec Ideal S100000x3 .f32) (n : Fin 100000) (j : Fin 3) :
    rK v (ix3 n 0 j) = ![0, - v (ix2 n 2), v (ix2 n 1)] j := by
  fin_cases j
  · pointwise [rK, rSkew, rSlab0, rRow0, rRow0a, rRow0b, rRow0c]
  · pointwise [rK, rSkew, rSlab0, rRow0, rRow0a, rRow0b, rRow0c]
  · pointwise [rK, rSkew, rSlab0, rRow0, rRow0a, rRow0b, rRow0c]

theorem rK_1 (v : FVec Ideal S100000x3 .f32) (n : Fin 100000) (j : Fin 3) :
    rK v (ix3 n 1 j) = ![v (ix2 n 2), 0, - v (ix2 n 0)] j := by
  fin_cases j
  · pointwise [rK, rSkew, rSlab1, rRow1, rRow1a, rRow1b, rRow1c, rX, rZ, rO]
  · pointwise [rK, rSkew, rSlab1, rRow1, rRow1a, rRow1b, rRow1c, rX, rZ, rO]
  · pointwise [rK, rSkew, rSlab1, rRow1, rRow1a, rRow1b, rRow1c, rX, rZ, rO]

theorem rK_2 (v : FVec Ideal S100000x3 .f32) (n : Fin 100000) (j : Fin 3) :
    rK v (ix3 n 2 j) = ![- v (ix2 n 1), v (ix2 n 0), 0] j := by
  fin_cases j
  · pointwise [rK, rSkew, rSlab2, rRow2, rRow2a, rRow2b, rRow2c, rX, rY, rO]
  · pointwise [rK, rSkew, rSlab2, rRow2, rRow2a, rRow2b, rRow2c, rX, rY, rO]
  · pointwise [rK, rSkew, rSlab2, rRow2, rRow2a, rRow2b, rRow2c, rX, rY, rO]

theorem uitofp_one : (FloatOps.uitofp .f32 1#1 : Ideal .f32) = (1 : EReal) := by
  show ((((1#1 : BitVec 1).toNat : ℝ)) : EReal) = 1
  simp
theorem uitofp_zero : (FloatOps.uitofp .f32 0#1 : Ideal .f32) = (0 : EReal) := by
  show ((((0#1 : BitVec 1).toNat : ℝ)) : EReal) = 0
  simp

theorem rRot_apply (k : FVec Ideal S100000x3x3 .f32) (a b : FVec Ideal S100000 .f32) (n : Fin 100000) (i j : Fin 3) :
    rRot (F := Ideal) k a b (ix3 n i j) = (if i = j then 1 else 0) + a (ix1 n) * k (ix3 n i j) + b (ix1 n) * ∑ x, k (ix3 n i x) * k (ix3 n x j) := by
  pointwise [rRot]
  congr 2
  fin_cases i <;> fin_cases j <;> simp [IntOp.cmpi, IntOp.addi, uitofp_one, uitofp_zero]

theorem rFlow_apply (p : FVec Ideal S1x100000x3 .f32) (r : FVec Ideal S100000x3x3 .f32) (c : FVec Ideal S100000x3 .f32)
    (t : FVec Ideal S1x100000x3 .f32) (n : Fin 100000) (k : Fin 3) :
    rFlow (F := Ideal) p r c t (ix3 0 n k)
      = ∑ x, r (ix3 n k x) * (p (ix3 0 n x) - c (ix2 n x)) + c (ix2 n k) + t (ix3 0 n k) - p (ix3 0 n k) := by
  pointwise [rFlow]

theorem rMid_apply (a b : FVec Ideal S10x3 .f32) (i : Fin 10) (k : Fin 3) :
    rMid (F := Ideal) a b (ix2 i k) = (a (ix2 i k) + b (ix2 i k)) * ((1 / 2 : ℝ) : EReal) := by
  pointwise [rMid]
  rw [Model.two, Ideal.div_coe two_ne_zero]

end Cert.ReferenceIdeal.Prf

end
-- ==== Proof.RefClass.lean ====
module

public import proofs.«01_k».proof.Proof.RefVals
public import proofs.«01_k».proof.Proof.Model
public import Idealize.ShloMosaic.Lib.Pointwise
public import Idealize.ShloMosaic.Lib.Routing.Ops

@[expose] public section

set_option maxRecDepth 16384

noncomputable section

namespace Cert.ReferenceIdeal.Prf

open Cert.ReferenceIdeal Cert.ReferenceIdeal.Gen
open Idealize.ShloMosaic
open Cert

theorem select_label {α : Type} (a i : Fin 10) (u v : α) :
    Scalar.select (IntOp.cmpi .eq (BitVec.ofNat 32 a.val) (BitVec.ofNat 32 i.val)) u v = if a = i then u else v := by
  have h : IntOp.cmpi .eq (BitVec.ofNat 32 a.val) (BitVec.ofNat 32 i.val) = if a = i then 1#1 else 0#1 := by
    revert a i; decide
  rw [h]
  split_ifs <;> rfl

theorem rMax_apply (l : IVec S100000 32) (p : FVec Ideal S100000x3 .f32) (cl : Fin 100000 → Fin 10)
    (hl : ∀ n, l (ix1 n) = BitVec.ofNat 32 (cl n).val) (i : Fin 10) (k : Fin 3) :
    rMax (F := Ideal) l p (ix2 i k) = Model.segHi cl (fun n => p (ix2 n k)) i := by
  pointwise [rMax]
  simp only [hl, select_label, Model.ninf]
  rfl

theorem rMin_apply (l : IVec S100000 32) (p : FVec Ideal S1x100000x3 .f32) (cl : Fin 100000 → Fin 10)
    (hl : ∀ n, l (ix1 n) = BitVec.ofNat 32 (cl n).val) (i : Fin 10) (k : Fin 3) :
    rMin (F := Ideal) p l (ix2 i k) = Model.segLo cl (fun n => p (ix3 0 n k)) i := by
  pointwise [rMin]
  simp only [hl, select_label, Model.pinf]
  rfl

theorem rPts_apply (p : FVec Ideal S1x100000x3 .f32) (n : Fin 100000) (k : Fin 3) : rPts (F := Ideal) p (ix2 n k) = p (ix3 0 n k) := by
  pointwise [rPts]

theorem rCen_apply (p : FVec Ideal S10x3 .f32) (l : IVec S100000 32) (c : Fin 10) (n : Fin 100000)
    (hl : l (ix1 n) = BitVec.ofNat 32 c.val) (k : Fin 3) :
    rCen (F := Ideal) p l (ix2 n k) = p (ix2 c k) := by
  have hw : ∀ c : Fin 10, Scalar.select (IntOp.cmpi .slt (BitVec.ofNat 32 c.val) 0#32) (IntOp.addi (BitVec.ofNat 32 c.val) 10#32) (BitVec.ofNat 32 c.val)
      = BitVec.ofNat 32 c.val := by decide
  refine Routing.gather_row gather_S10x3_S100000x1_S100000x3_1_0_n_n_0_1_13 rfl rfl rfl rfl rfl p _ n k c ?_ (by norm_num)
  refine Eq.trans ?_ (hw c)
  rw [← hl]
  have hbr : ∀ v : IVec S100000 32, broadcastInDim S100000x1 ![0] bcast_S100000_S100000x1_0 v (ix2 n 0) = v (ix1 n) := fun v => by pointwise []
  exact hbr _

theorem argmax_step (a b : EReal × BitVec 32) : reducer_argmax_f32_i32 (F := Ideal) a b = if b.1 < a.1 ∨ (a.1 = b.1 ∧ a.2.toInt < b.2.toInt) then a else b := by
  obtain ⟨a1, a2⟩ := a
  obtain ⟨b1, b2⟩ := b
  unfold reducer_argmax_f32_i32
  simp only [Ideal.cmpf_def, Ideal.cmp, IntOp.cmpi, IntOp.ori, IntOp.andi, Scalar.select, ne_eq, not_true_eq_false, decide_false, BitVec.slt]
  by_cases h1 : b1 < a1 <;> by_cases h2 : a1 = b1 <;> by_cases h3 : a2.toInt < b2.toInt <;> simp [h1, h2, h3]

theorem rLab_apply (x : FVec Ideal S1x100000x10 .f32) (n : Fin 100000) (c : Fin 10) (s : Fin 10 → EReal) (hs : ∀ i, x (ix3 0 n i) = s i)
    (hc : ∀ j, s j < s c ∨ (s j = s c ∧ (j = c ∨ c < j))) (hb : ⊥ < s c) :
    rLab (F := Ideal) x (ix1 n) = BitVec.ofNat 32 c.val := by
  have hi : ∀ i : Fin 10, (BitVec.ofNat 32 i.val).toInt = (i.val : ℤ) := by decide
  pointwise [rLab]
  rw [Ideal.argReduce_eq_reduce2, Host.reduce2_eq_foldl_fiber]
  refine (congrArg Prod.snd (Model.foldl_first _ argmax_step (s c, BitVec.ofNat 32 c.val) _ _ ?_ (.inr ⟨.inl ?_, ?_⟩))).trans rfl
  · intro p hp
    unfold Host.argReduceFiber at hp
    obtain ⟨m, hm, rfl⟩ := List.mem_map.mp hp
    have hd := of_decide_eq_true (List.mem_filter.mp hm).2
    generalize S1x100000x10.rowMajor.symm m = i at hd ⊢
    have h1 : (i 1 : ℕ) = n := by
      have := congrArg (fun j : S1x100000.Idx => (j 1 : ℕ)) hd
      rw [← Shape.ReducesTo.drop_apply_val_of_eq reducesTo_S1x100000x10_S1x100000_d2 i 1 1]
      exact this
    idx_vars i
    have e0 : i0 = 0 := Subsingleton.elim _ _
    have e1 : i1 = n := Fin.ext h1
    subst e0 e1
    show (x (ix3 0 i1 i2), BitVec.ofNat 32 i2.val) = _ ∨ x (ix3 0 i1 i2) < s c ∨ x (ix3 0 i1 i2) = s c ∧ (BitVec.ofNat 32 c.val).toInt < (BitVec.ofNat 32 i2.val).toInt
    rw [hs, hi, hi]
    rcases hc i2 with h | ⟨h, h'⟩
    · exact .inr (.inl h)
    · rcases h' with rfl | h'
      · exact .inl rfl
      · exact .inr (.inr ⟨h, by exact_mod_cast h'⟩)
  · show Ideal.ofBits .f32 0xFF800000#32 < s c
    rw [Model.ninf]; exact hb
  · unfold Host.argReduceFiber
    refine List.mem_map.mpr ⟨S1x100000x10.rowMajor (ix3 0 n c), List.mem_filter.mpr ⟨List.mem_finRange _, decide_eq_true ?_⟩, ?_⟩
    · rw [Equiv.symm_apply_apply]
      funext a
      refine Fin.ext ?_
      fin_cases a
      · exact Shape.ReducesTo.drop_apply_val_of_eq reducesTo_S1x100000x10_S1x100000_d2 (ix3 0 n c) 0 0
      · exact Shape.ReducesTo.drop_apply_val_of_eq reducesTo_S1x100000x10_S1x100000_d2 (ix3 0 n c) 1 1
    · rw [Equiv.symm_apply_apply, hs]; rfl

end Cert.ReferenceIdeal.Prf

end
-- ==== Proof.RefValue.lean ====
/-
  The reference's four results at a point, as the mathematics of the problem at the arguments.
-/
module

public import proofs.«01_k».proof.Proof.RefAt
public import proofs.«01_k».proof.Proof.RefPoint
public import proofs.«01_k».proof.Proof.RefClass

@[expose] public section

set_option maxRecDepth 16384

noncomputable section

namespace Cert.ReferenceIdeal.Prf

open Cert.ReferenceIdeal Cert.ReferenceIdeal.Gen
open Idealize.ShloMosaic
open Cert

variable (W : Valuation τ sig (Elt Ideal))

/-- The arguments as a valuation holds them. -/
def argsOf : Model.Args where
  x n k := (W (Proc.devRef .tc main_arg0) : FVec Ideal S1x100000x3 .f32) (ix3 0 n k)
  l n i := (W (Proc.devRef .tc main_arg1) : FVec Ideal S1x100000x10 .f32) (ix3 0 n i)
  w1 k b := (W (Proc.devRef .tc main_arg2) : FVec Ideal S3x128 .f32) (ix2 k b)
  b1 b := (W (Proc.devRef .tc main_arg3) : FVec Ideal S128 .f32) (ix1 b)
  w2 b c := (W (Proc.devRef .tc main_arg4) : FVec Ideal S128x128 .f32) (ix2 b c)
  b2 b := (W (Proc.devRef .tc main_arg5) : FVec Ideal S128 .f32) (ix1 b)
  w3 b o := (W (Proc.devRef .tc main_arg6) : FVec Ideal S128x4 .f32) (ix2 b o)
  b3 o := (W (Proc.devRef .tc main_arg7) : FVec Ideal S4 .f32) (ix1 o)

theorem v15_apply (n : Fin 100000) (o : Fin 4) : at_v15 W (ix3 0 n o) = (argsOf W).feat n o := rMlp_apply _ _ _ _ _ _ _ n o

/-- The second result is the softmax. -/
theorem v26_apply (n : Fin 100000) (i : Fin 10) : at_v26 W (ix3 0 n i) = Model.soft ((argsOf W).l n) i := rMask_apply _ n i

/-- The third is the translation. -/
theorem v27_apply (n : Fin 100000) (k : Fin 3) : at_v27 W (ix3 0 n k) = (argsOf W).feat n k.castSucc := (rT_apply _ n k).trans (v15_apply W n _)

/-- The fourth is the yaw. -/
theorem v28_apply (n : Fin 100000) : at_v28 W (ix3 0 n 0) = (argsOf W).feat n 3 := (rYaw_apply _ n).trans (v15_apply W n _)

/-- The skew matrix's rows. -/
theorem v82_row (n : Fin 100000) (j : Fin 3) :
    at_v82 W (ix3 n 0 j) = ![0, - (argsOf W).feat n 3, 0] j ∧ at_v82 W (ix3 n 1 j) = ![(argsOf W).feat n 3, 0, 0] j
      ∧ at_v82 W (ix3 n 2 j) = 0 := by
  obtain ⟨h0, h1, h2⟩ := rVec_01 (at_v28 W) n
  rw [v28_apply] at h2
  refine ⟨(rK_0 (at_v31 W) n j).trans ?_, (rK_1 (at_v31 W) n j).trans ?_, (rK_2 (at_v31 W) n j).trans ?_⟩ <;>
    (unfold at_v31; fin_cases j <;> simp [h0, h1, h2])

/-- The rotation's rows. -/
theorem v99_row (n : Fin 100000) (j : Fin 3) :
    at_v99 W (ix3 n 0 j) = ![1 - Model.cosT ((argsOf W).feat n 3) * ((argsOf W).feat n 3 * (argsOf W).feat n 3), - (Model.sinT ((argsOf W).feat n 3) * (argsOf W).feat n 3), 0] j
      ∧ at_v99 W (ix3 n 1 j) = ![Model.sinT ((argsOf W).feat n 3) * (argsOf W).feat n 3, 1 - Model.cosT ((argsOf W).feat n 3) * ((argsOf W).feat n 3 * (argsOf W).feat n 3), 0] j
      ∧ at_v99 W (ix3 n 2 j) = ![0, 0, 1] j := by
  have hs : at_v46 W (ix1 n) = Model.sinT ((argsOf W).feat n 3) := (rSin_apply _ n).trans (by rw [v28_apply])
  have hc : at_v56 W (ix1 n) = Model.cosT ((argsOf W).feat n 3) := (rCos_apply _ n).trans (by rw [v28_apply])
  have r0 := fun j => (v82_row W n j).1
  have r1 := fun j => (v82_row W n j).2.1
  have r2 := fun j => (v82_row W n j).2.2
  unfold at_v99
  simp only [rRot_apply, Fin.sum_univ_three, hs, hc, r0, r1, r2]
  refine ⟨?_, ?_, ?_⟩ <;> fin_cases j <;> simp [sub_eq_add_neg]

variable (hfin : ∀ n, Model.Fin' ((argsOf W).l n))

include hfin in
theorem v101_apply (n : Fin 100000) : at_v101 W (ix1 n) = BitVec.ofNat 32 ((argsOf W).cl n).val :=
  rLab_apply _ n _ (Model.soft ((argsOf W).l n)) (v26_apply W n) (Model.soft_cls (hfin n)) (Model.soft_ne_bot (hfin n) _)

include hfin in
theorem v133_apply (n : Fin 100000) (k : Fin 3) : at_v133 W (ix2 n k) = (argsOf W).centre n k := by
  refine (rCen_apply _ _ _ n (v101_apply W hfin n) k).trans ((rMid_apply _ _ _ k).trans ?_)
  unfold Model.Args.centre Model.mid
  refine congrArg₂ (fun a b : EReal => (a + b) * ((1 / 2 : ℝ) : EReal)) ?_ ?_
  · refine (rMax_apply _ _ _ (v101_apply W hfin) _ k).trans ?_
    exact congrArg (fun p => Model.segHi (argsOf W).cl p ((argsOf W).cl n)) (funext fun j => rPts_apply _ j k)
  · exact rMin_apply _ _ _ (v101_apply W hfin) _ k

include hfin in
/-- The first result is the flow. -/
theorem v142_apply (n : Fin 100000) (k : Fin 3) : at_v142 W (ix3 0 n k) = (argsOf W).flowAt n k := by
  have r0 := fun j => (v99_row W n j).1
  have r1 := fun j => (v99_row W n j).2.1
  have r2 := fun j => (v99_row W n j).2.2
  have hx : ∀ k, (W (Proc.devRef .tc main_arg0) : FVec Ideal S1x100000x3 .f32) (ix3 0 n k) = (argsOf W).x n k := fun _ => rfl
  refine (rFlow_apply _ _ _ _ n k).trans ?_
  rw [Fin.sum_univ_three, v133_apply W hfin, v133_apply W hfin, v133_apply W hfin, v133_apply W hfin, v27_apply, hx, hx, hx, hx]
  unfold Model.Args.flowAt Model.flow
  fin_cases k
  · rw [show (⟨0, _⟩ : Fin 3) = 0 from rfl, r0, r0, r0]
    simp [sub_eq_add_neg]
  · rw [show (⟨1, _⟩ : Fin 3) = 1 from rfl, r1, r1, r1]
    simp [sub_eq_add_neg]
  · rw [show (⟨2, _⟩ : Fin 3) = 2 from rfl, r2, r2, r2]
    simp [sub_eq_add_neg]

end Cert.ReferenceIdeal.Prf

end
-- ==== Proof.Value.lean ====
/-
  The kernel and the reference, at the ideal instance, end with the same four results when the mask's logits are finite.
-/
module

public import proofs.«01_k».proof.Defs
public import proofs.«01_k».proof.Proof.KerAt
public import proofs.«01_k».proof.Proof.RefValue
public import proofs.«01_k».proof.Proof.RefFrame
public import Idealize.ShloMosaic.Lib.ReduceAll

@[expose] public section

set_option maxRecDepth 16384

noncomputable section

namespace Cert

open Idealize.ShloMosaic Idealize.ShloMosaic.TcCoe Idealize.SL.Sem

/-- The side conditions of the precondition's operations. -/
instance preFiniteFacts : Pre_finite.Facts where
  bcast_S_S1x100000x10 := by decide
  reducesTo_S1x100000x10_S_d0_1_2 := by decide
  h_S_ := by decide

/-- The precondition says that every logit is a real number. -/
theorem finite_of (m : (ℓ : Loc KernelIdeal.nD KernelIdeal.τ KernelIdeal.sig) → Buf (Elt Ideal) ℓ) (h : Pre_KernelIdeal_finite m) (d : Dev KernelIdeal.nD)
    (n : Fin 100000) : Model.Fin' ((KernelIdeal.Prf.kargs m d).l n) := by
  intro i
  have hd := congrFun (h d) ix0
  unfold Pre_finite.fn at hd
  simp only at hd
  haveI : Subsingleton Pre_finite.S_.Idx := ⟨fun a b => funext fun k => k.elim0⟩
  have he := Host.reduce_andi_all _ _ _ _ _ hd (ix3 0 n i)
  have hl : FloatOps.cmpf (F := Ideal) (φ := .f32) .olt (FloatOps.hostAbsf (F := Ideal) (φ := .f32) ((KernelIdeal.Prf.kargs m d).l n i))
      (Ideal.ofBits .f32 0x7F800000#32) = 1#1 := he
  rw [Model.pinf] at hl
  constructor <;> intro e <;> rw [e] at hl <;> revert hl
  · show ¬ (BitVec.ofBool (decide (max (⊥ : EReal) (-⊥) < ⊤)) = 1#1)
    simp
  · show ¬ (BitVec.ofBool (decide (max (⊤ : EReal) (-⊤) < ⊤)) = 1#1)
    simp

/-- Memories that agree on the arguments hold the same arguments. -/
theorem args_eq (m : (ℓ : Loc KernelIdeal.nD KernelIdeal.τ KernelIdeal.sig) → Buf (Elt Ideal) ℓ)
    (m' : (ℓ : Loc ReferenceIdeal.nD ReferenceIdeal.τ ReferenceIdeal.sig) → Buf (Elt Ideal) ℓ) (c : Dev KernelIdeal.nD)
    (h : m' ((c.tc : Thread ReferenceIdeal.nD ReferenceIdeal.τ).loc ReferenceIdeal.main_arg0) = m ((c.tc : Thread KernelIdeal.nD KernelIdeal.τ).loc KernelIdeal.main_arg0)
      ∧ m' ((c.tc : Thread ReferenceIdeal.nD ReferenceIdeal.τ).loc ReferenceIdeal.main_arg1) = m ((c.tc : Thread KernelIdeal.nD KernelIdeal.τ).loc KernelIdeal.main_arg1)
      ∧ m' ((c.tc : Thread ReferenceIdeal.nD ReferenceIdeal.τ).loc ReferenceIdeal.main_arg2) = m ((c.tc : Thread KernelIdeal.nD KernelIdeal.τ).loc KernelIdeal.main_arg2)
      ∧ m' ((c.tc : Thread ReferenceIdeal.nD ReferenceIdeal.τ).loc ReferenceIdeal.main_arg3) = m ((c.tc : Thread KernelIdeal.nD KernelIdeal.τ).loc KernelIdeal.main_arg3)
      ∧ m' ((c.tc : Thread ReferenceIdeal.nD ReferenceIdeal.τ).loc ReferenceIdeal.main_arg4) = m ((c.tc : Thread KernelIdeal.nD KernelIdeal.τ).loc KernelIdeal.main_arg4)
      ∧ m' ((c.tc : Thread ReferenceIdeal.nD ReferenceIdeal.τ).loc ReferenceIdeal.main_arg5) = m ((c.tc : Thread KernelIdeal.nD KernelIdeal.τ).loc KernelIdeal.main_arg5)
      ∧ m' ((c.tc : Thread ReferenceIdeal.nD ReferenceIdeal.τ).loc ReferenceIdeal.main_arg6) = m ((c.tc : Thread KernelIdeal.nD KernelIdeal.τ).loc KernelIdeal.main_arg6)
      ∧ m' ((c.tc : Thread ReferenceIdeal.nD ReferenceIdeal.τ).loc ReferenceIdeal.main_arg7) = m ((c.tc : Thread KernelIdeal.nD KernelIdeal.τ).loc KernelIdeal.main_arg7)) :
    ReferenceIdeal.Prf.argsOf (StableHlo.launchContents m' c) = KernelIdeal.Prf.kargs m c := by
  obtain ⟨h0, h1, h2, h3, h4, h5, h6, h7⟩ := h
  have ext : ∀ a b : Model.Args, a.x = b.x → a.l = b.l → a.w1 = b.w1 → a.b1 = b.b1 → a.w2 = b.w2 → a.b2 = b.b2 → a.w3 = b.w3 → a.b3 = b.b3 → a = b := by
    rintro ⟨⟩ ⟨⟩ h0 h1 h2 h3 h4 h5 h6 h7
    cases h0; cases h1; cases h2; cases h3; cases h4; cases h5; cases h6; cases h7; rfl
  refine ext _ _ ?_ ?_ ?_ ?_ ?_ ?_ ?_ ?_
  · funext n k; exact congrFun h0 (ix3 0 n k)
  · funext n k; exact congrFun h1 (ix3 0 n k)
  · funext n k; exact congrFun h2 (ix2 n k)
  · funext n; exact congrFun h3 (ix1 n)
  · funext n k; exact congrFun h4 (ix2 n k)
  · funext n; exact congrFun h5 (ix1 n)
  · funext n k; exact congrFun h6 (ix2 n k)
  · funext n; exact congrFun h7 (ix1 n)

/-- Arrays with one leading row are equal when their rows are. -/
theorem ext_row {n k : ℕ} {f g : (⟨3, ![1, n, k]⟩ : Shape).Idx → Ideal .f32} (h : ∀ a b, f (ix3 0 a b) = g (ix3 0 a b)) : f = g := by
  funext y
  have e : y = ix3 (0 : Fin 1) (y 1) (y 2) := funext fun | 0 => Subsingleton.elim (α := Fin 1) _ _ | 1 => rfl | 2 => rfl
  rw [e]
  exact h _ _

section
variable (m : (ℓ : Loc KernelIdeal.nD KernelIdeal.τ KernelIdeal.sig) → Buf (Elt Ideal) ℓ) (c : Dev KernelIdeal.nD) (W : Valuation ReferenceIdeal.τ ReferenceIdeal.sig (Elt Ideal))
  (ha : ReferenceIdeal.Prf.argsOf W = KernelIdeal.Prf.kargs m c) (hf : ∀ n, Model.Fin' ((KernelIdeal.Prf.kargs m c).l n))
include ha hf

/-- The flows are equal. -/
theorem flow_eq : (ReferenceIdeal.Prf.at_v142 W : FVec Ideal ReferenceIdeal.S1x100000x3 .f32) = (KernelIdeal.Prf.val5 m c (Proc.devRef .tc KernelIdeal.main_v13) : FVec Ideal KernelIdeal.S1x100000x3 .f32) :=
  ext_row fun n k => by
    rw [KernelIdeal.Prf.v13_apply m c n k, ← ha]
    rw [← ha] at hf
    exact ReferenceIdeal.Prf.v142_apply W hf n k

/-- The masks are equal. -/
theorem mask_eq : (ReferenceIdeal.Prf.at_v26 W : FVec Ideal ReferenceIdeal.S1x100000x10 .f32) = (KernelIdeal.Prf.val5 m c (Proc.devRef .tc KernelIdeal.main_v11) : FVec Ideal KernelIdeal.S1x100000x10 .f32) :=
  ext_row fun n i => by
    rw [KernelIdeal.Prf.v11_apply m c hf n i, ← ha]
    exact ReferenceIdeal.Prf.v26_apply W n i

omit hf in
/-- The translations are equal. -/
theorem t_eq : (ReferenceIdeal.Prf.at_v27 W : FVec Ideal ReferenceIdeal.S1x100000x3 .f32) = (KernelIdeal.Prf.val5 m c (Proc.devRef .tc KernelIdeal.main_v15) : FVec Ideal KernelIdeal.S1x100000x3 .f32) :=
  ext_row fun n k => by
    rw [KernelIdeal.Prf.v15_apply m c n k, ← ha]
    exact ReferenceIdeal.Prf.v27_apply W n k

omit hf in
/-- The yaws are equal. -/
theorem yaw_eq : (ReferenceIdeal.Prf.at_v28 W : FVec Ideal ReferenceIdeal.S1x100000x1 .f32) = (KernelIdeal.Prf.val5 m c (Proc.devRef .tc KernelIdeal.main_v17) : FVec Ideal KernelIdeal.S1x100000x1 .f32) :=
  ext_row fun n k => by
    obtain rfl : k = 0 := Subsingleton.elim _ _
    rw [KernelIdeal.Prf.v17_apply m c n, ← ha]
    exact ReferenceIdeal.Prf.v28_apply W n

end

/-- From memories that agree on the arguments, with finite logits, the kernel and the reference both run, keep their
    arguments and end with equal flow, mask, translation and yaw. -/
theorem algebraic : algebraic_KernelIdeal_ReferenceIdeal_pre_finite (hKernelIdeal := Cert.KernelIdeal.Gen.facts)
    (hReferenceIdeal := Cert.ReferenceIdeal.Gen.facts) (hPre_finite := preFiniteFacts) := by
  intro m g m' g' hpre hagree
  have hf := finite_of m hpre
  refine ⟨fun c => KernelIdeal.Prf.val5 m c (Proc.devRef .tc KernelIdeal.main_v13), fun c => KernelIdeal.Prf.val5 m c (Proc.devRef .tc KernelIdeal.main_v11),
    fun c => KernelIdeal.Prf.val5 m c (Proc.devRef .tc KernelIdeal.main_v15), fun c => KernelIdeal.Prf.val5 m c (Proc.devRef .tc KernelIdeal.main_v17), ?_, ?_⟩
  · refine θ_run_mono (KernelIdeal.Prf.run_main (F := Ideal) m g) ?_
    rintro r ⟨h, -⟩ c
    have key : ∀ a : Ref KernelIdeal.sig .tc, Proc.devRef (τ := KernelIdeal.τ) .tc a ∈ KernelIdeal.Prf.ucRefs → a ∉ KernelIdeal.Prf.wroteIn → a ∉ KernelIdeal.Prf.wroteOut →
        a ≠ KernelIdeal.main_v7_0 → a ≠ KernelIdeal.main_v7_1 → a ≠ KernelIdeal.main_v8_0 → a ≠ KernelIdeal.main_v8_1 → a ≠ KernelIdeal.main_v9_0 → a ≠ KernelIdeal.main_v9_1 →
        a ≠ KernelIdeal.main_v9_2 → r.2.mem (c, Proc.devRef .tc a) = m (c, Proc.devRef .tc a) :=
      fun a hu hi ho h1 h2 h3 h4 h5 h6 h7 => (h c _ hu).trans (KernelIdeal.Prf.val5_kept m c hi ho h1 h2 h3 h4 h5 h6 h7)
    refine ⟨h c (Proc.devRef .tc KernelIdeal.main_v13) (by decide), h c (Proc.devRef .tc KernelIdeal.main_v11) (by decide), h c (Proc.devRef .tc KernelIdeal.main_v15) (by decide), h c (Proc.devRef .tc KernelIdeal.main_v17) (by decide), key KernelIdeal.main_arg0 ?_ ?_ ?_ ?_ ?_ ?_ ?_ ?_ ?_ ?_,
      key KernelIdeal.main_arg1 ?_ ?_ ?_ ?_ ?_ ?_ ?_ ?_ ?_ ?_, key KernelIdeal.main_arg2 ?_ ?_ ?_ ?_ ?_ ?_ ?_ ?_ ?_ ?_,
      key KernelIdeal.main_arg3 ?_ ?_ ?_ ?_ ?_ ?_ ?_ ?_ ?_ ?_, key KernelIdeal.main_arg4 ?_ ?_ ?_ ?_ ?_ ?_ ?_ ?_ ?_ ?_,
      key KernelIdeal.main_arg5 ?_ ?_ ?_ ?_ ?_ ?_ ?_ ?_ ?_ ?_, key KernelIdeal.main_arg6 ?_ ?_ ?_ ?_ ?_ ?_ ?_ ?_ ?_ ?_,
      key KernelIdeal.main_arg7 ?_ ?_ ?_ ?_ ?_ ?_ ?_ ?_ ?_ ?_⟩ <;> decide
  · refine θ_run_mono (ReferenceIdeal.Prf.run (F := Ideal) m' g') ?_
    rintro r ⟨h, -⟩ c
    have ha := args_eq m m' c (hagree c)
    refine ⟨((h c _).trans (ReferenceIdeal.Prf.ops_v142 _)).trans (flow_eq m c _ ha (hf c)), ((h c _).trans (ReferenceIdeal.Prf.ops_v26 _)).trans (mask_eq m c _ ha (hf c)),
      ((h c _).trans (ReferenceIdeal.Prf.ops_v27 _)).trans (t_eq m c _ ha), ((h c _).trans (ReferenceIdeal.Prf.ops_v28 _)).trans (yaw_eq m c _ ha), (h c _).trans (ReferenceIdeal.Prf.ops_arg0 _), (h c _).trans (ReferenceIdeal.Prf.ops_arg1 _), (h c _).trans (ReferenceIdeal.Prf.ops_arg2 _),
      (h c _).trans (ReferenceIdeal.Prf.ops_arg3 _), (h c _).trans (ReferenceIdeal.Prf.ops_arg4 _), (h c _).trans (ReferenceIdeal.Prf.ops_arg5 _),
      (h c _).trans (ReferenceIdeal.Prf.ops_arg6 _), (h c _).trans (ReferenceIdeal.Prf.ops_arg7 _)⟩

end Cert

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Frame
public import proofs.«01_k».proof.Proof.Bits.Frame
public import proofs.«01_k».proof.Proof.RefFrame
public import proofs.«01_k».proof.Proof.Value
public import Idealize.ShloMosaic.Adequacy
public import Idealize.ShloMosaic.Init

@[expose] public section

noncomputable section

namespace Cert.Proof

open Idealize.ShloMosaic Idealize.SL.Sem Cert.Kernel

/-- Both named constants read as the extended reals they are declared to be. -/
theorem preserves : Cert.preserves_Kernel_KernelIdeal :=
  ⟨IdealRules.named_const.statement _ _ _ _ _ rfl, IdealRules.named_const.statement _ _ _ _ _ rfl⟩

/-- The claims. -/
theorem claim : Cert.Claim :=
  ⟨Cert.Kernel.Gen.facts, Cert.KernelIdeal.Gen.facts, Cert.ReferenceIdeal.Gen.facts, Cert.preFiniteFacts,
    fun m g _ => Cert.Kernel.Prf.run_frame (F := Bits) m g,
    fun m g _ => Cert.KernelIdeal.Prf.run_frame (F := Ideal) m g,
    fun m g _ => Cert.KernelIdeal.Prf.run_frame (F := Ideal) m g,
    fun m g _ => Cert.ReferenceIdeal.Prf.run_frame (F := Ideal) m g,
    fun m g _ => Cert.ReferenceIdeal.Prf.run_frame (F := Ideal) m g,
    preserves, Cert.algebraic⟩

end Cert.Proof

end
